-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ninth_is_untied [hPre_ninth_is_untied : Cert.Pre_ninth_is_untied.Facts] (m : (ℓ : Loc Cert.KernelIdeal.nD Cert.KernelIdeal.τ Cert.KernelIdeal.sig) → Buf (Elt Ideal) ℓ) : Prop :=
  ∀ c : Dev Cert.KernelIdeal.nD,
    (Cert.Pre_ninth_is_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ninth_is_untied [hPre_ninth_is_untied : Cert.Pre_ninth_is_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ninth_is_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ninth_is_untied [hKernelIdeal : Cert.KernelIdeal.Facts] [hPre_ninth_is_untied : Cert.Pre_ninth_is_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ninth_is_untied m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ninth_is_untied [hReferenceIdeal : Cert.ReferenceIdeal.Facts] [hPre_ninth_is_untied : Cert.Pre_ninth_is_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ninth_is_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ninth_is_untied [hKernelIdeal : Cert.KernelIdeal.Facts] [hReferenceIdeal : Cert.ReferenceIdeal.Facts] [hPre_ninth_is_untied : Cert.Pre_ninth_is_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ninth_is_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ninth_is_untied : Cert.Pre_ninth_is_untied.Facts),
    quiescent_Kernel (hKernel := hKernel)
    ∧ quiescent_KernelIdeal (hKernelIdeal := hKernelIdeal)
    ∧ quiescent_KernelIdeal_pre_ninth_is_untied (hKernelIdeal := hKernelIdeal) (hPre_ninth_is_untied := hPre_ninth_is_untied)
    ∧ quiescent_ReferenceIdeal (hReferenceIdeal := hReferenceIdeal)
    ∧ quiescent_ReferenceIdeal_pre_ninth_is_untied (hReferenceIdeal := hReferenceIdeal) (hPre_ninth_is_untied := hPre_ninth_is_untied)
    ∧ preserves_Kernel_KernelIdeal
    ∧ algebraic_KernelIdeal_ReferenceIdeal_pre_ninth_is_untied (hKernelIdeal := hKernelIdeal) (hReferenceIdeal := hReferenceIdeal) (hPre_ninth_is_untied := hPre_ninth_is_untied)
-- ==== Pre_ninth_is_untied.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S200x1 : Shape := ⟨2, ![200, 1]⟩
abbrev S_ : Shape := ⟨0, ![]⟩
abbrev S200x2 : Shape := ⟨2, ![200, 2]⟩
abbrev S1x200x2 : Shape := ⟨3, ![1, 200, 2]⟩
abbrev S4096x1x2 : Shape := ⟨3, ![4096, 1, 2]⟩
abbrev S4096x200x2 : Shape := ⟨3, ![4096, 200, 2]⟩
abbrev S4096x200x1 : Shape := ⟨3, ![4096, 200, 1]⟩
abbrev S4096x200 : Shape := ⟨2, ![4096, 200]⟩
abbrev S1024x1x2 : Shape := ⟨3, ![1024, 1, 2]⟩
abbrev S1024x200x2 : Shape := ⟨3, ![1024, 200, 2]⟩
abbrev S1024x200x1 : Shape := ⟨3, ![1024, 200, 1]⟩
abbrev S1024x200 : Shape := ⟨2, ![1024, 200]⟩
abbrev S256x1x2 : Shape := ⟨3, ![256, 1, 2]⟩
abbrev S256x200x2 : Shape := ⟨3, ![256, 200, 2]⟩
abbrev S256x200x1 : Shape := ⟨3, ![256, 200, 1]⟩
abbrev S256x200 : Shape := ⟨2, ![256, 200]⟩
abbrev S64x1x2 : Shape := ⟨3, ![64, 1, 2]⟩
abbrev S64x200x2 : Shape := ⟨3, ![64, 200, 2]⟩
abbrev S64x200x1 : Shape := ⟨3, ![64, 200, 1]⟩
abbrev S64x200 : Shape := ⟨2, ![64, 200]⟩
abbrev S16x1x2 : Shape := ⟨3, ![16, 1, 2]⟩
abbrev S16x200x2 : Shape := ⟨3, ![16, 200, 2]⟩
abbrev S16x200x1 : Shape := ⟨3, ![16, 200, 1]⟩
abbrev S16x200 : Shape := ⟨2, ![16, 200]⟩
abbrev S200x5456 : Shape := ⟨2, ![200, 5456]⟩
abbrev S200x9 : Shape := ⟨2, ![200, 9]⟩

class Facts : Prop where
  slices_S200x4_S200x1_0_0 : S200x4.Slices ![0, 0] S200x1
  shapeCasts_S200x1_S200 : S200x1.ShapeCasts S200
  slices_S200x4_S200x1_0_2 : S200x4.Slices ![0, 2] S200x1
  bcast_S_S200 : S_.BroadcastsInDim S200 (![] : Fin 0 → Fin S200.rank)
  slices_S200x4_S200x1_0_1 : S200x4.Slices ![0, 1] S200x1
  slices_S200x4_S200x1_0_3 : S200x4.Slices ![0, 3] S200x1
  bcast_S200_S200x1_0 : S200.BroadcastsInDim S200x1 (![0] : Fin 1 → Fin S200x1.rank)
  concatenates_S200x1_S200x1_S200x2_d1 : Shape.Concatenates [S200x1, S200x1] S200x2 1
  bcast_S200x2_S1x200x2_1_2 : S200x2.BroadcastsInDim S1x200x2 (![1, 2] : Fin 2 → Fin S1x200x2.rank)
  bcast_S4096x2_S4096x1x2_0_2 : S4096x2.BroadcastsInDim S4096x1x2 (![0, 2] : Fin 2 → Fin S4096x1x2.rank)
  bcast_S4096x1x2_S4096x200x2_0_1_2 : S4096x1x2.BroadcastsInDim S4096x200x2 (![0, 1, 2] : Fin 3 → Fin S4096x200x2.rank)
  bcast_S1x200x2_S4096x200x2_0_1_2 : S1x200x2.BroadcastsInDim S4096x200x2 (![0, 1, 2] : Fin 3 → Fin S4096x200x2.rank)
  bcast_S_S4096x200x2 : S_.BroadcastsInDim S4096x200x2 (![] : Fin 0 → Fin S4096x200x2.rank)
  bcast_S_S1x200x2 : S_.BroadcastsInDim S1x200x2 (![] : Fin 0 → Fin S1x200x2.rank)
  slices_S4096x200x2_S4096x200x1_0_0_0 : S4096x200x2.Slices ![0, 0, 0] S4096x200x1
  shapeCasts_S4096x200x1_S4096x200 : S4096x200x1.ShapeCasts S4096x200
  slices_S4096x200x2_S4096x200x1_0_0_1 : S4096x200x2.Slices ![0, 0, 1] S4096x200x1
  bcast_S1024x2_S1024x1x2_0_2 : S1024x2.BroadcastsInDim S1024x1x2 (![0, 2] : Fin 2 → Fin S1024x1x2.rank)
  bcast_S1024x1x2_S1024x200x2_0_1_2 : S1024x1x2.BroadcastsInDim S1024x200x2 (![0, 1, 2] : Fin 3 → Fin S1024x200x2.rank)
  bcast_S1x200x2_S1024x200x2_0_1_2 : S1x200x2.BroadcastsInDim S1024x200x2 (![0, 1, 2] : Fin 3 → Fin S1024x200x2.rank)
  bcast_S_S1024x200x2 : S_.BroadcastsInDim S1024x200x2 (![] : Fin 0 → Fin S1024x200x2.rank)
  slices_S1024x200x2_S1024x200x1_0_0_0 : S1024x200x2.Slices ![0, 0, 0] S1024x200x1
  shapeCasts_S1024x200x1_S1024x200 : S1024x200x1.ShapeCasts S1024x200
  slices_S1024x200x2_S1024x200x1_0_0_1 : S1024x200x2.Slices ![0, 0, 1] S1024x200x1
  bcast_S256x2_S256x1x2_0_2 : S256x2.BroadcastsInDim S256x1x2 (![0, 2] : Fin 2 → Fin S256x1x2.rank)
  bcast_S256x1x2_S256x200x2_0_1_2 : S256x1x2.BroadcastsInDim S256x200x2 (![0, 1, 2] : Fin 3 → Fin S256x200x2.rank)
  bcast_S1x200x2_S256x200x2_0_1_2 : S1x200x2.BroadcastsInDim S256x200x2 (![0, 1, 2] : Fin 3 → Fin S256x200x2.rank)
  bcast_S_S256x200x2 : S_.BroadcastsInDim S256x200x2 (![] : Fin 0 → Fin S256x200x2.rank)
  slices_S256x200x2_S256x200x1_0_0_0 : S256x200x2.Slices ![0, 0, 0] S256x200x1
  shapeCasts_S256x200x1_S256x200 : S256x200x1.ShapeCasts S256x200
  slices_S256x200x2_S256x200x1_0_0_1 : S256x200x2.Slices ![0, 0, 1] S256x200x1
  bcast_S64x2_S64x1x2_0_2 : S64x2.BroadcastsInDim S64x1x2 (![0, 2] : Fin 2 → Fin S64x1x2.rank)
  bcast_S64x1x2_S64x200x2_0_1_2 : S64x1x2.BroadcastsInDim S64x200x2 (![0, 1, 2] : Fin 3 → Fin S64x200x2.rank)
  bcast_S1x200x2_S64x200x2_0_1_2 : S1x200x2.BroadcastsInDim S64x200x2 (![0, 1, 2] : Fin 3 → Fin S64x200x2.rank)
  bcast_S_S64x200x2 : S_.BroadcastsInDim S64x200x2 (![] : Fin 0 → Fin S64x200x2.rank)
  slices_S64x200x2_S64x200x1_0_0_0 : S64x200x2.Slices ![0, 0, 0] S64x200x1
  shapeCasts_S64x200x1_S64x200 : S64x200x1.ShapeCasts S64x200
  slices_S64x200x2_S64x200x1_0_0_1 : S64x200x2.Slices ![0, 0, 1] S64x200x1
  bcast_S16x2_S16x1x2_0_2 : S16x2.BroadcastsInDim S16x1x2 (![0, 2] : Fin 2 → Fin S16x1x2.rank)
  bcast_S16x1x2_S16x200x2_0_1_2 : S16x1x2.BroadcastsInDim S16x200x2 (![0, 1, 2] : Fin 3 → Fin S16x200x2.rank)
  bcast_S1x200x2_S16x200x2_0_1_2 : S1x200x2.BroadcastsInDim S16x200x2 (![0, 1, 2] : Fin 3 → Fin S16x200x2.rank)
  bcast_S_S16x200x2 : S_.BroadcastsInDim S16x200x2 (![] : Fin 0 → Fin S16x200x2.rank)
  slices_S16x200x2_S16x200x1_0_0_0 : S16x200x2.Slices ![0, 0, 0] S16x200x1
  shapeCasts_S16x200x1_S16x200 : S16x200x1.ShapeCasts S16x200
  slices_S16x200x2_S16x200x1_0_0_1 : S16x200x2.Slices ![0, 0, 1] S16x200x1
  concatenates_S4096x200_S1024x200_S256x200_S64x200_S16x200_S5456x200_d0 : Shape.Concatenates [S4096x200, S1024x200, S256x200, S64x200, S16x200] S5456x200 0
  transposes_S5456x200_S200x5456_1_0 : S5456x200.Transposes [1, 0] S200x5456
  sliceFits_S200x5456_S200x9 : S200x5456.Slices (fun _ => 0) S200x9
  slices_S200x9_S200x1_0_8 : S200x9.Slices ![0, 8] S200x1
  bcast_S200x1_S200x5456_0_1 : S200x1.BroadcastsInDim S200x5456 (![0, 1] : Fin 2 → Fin S200x5456.rank)
  natLt_1_32 : 1 < 32
  reducesTo_S200x5456_S200_d1 : S200x5456.ReducesTo [1] S200
  h_S_ : 0 < S_.numel
  reducesTo_S5456x200_S200_d0 : S5456x200.ReducesTo [0] S200
  slices_S200x2_S200x1_0_0 : S200x2.Slices ![0, 0] S200x1
  slices_S200x2_S200x1_0_1 : S200x2.Slices ![0, 1] S200x1
  gather_S80x2_S200x1_S200x2_1_0_n_n_0_1_12_wf : GatherDims.WF S80x2 S200x1 S200x2 [1] [0] [] [0] [] 1 ![1, 2]

variable [Facts]

def gather_S80x2_S200x1_S200x2_1_0_n_n_0_1_12 : GatherDims S80x2 S200x1 S200x2 where
  offsetDims := [1]
  collapsedSliceDims := [0]
  operandBatchingDims := []
  startIndicesBatchingDims := []
  startIndexMap := [0]
  indexVectorDim := 1
  sliceSizes := ![1, 2]
  wf := gather_S80x2_S200x1_S200x2_1_0_n_n_0_1_12_wf
def fn_part8 {F : FTy → Type} [FloatOps F] (main_arg8 : IVec S200 32) (main_v164 : IVec S200 1) (main_v166 : FVec F S200 .f32) : IVec S200 1 :=
  let main_cst_21 : FVec F S_ .f32 := constant S_ .f32 0x00000000#32
  let main_v167 : FVec F S200 .f32 := broadcastInDim S200 ![] bcast_S_S200 main_cst_21
  let main_v168 : IVec S200 1 := cmpf .une main_v166 main_v167
  let main_v169 : IVec S200 1 := andi main_v164 main_v168
  let main_c_22 : IVec S_ 32 := constantI S_ 32 0#32
  let main_v170 : IVec S200 32 := broadcastInDim S200 ![] bcast_S_S200 main_c_22
  let main_v171 : IVec S200 1 := cmpi .sge main_arg8 main_v170
  let main_v172 : IVec S200 1 := andi main_v169 main_v171
  let main_c_23 : IVec S_ 32 := constantI S_ 32 80#32
  let main_v173 : IVec S200 32 := broadcastInDim S200 ![] bcast_S_S200 main_c_23
  let main_v174 : IVec S200 1 := cmpi .slt main_arg8 main_v173
  let main_v175 : IVec S200 1 := andi main_v172 main_v174
  main_v175

def fn_part7 {F : FTy → Type} [FloatOps F] (main_arg7 : FVec F S80x2 .f32) (main_arg8 : IVec S200 32) (main_v145 : IVec S200 32) (main_v147 : IVec S200 32) : IVec S200 1 :=
  let main_c_16 : IVec S_ 32 := constantI S_ 32 0#32
  let main_v148 : IVec S200 32 := broadcastInDim S200 ![] bcast_S_S200 main_c_16
  let main_v149 : IVec S200 1 := cmpi .slt main_arg8 main_v148
  let main_c_17 : IVec S_ 32 := constantI S_ 32 80#32
  let main_v150 : IVec S200 32 := broadcastInDim S200 ![] bcast_S_S200 main_c_17
  let main_v151 : IVec S200 32 := addi main_arg8 main_v150
  let main_v152 : IVec S200 32 := select main_v149 main_v151 main_arg8
  let main_v153 : IVec S200x1 32 := broadcastInDim S200x1 ![0] bcast_S200_S200x1_0 main_v152
  let main_v154 : FVec F S200x2 .f32 := (fun x i => Host.gather gather_S80x2_S200x1_S200x2_1_0_n_n_0_1_12 x i) main_arg7 main_v153
  let main_c_18 : IVec S_ 32 := constantI S_ 32 9#32
  let main_v155 : IVec S200 32 := broadcastInDim S200 ![] bcast_S_S200 main_c_18
  let main_v156 : IVec S200 1 := cmpi .sle main_v145 main_v155
  let main_c_19 : IVec S_ 32 := constantI S_ 32 0#32
  let main_v157 : IVec S200 32 := broadcastInDim S200 ![] bcast_S_S200 main_c_19
  let main_v158 : IVec S200 1 := cmpi .ne main_v147 main_v157
  let main_v159 : IVec S200 1 := ori main_v156 main_v158
  let main_v160 : FVec F S200x1 .f32 := (extractStridedSlice S200x1 ![0, 0] · slices_S200x2_S200x1_0_0) main_v154
  let main_v161 : FVec F S200 .f32 := shapeCast S200 main_v160 shapeCasts_S200x1_S200
  let main_cst_20 : FVec F S_ .f32 := constant S_ .f32 0x00000000#32
  let main_v162 : FVec F S200 .f32 := broadcastInDim S200 ![] bcast_S_S200 main_cst_20
  let main_v163 : IVec S200 1 := cmpf .une main_v161 main_v162
  let main_v164 : IVec S200 1 := andi main_v159 main_v163
  let main_v165 : FVec F S200x1 .f32 := (extractStridedSlice S200x1 ![0, 1] · slices_S200x2_S200x1_0_1) main_v154
  let main_v166 : FVec F S200 .f32 := shapeCast S200 main_v165 shapeCasts_S200x1_S200
  fn_part8 (F := F) main_arg8 main_v164 main_v166

def fn_part6 {F : FTy → Type} [FloatOps F] (main_arg7 : FVec F S80x2 .f32) (main_arg8 : IVec S200 32) (main_arg9 : IVec S5456x200 1) (main_v54 : FVec F S4096x200 .f32) (main_v75 : FVec F S1024x200 .f32) (main_v96 : FVec F S256x200 .f32) (main_v117 : FVec F S64x200 .f32) (main_v127 : FVec F S16x200x2 .f32) (main_v128 : FVec F S1x200x2 .f32) : IVec S200 1 :=
  let main_cst_13 : FVec F S_ .f32 := constant S_ .f32 0x40000000#32
  let main_v129 : FVec F S1x200x2 .f32 := broadcastInDim S1x200x2 ![] bcast_S_S1x200x2 main_cst_13
  let main_v130 : FVec F S1x200x2 .f32 := mulf main_v129 main_v128
  let main_v131 : FVec F S16x200x2 .f32 := broadcastInDim S16x200x2 ![0, 1, 2] bcast_S1x200x2_S16x200x2_0_1_2 main_v130
  let main_v132 : FVec F S16x200x2 .f32 := Host.divf main_v127 main_v131
  let main_v133 : FVec F S16x200x2 .f32 := Host.exp main_v132
  let main_v134 : FVec F S16x200x1 .f32 := (extractStridedSlice S16x200x1 ![0, 0, 0] · slices_S16x200x2_S16x200x1_0_0_0) main_v133
  let main_v135 : FVec F S16x200 .f32 := shapeCast S16x200 main_v134 shapeCasts_S16x200x1_S16x200
  let main_v136 : FVec F S16x200x1 .f32 := (extractStridedSlice S16x200x1 ![0, 0, 1] · slices_S16x200x2_S16x200x1_0_0_1) main_v133
  let main_v137 : FVec F S16x200 .f32 := shapeCast S16x200 main_v136 shapeCasts_S16x200x1_S16x200
  let main_v138 : FVec F S16x200 .f32 := mulf main_v135 main_v137
  let main_v139 : FVec F S5456x200 .f32 := concatenate S5456x200 0 [⟨S4096x200, main_v54⟩, ⟨S1024x200, main_v75⟩, ⟨S256x200, main_v96⟩, ⟨S64x200, main_v117⟩, ⟨S16x200, main_v138⟩] concatenates_S4096x200_S1024x200_S256x200_S64x200_S16x200_S5456x200_d0
  let main_v140 : FVec F S200x5456 .f32 := (transpose S200x5456 [1, 0] · transposes_S5456x200_S200x5456_1_0) main_v139
  let main_values : FVec F S200x9 .f32 := (fun x => (Host.topK S200x9 1 (FloatOps.cmpfTotal .gt) x sliceFits_S200x5456_S200x9).1) main_v140
  let main_indices : IVec S200x9 32 := (fun x => (Host.topK S200x9 1 (FloatOps.cmpfTotal .gt) x sliceFits_S200x5456_S200x9).2) main_v140
  let main_v141 : FVec F S200x1 .f32 := (extractStridedSlice S200x1 ![0, 8] · slices_S200x9_S200x1_0_8) main_values
  let main_v142 : FVec F S200x5456 .f32 := broadcastInDim S200x5456 ![0, 1] bcast_S200x1_S200x5456_0_1 main_v141
  let main_v143 : IVec S200x5456 1 := cmpf .oge main_v140 main_v142
  let main_v144 : IVec S200x5456 32 := (extui 32 · natLt_1_32) main_v143
  let main_c_14 : IVec S_ 32 := constantI S_ 32 0#32
  let main_v145 : IVec S200 32 := (fun x v => Host.reduce IntOp.addi x v reducesTo_S200x5456_S200_d1 h_S_) main_v144 main_c_14
  let main_v146 : IVec S5456x200 32 := (extui 32 · natLt_1_32) main_arg9
  let main_c_15 : IVec S_ 32 := constantI S_ 32 0#32
  let main_v147 : IVec S200 32 := (fun x v => Host.reduce IntOp.addi x v reducesTo_S5456x200_S200_d0 h_S_) main_v146 main_c_15
  fn_part7 (F := F) main_arg7 main_arg8 main_v145 main_v147

def fn_part5 {F : FTy → Type} [FloatOps F] (main_arg4 : FVec F S16x2 .f32) (main_arg7 : FVec F S80x2 .f32) (main_arg8 : IVec S200 32) (main_arg9 : IVec S5456x200 1) (main_v17 : FVec F S1x200x2 .f32) (main_v25 : FVec F S1x200x2 .f32) (main_v33 : FVec F S1x200x2 .f32) (main_v54 : FVec F S4096x200 .f32) (main_v75 : FVec F S1024x200 .f32) (main_v96 : FVec F S256x200 .f32) (main_v106 : FVec F S64x200x2 .f32) : IVec S200 1 :=
  let main_v107 : FVec F S1x200x2 .f32 := mulf main_v33 main_v33
  let main_cst_11 : FVec F S_ .f32 := constant S_ .f32 0x40000000#32
  let main_v108 : FVec F S1x200x2 .f32 := broadcastInDim S1x200x2 ![] bcast_S_S1x200x2 main_cst_11
  let main_v109 : FVec F S1x200x2 .f32 := mulf main_v108 main_v107
  let main_v110 : FVec F S64x200x2 .f32 := broadcastInDim S64x200x2 ![0, 1, 2] bcast_S1x200x2_S64x200x2_0_1_2 main_v109
  let main_v111 : FVec F S64x200x2 .f32 := Host.divf main_v106 main_v110
  let main_v112 : FVec F S64x200x2 .f32 := Host.exp main_v111
  let main_v113 : FVec F S64x200x1 .f32 := (extractStridedSlice S64x200x1 ![0, 0, 0] · slices_S64x200x2_S64x200x1_0_0_0) main_v112
  let main_v114 : FVec F S64x200 .f32 := shapeCast S64x200 main_v113 shapeCasts_S64x200x1_S64x200
  let main_v115 : FVec F S64x200x1 .f32 := (extractStridedSlice S64x200x1 ![0, 0, 1] · slices_S64x200x2_S64x200x1_0_0_1) main_v112
  let main_v116 : FVec F S64x200 .f32 := shapeCast S64x200 main_v115 shapeCasts_S64x200x1_S64x200
  let main_v117 : FVec F S64x200 .f32 := mulf main_v114 main_v116
  let main_v118 : FVec F S16x1x2 .f32 := broadcastInDim S16x1x2 ![0, 2] bcast_S16x2_S16x1x2_0_2 main_arg4
  let main_v119 : FVec F S16x200x2 .f32 := broadcastInDim S16x200x2 ![0, 1, 2] bcast_S16x1x2_S16x200x2_0_1_2 main_v118
  let main_v120 : FVec F S16x200x2 .f32 := broadcastInDim S16x200x2 ![0, 1, 2] bcast_S1x200x2_S16x200x2_0_1_2 main_v17
  let main_v121 : FVec F S16x200x2 .f32 := subf main_v119 main_v120
  let main_cst_12 : FVec F S_ .f32 := constant S_ .f32 0x43000000#32
  let main_v122 : FVec F S16x200x2 .f32 := broadcastInDim S16x200x2 ![] bcast_S_S16x200x2 main_cst_12
  let main_v123 : FVec F S16x200x2 .f32 := Host.divf main_v121 main_v122
  let main_v124 : FVec F S16x200x2 .f32 := broadcastInDim S16x200x2 ![0, 1, 2] bcast_S1x200x2_S16x200x2_0_1_2 main_v25
  let main_v125 : FVec F S16x200x2 .f32 := subf main_v123 main_v124
  let main_v126 : FVec F S16x200x2 .f32 := mulf main_v125 main_v125
  let main_v127 : FVec F S16x200x2 .f32 := Host.negf main_v126
  let main_v128 : FVec F S1x200x2 .f32 := mulf main_v33 main_v33
  fn_part6 (F := F) main_arg7 main_arg8 main_arg9 main_v54 main_v75 main_v96 main_v117 main_v127 main_v128

def fn_part4 {F : FTy → Type} [FloatOps F] (main_arg3 : FVec F S64x2 .f32) (main_arg4 : FVec F S16x2 .f32) (main_arg7 : FVec F S80x2 .f32) (main_arg8 : IVec S200 32) (main_arg9 : IVec S5456x200 1) (main_v17 : FVec F S1x200x2 .f32) (main_v25 : FVec F S1x200x2 .f32) (main_v33 : FVec F S1x200x2 .f32) (main_v54 : FVec F S4096x200 .f32) (main_v75 : FVec F S1024x200 .f32) (main_v84 : FVec F S256x200x2 .f32) : IVec S200 1 :=
  let main_v85 : FVec F S256x200x2 .f32 := Host.negf main_v84
  let main_v86 : FVec F S1x200x2 .f32 := mulf main_v33 main_v33
  let main_cst_9 : FVec F S_ .f32 := constant S_ .f32 0x40000000#32
  let main_v87 : FVec F S1x200x2 .f32 := broadcastInDim S1x200x2 ![] bcast_S_S1x200x2 main_cst_9
  let main_v88 : FVec F S1x200x2 .f32 := mulf main_v87 main_v86
  let main_v89 : FVec F S256x200x2 .f32 := broadcastInDim S256x200x2 ![0, 1, 2] bcast_S1x200x2_S256x200x2_0_1_2 main_v88
  let main_v90 : FVec F S256x200x2 .f32 := Host.divf main_v85 main_v89
  let main_v91 : FVec F S256x200x2 .f32 := Host.exp main_v90
  let main_v92 : FVec F S256x200x1 .f32 := (extractStridedSlice S256x200x1 ![0, 0, 0] · slices_S256x200x2_S256x200x1_0_0_0) main_v91
  let main_v93 : FVec F S256x200 .f32 := shapeCast S256x200 main_v92 shapeCasts_S256x200x1_S256x200
  let main_v94 : FVec F S256x200x1 .f32 := (extractStridedSlice S256x200x1 ![0, 0, 1] · slices_S256x200x2_S256x200x1_0_0_1) main_v91
  let main_v95 : FVec F S256x200 .f32 := shapeCast S256x200 main_v94 shapeCasts_S256x200x1_S256x200
  let main_v96 : FVec F S256x200 .f32 := mulf main_v93 main_v95
  let main_v97 : FVec F S64x1x2 .f32 := broadcastInDim S64x1x2 ![0, 2] bcast_S64x2_S64x1x2_0_2 main_arg3
  let main_v98 : FVec F S64x200x2 .f32 := broadcastInDim S64x200x2 ![0, 1, 2] bcast_S64x1x2_S64x200x2_0_1_2 main_v97
  let main_v99 : FVec F S64x200x2 .f32 := broadcastInDim S64x200x2 ![0, 1, 2] bcast_S1x200x2_S64x200x2_0_1_2 main_v17
  let main_v100 : FVec F S64x200x2 .f32 := subf main_v98 main_v99
  let main_cst_10 : FVec F S_ .f32 := constant S_ .f32 0x42800000#32
  let main_v101 : FVec F S64x200x2 .f32 := broadcastInDim S64x200x2 ![] bcast_S_S64x200x2 main_cst_10
  let main_v102 : FVec F S64x200x2 .f32 := Host.divf main_v100 main_v101
  let main_v103 : FVec F S64x200x2 .f32 := broadcastInDim S64x200x2 ![0, 1, 2] bcast_S1x200x2_S64x200x2_0_1_2 main_v25
  let main_v104 : FVec F S64x200x2 .f32 := subf main_v102 main_v103
  let main_v105 : FVec F S64x200x2 .f32 := mulf main_v104 main_v104
  let main_v106 : FVec F S64x200x2 .f32 := Host.negf main_v105
  fn_part5 (F := F) main_arg4 main_arg7 main_arg8 main_arg9 main_v17 main_v25 main_v33 main_v54 main_v75 main_v96 main_v106

def fn_part3 {F : FTy → Type} [FloatOps F] (main_arg2 : FVec F S256x2 .f32) (main_arg3 : FVec F S64x2 .f32) (main_arg4 : FVec F S16x2 .f32) (main_arg7 : FVec F S80x2 .f32) (main_arg8 : IVec S200 32) (main_arg9 : IVec S5456x200 1) (main_v17 : FVec F S1x200x2 .f32) (main_v25 : FVec F S1x200x2 .f32) (main_v33 : FVec F S1x200x2 .f32) (main_v54 : FVec F S4096x200 .f32) (main_v62 : FVec F S1024x200x2 .f32) : IVec S200 1 :=
  let main_v63 : FVec F S1024x200x2 .f32 := mulf main_v62 main_v62
  let main_v64 : FVec F S1024x200x2 .f32 := Host.negf main_v63
  let main_v65 : FVec F S1x200x2 .f32 := mulf main_v33 main_v33
  let main_cst_7 : FVec F S_ .f32 := constant S_ .f32 0x40000000#32
  let main_v66 : FVec F S1x200x2 .f32 := broadcastInDim S1x200x2 ![] bcast_S_S1x200x2 main_cst_7
  let main_v67 : FVec F S1x200x2 .f32 := mulf main_v66 main_v65
  let main_v68 : FVec F S1024x200x2 .f32 := broadcastInDim S1024x200x2 ![0, 1, 2] bcast_S1x200x2_S1024x200x2_0_1_2 main_v67
  let main_v69 : FVec F S1024x200x2 .f32 := Host.divf main_v64 main_v68
  let main_v70 : FVec F S1024x200x2 .f32 := Host.exp main_v69
  let main_v71 : FVec F S1024x200x1 .f32 := (extractStridedSlice S1024x200x1 ![0, 0, 0] · slices_S1024x200x2_S1024x200x1_0_0_0) main_v70
  let main_v72 : FVec F S1024x200 .f32 := shapeCast S1024x200 main_v71 shapeCasts_S1024x200x1_S1024x200
  let main_v73 : FVec F S1024x200x1 .f32 := (extractStridedSlice S1024x200x1 ![0, 0, 1] · slices_S1024x200x2_S1024x200x1_0_0_1) main_v70
  let main_v74 : FVec F S1024x200 .f32 := shapeCast S1024x200 main_v73 shapeCasts_S1024x200x1_S1024x200
  let main_v75 : FVec F S1024x200 .f32 := mulf main_v72 main_v74
  let main_v76 : FVec F S256x1x2 .f32 := broadcastInDim S256x1x2 ![0, 2] bcast_S256x2_S256x1x2_0_2 main_arg2
  let main_v77 : FVec F S256x200x2 .f32 := broadcastInDim S256x200x2 ![0, 1, 2] bcast_S256x1x2_S256x200x2_0_1_2 main_v76
  let main_v78 : FVec F S256x200x2 .f32 := broadcastInDim S256x200x2 ![0, 1, 2] bcast_S1x200x2_S256x200x2_0_1_2 main_v17
  let main_v79 : FVec F S256x200x2 .f32 := subf main_v77 main_v78
  let main_cst_8 : FVec F S_ .f32 := constant S_ .f32 0x42000000#32
  let main_v80 : FVec F S256x200x2 .f32 := broadcastInDim S256x200x2 ![] bcast_S_S256x200x2 main_cst_8
  let main_v81 : FVec F S256x200x2 .f32 := Host.divf main_v79 main_v80
  let main_v82 : FVec F S256x200x2 .f32 := broadcastInDim S256x200x2 ![0, 1, 2] bcast_S1x200x2_S256x200x2_0_1_2 main_v25
  let main_v83 : FVec F S256x200x2 .f32 := subf main_v81 main_v82
  let main_v84 : FVec F S256x200x2 .f32 := mulf main_v83 main_v83
  fn_part4 (F := F) main_arg3 main_arg4 main_arg7 main_arg8 main_arg9 main_v17 main_v25 main_v33 main_v54 main_v75 main_v84

def fn_part2 {F : FTy → Type} [FloatOps F] (main_arg1 : FVec F S1024x2 .f32) (main_arg2 : FVec F S256x2 .f32) (main_arg3 : FVec F S64x2 .f32) (main_arg4 : FVec F S16x2 .f32) (main_arg7 : FVec F S80x2 .f32) (main_arg8 : IVec S200 32) (main_arg9 : IVec S5456x200 1) (main_v17 : FVec F S1x200x2 .f32) (main_v25 : FVec F S1x200x2 .f32) (main_v33 : FVec F S1x200x2 .f32) (main_v39 : FVec F S4096x200x2 .f32) (main_v40 : FVec F S4096x200x2 .f32) : IVec S200 1 :=
  let main_v41 : FVec F S4096x200x2 .f32 := subf main_v39 main_v40
  let main_v42 : FVec F S4096x200x2 .f32 := mulf main_v41 main_v41
  let main_v43 : FVec F S4096x200x2 .f32 := Host.negf main_v42
  let main_v44 : FVec F S1x200x2 .f32 := mulf main_v33 main_v33
  let main_cst_5 : FVec F S_ .f32 := constant S_ .f32 0x40000000#32
  let main_v45 : FVec F S1x200x2 .f32 := broadcastInDim S1x200x2 ![] bcast_S_S1x200x2 main_cst_5
  let main_v46 : FVec F S1x200x2 .f32 := mulf main_v45 main_v44
  let main_v47 : FVec F S4096x200x2 .f32 := broadcastInDim S4096x200x2 ![0, 1, 2] bcast_S1x200x2_S4096x200x2_0_1_2 main_v46
  let main_v48 : FVec F S4096x200x2 .f32 := Host.divf main_v43 main_v47
  let main_v49 : FVec F S4096x200x2 .f32 := Host.exp main_v48
  let main_v50 : FVec F S4096x200x1 .f32 := (extractStridedSlice S4096x200x1 ![0, 0, 0] · slices_S4096x200x2_S4096x200x1_0_0_0) main_v49
  let main_v51 : FVec F S4096x200 .f32 := shapeCast S4096x200 main_v50 shapeCasts_S4096x200x1_S4096x200
  let main_v52 : FVec F S4096x200x1 .f32 := (extractStridedSlice S4096x200x1 ![0, 0, 1] · slices_S4096x200x2_S4096x200x1_0_0_1) main_v49
  let main_v53 : FVec F S4096x200 .f32 := shapeCast S4096x200 main_v52 shapeCasts_S4096x200x1_S4096x200
  let main_v54 : FVec F S4096x200 .f32 := mulf main_v51 main_v53
  let main_v55 : FVec F S1024x1x2 .f32 := broadcastInDim S1024x1x2 ![0, 2] bcast_S1024x2_S1024x1x2_0_2 main_arg1
  let main_v56 : FVec F S1024x200x2 .f32 := broadcastInDim S1024x200x2 ![0, 1, 2] bcast_S1024x1x2_S1024x200x2_0_1_2 main_v55
  let main_v57 : FVec F S1024x200x2 .f32 := broadcastInDim S1024x200x2 ![0, 1, 2] bcast_S1x200x2_S1024x200x2_0_1_2 main_v17
  let main_v58 : FVec F S1024x200x2 .f32 := subf main_v56 main_v57
  let main_cst_6 : FVec F S_ .f32 := constant S_ .f32 0x41800000#32
  let main_v59 : FVec F S1024x200x2 .f32 := broadcastInDim S1024x200x2 ![] bcast_S_S1024x200x2 main_cst_6
  let main_v60 : FVec F S1024x200x2 .f32 := Host.divf main_v58 main_v59
  let main_v61 : FVec F S1024x200x2 .f32 := broadcastInDim S1024x200x2 ![0, 1, 2] bcast_S1x200x2_S1024x200x2_0_1_2 main_v25
  let main_v62 : FVec F S1024x200x2 .f32 := subf main_v60 main_v61
  fn_part3 (F := F) main_arg2 main_arg3 main_arg4 main_arg7 main_arg8 main_arg9 main_v17 main_v25 main_v33 main_v54 main_v62

def fn_part1 {F : FTy → Type} [FloatOps F] (main_arg0 : FVec F S4096x2 .f32) (main_arg1 : FVec F S1024x2 .f32) (main_arg2 : FVec F S256x2 .f32) (main_arg3 : FVec F S64x2 .f32) (main_arg4 : FVec F S16x2 .f32) (main_arg6 : FVec F S80x2 .f32) (main_arg7 : FVec F S80x2 .f32) (main_arg8 : IVec S200 32) (main_arg9 : IVec S5456x200 1) (main_v17 : FVec F S1x200x2 .f32) (main_v19 : IVec S200 1) (main_c_1 : IVec S_ 32) : IVec S200 1 :=
  let main_v20 : IVec S200 32 := broadcastInDim S200 ![] bcast_S_S200 main_c_1
  let main_v21 : IVec S200 32 := addi main_arg8 main_v20
  let main_v22 : IVec S200 32 := select main_v19 main_v21 main_arg8
  let main_v23 : IVec S200x1 32 := broadcastInDim S200x1 ![0] bcast_S200_S200x1_0 main_v22
  let main_v24 : FVec F S200x2 .f32 := (fun x i => Host.gather gather_S80x2_S200x1_S200x2_1_0_n_n_0_1_12 x i) main_arg6 main_v23
  let main_v25 : FVec F S1x200x2 .f32 := broadcastInDim S1x200x2 ![1, 2] bcast_S200x2_S1x200x2_1_2 main_v24
  let main_c_2 : IVec S_ 32 := constantI S_ 32 0#32
  let main_v26 : IVec S200 32 := broadcastInDim S200 ![] bcast_S_S200 main_c_2
  let main_v27 : IVec S200 1 := cmpi .slt main_arg8 main_v26
  let main_c_3 : IVec S_ 32 := constantI S_ 32 80#32
  let main_v28 : IVec S200 32 := broadcastInDim S200 ![] bcast_S_S200 main_c_3
  let main_v29 : IVec S200 32 := addi main_arg8 main_v28
  let main_v30 : IVec S200 32 := select main_v27 main_v29 main_arg8
  let main_v31 : IVec S200x1 32 := broadcastInDim S200x1 ![0] bcast_S200_S200x1_0 main_v30
  let main_v32 : FVec F S200x2 .f32 := (fun x i => Host.gather gather_S80x2_S200x1_S200x2_1_0_n_n_0_1_12 x i) main_arg7 main_v31
  let main_v33 : FVec F S1x200x2 .f32 := broadcastInDim S1x200x2 ![1, 2] bcast_S200x2_S1x200x2_1_2 main_v32
  let main_v34 : FVec F S4096x1x2 .f32 := broadcastInDim S4096x1x2 ![0, 2] bcast_S4096x2_S4096x1x2_0_2 main_arg0
  let main_v35 : FVec F S4096x200x2 .f32 := broadcastInDim S4096x200x2 ![0, 1, 2] bcast_S4096x1x2_S4096x200x2_0_1_2 main_v34
  let main_v36 : FVec F S4096x200x2 .f32 := broadcastInDim S4096x200x2 ![0, 1, 2] bcast_S1x200x2_S4096x200x2_0_1_2 main_v17
  let main_v37 : FVec F S4096x200x2 .f32 := subf main_v35 main_v36
  let main_cst_4 : FVec F S_ .f32 := constant S_ .f32 0x41000000#32
  let main_v38 : FVec F S4096x200x2 .f32 := broadcastInDim S4096x200x2 ![] bcast_S_S4096x200x2 main_cst_4
  let main_v39 : FVec F S4096x200x2 .f32 := Host.divf main_v37 main_v38
  let main_v40 : FVec F S4096x200x2 .f32 := broadcastInDim S4096x200x2 ![0, 1, 2] bcast_S1x200x2_S4096x200x2_0_1_2 main_v25
  fn_part2 (F := F) main_arg1 main_arg2 main_arg3 main_arg4 main_arg7 main_arg8 main_arg9 main_v17 main_v25 main_v33 main_v39 main_v40

def fn {F : FTy → Type} [FloatOps F] (main_arg0 : FVec F S4096x2 .f32) (main_arg1 : FVec F S1024x2 .f32) (main_arg2 : FVec F S256x2 .f32) (main_arg3 : FVec F S64x2 .f32) (main_arg4 : FVec F S16x2 .f32) (main_arg5 : FVec F S200x4 .f32) (main_arg6 : FVec F S80x2 .f32) (main_arg7 : FVec F S80x2 .f32) (main_arg8 : IVec S200 32) (main_arg9 : IVec S5456x200 1) : IVec S200 1 :=
  let main_v0 : FVec F S200x1 .f32 := (extractStridedSlice S200x1 ![0, 0] · slices_S200x4_S200x1_0_0) main_arg5
  let main_v1 : FVec F S200 .f32 := shapeCast S200 main_v0 shapeCasts_S200x1_S200
  let main_v2 : FVec F S200x1 .f32 := (extractStridedSlice S200x1 ![0, 2] · slices_S200x4_S200x1_0_2) main_arg5
  let main_v3 : FVec F S200 .f32 := shapeCast S200 main_v2 shapeCasts_S200x1_S200
  let main_v4 : FVec F S200 .f32 := addf main_v1 main_v3
  let main_cst : FVec F S_ .f32 := constant S_ .f32 0x40000000#32
  let main_v5 : FVec F S200 .f32 := broadcastInDim S200 ![] bcast_S_S200 main_cst
  let main_v6 : FVec F S200 .f32 := Host.divf main_v4 main_v5
  let main_v7 : FVec F S200x1 .f32 := (extractStridedSlice S200x1 ![0, 1] · slices_S200x4_S200x1_0_1) main_arg5
  let main_v8 : FVec F S200 .f32 := shapeCast S200 main_v7 shapeCasts_S200x1_S200
  let main_v9 : FVec F S200x1 .f32 := (extractStridedSlice S200x1 ![0, 3] · slices_S200x4_S200x1_0_3) main_arg5
  let main_v10 : FVec F S200 .f32 := shapeCast S200 main_v9 shapeCasts_S200x1_S200
  let main_v11 : FVec F S200 .f32 := addf main_v8 main_v10
  let main_cst_0 : FVec F S_ .f32 := constant S_ .f32 0x40000000#32
  let main_v12 : FVec F S200 .f32 := broadcastInDim S200 ![] bcast_S_S200 main_cst_0
  let main_v13 : FVec F S200 .f32 := Host.divf main_v11 main_v12
  let main_v14 : FVec F S200x1 .f32 := broadcastInDim S200x1 ![0] bcast_S200_S200x1_0 main_v6
  let main_v15 : FVec F S200x1 .f32 := broadcastInDim S200x1 ![0] bcast_S200_S200x1_0 main_v13
  let main_v16 : FVec F S200x2 .f32 := (fun a b => concatenate S200x2 1 [⟨S200x1, a⟩, ⟨S200x1, b⟩] concatenates_S200x1_S200x1_S200x2_d1) main_v14 main_v15
  let main_v17 : FVec F S1x200x2 .f32 := broadcastInDim S1x200x2 ![1, 2] bcast_S200x2_S1x200x2_1_2 main_v16
  let main_c : IVec S_ 32 := constantI S_ 32 0#32
  let main_v18 : IVec S200 32 := broadcastInDim S200 ![] bcast_S_S200 main_c
  let main_v19 : IVec S200 1 := cmpi .slt main_arg8 main_v18
  let main_c_1 : IVec S_ 32 := constantI S_ 32 80#32
  fn_part1 (F := F) main_arg0 main_arg1 main_arg2 main_arg3 main_arg4 main_arg6 main_arg7 main_arg8 main_arg9 main_v17 main_v19 main_c_1
-- ==== Kernel.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S1x5456 : Shape := ⟨2, ![1, 5456]⟩
abbrev S5456x1 : Shape := ⟨2, ![5456, 1]⟩
abbrev S5456x2 : Shape := ⟨2, ![5456, 2]⟩
abbrev S2x5456 : Shape := ⟨2, ![2, 5456]⟩
abbrev S3x5456 : Shape := ⟨2, ![3, 5456]⟩
abbrev S200x1 : Shape := ⟨2, ![200, 1]⟩
abbrev S200x5456 : Shape := ⟨2, ![200, 5456]⟩
abbrev S8x256 : Shape := ⟨2, ![8, 256]⟩
abbrev S8x200 : Shape := ⟨2, ![8, 200]⟩
abbrev S200x80 : Shape := ⟨2, ![200, 80]⟩
abbrev S200x2 : Shape := ⟨2, ![200, 2]⟩
abbrev S1x200 : Shape := ⟨2, ![1, 200]⟩
abbrev S1x56 : Shape := ⟨2, ![1, 56]⟩
abbrev S1x256 : Shape := ⟨2, ![1, 256]⟩
abbrev S256 : Shape := ⟨1, ![256]⟩
abbrev S3200 : Shape := ⟨1, ![3200]⟩
abbrev S5456 : Shape := ⟨1, ![5456]⟩
abbrev S16 : Shape := ⟨1, ![16]⟩
abbrev S_ : Shape := ⟨0, ![]⟩
abbrev S1 : Shape := ⟨1, ![1]⟩
abbrev S128 : Shape := ⟨1, ![128]⟩
abbrev S128x1 : Shape := ⟨2, ![128, 1]⟩
abbrev S16x200 : Shape := ⟨2, ![16, 200]⟩
abbrev S4x200 : Shape := ⟨2, ![4, 200]⟩
abbrev S2728x2 : Shape := ⟨2, ![2728, 2]⟩
abbrev S2728x1 : Shape := ⟨2, ![2728, 1]⟩
abbrev S2728x200 : Shape := ⟨2, ![2728, 200]⟩
abbrev S80x200 : Shape := ⟨2, ![80, 200]⟩
abbrev S80x1 : Shape := ⟨2, ![80, 1]⟩

abbrev nBuf : Table → Nat
  | .hbm => 32
  | .local .tc .vmem => 25
  | .local .scVector .vmem => 4
  | _ => 0

abbrev bufTy : (tb : Table) → Fin (nBuf tb) → BufTy
  | .hbm, ⟨0, _⟩ => ⟨S4096x2, .f32⟩
  | .hbm, ⟨1, _⟩ => ⟨S1024x2, .f32⟩
  | .hbm, ⟨2, _⟩ => ⟨S256x2, .f32⟩
  | .hbm, ⟨3, _⟩ => ⟨S64x2, .f32⟩
  | .hbm, ⟨4, _⟩ => ⟨S16x2, .f32⟩
  | .hbm, ⟨5, _⟩ => ⟨S200x4, .f32⟩
  | .hbm, ⟨6, _⟩ => ⟨S80x2, .f32⟩
  | .hbm, ⟨7, _⟩ => ⟨S80x2, .f32⟩
  | .hbm, ⟨8, _⟩ => ⟨S200, .i32⟩
  | .hbm, ⟨9, _⟩ => ⟨S5456x200, .i1⟩
  | .hbm, ⟨10, _⟩ => ⟨S1x5456, .f32⟩
  | .hbm, ⟨11, _⟩ => ⟨S5456x1, .f32⟩
  | .hbm, ⟨12, _⟩ => ⟨S5456x2, .f32⟩
  | .hbm, ⟨13, _⟩ => ⟨S2x5456, .f32⟩
  | .hbm, ⟨14, _⟩ => ⟨S3x5456, .f32⟩
  | .hbm, ⟨15, _⟩ => ⟨S5456x200, .i8⟩
  | .hbm, ⟨16, _⟩ => ⟨S200x1, .i32⟩
  | .hbm, ⟨17, _⟩ => ⟨S200x5456, .f32⟩
  | .hbm, ⟨18, _⟩ => ⟨S8x256, .i32⟩
  | .hbm, ⟨19, _⟩ => ⟨S8x200, .f32⟩
  | .hbm, ⟨20, _⟩ => ⟨S1x256, .i32⟩
  | .hbm, ⟨21, _⟩ => ⟨S256, .i32⟩
  | .hbm, ⟨22, _⟩ => ⟨S3200, .i32⟩
  | .hbm, ⟨23, _⟩ => ⟨S16x200, .i32⟩
  | .hbm, ⟨24, _⟩ => ⟨S4x200, .f32⟩
  | .hbm, ⟨25, _⟩ => ⟨S1x200, .i32⟩
  | .hbm, ⟨26, _⟩ => ⟨S5456x200, .f32⟩
  | .hbm, ⟨27, _⟩ => ⟨S5456x200, .i32⟩
  | .hbm, ⟨28, _⟩ => ⟨S_, .i32⟩
  | .hbm, ⟨29, _⟩ => ⟨S5456x200, .i32⟩
  | .hbm, ⟨30, _⟩ => ⟨S5456x200, .i1⟩
  | .hbm, ⟨31, _⟩ => ⟨S5456x200, .i1⟩
  | .local .tc .vmem, ⟨0, _⟩ => ⟨S3x5456, .f32⟩
  | .local .tc .vmem, ⟨1, _⟩ => ⟨S200x4, .f32⟩
  | .local .tc .vmem, ⟨2, _⟩ => ⟨S80x2, .f32⟩
  | .local .tc .vmem, ⟨3, _⟩ => ⟨S80x2, .f32⟩
  | .local .tc .vmem, ⟨4, _⟩ => ⟨S200x1, .i32⟩
  | .local .tc .vmem, ⟨5, _⟩ => ⟨S5456x200, .i8⟩
  | .local .tc .vmem, ⟨6, _⟩ => ⟨S200x5456, .f32⟩
  | .local .tc .vmem, ⟨7, _⟩ => ⟨S8x256, .i32⟩
  | .local .tc .vmem, ⟨8, _⟩ => ⟨S8x200, .f32⟩
  | .local .tc .vmem, ⟨9, _⟩ => ⟨S2728x2, .f32⟩
  | .local .tc .vmem, ⟨10, _⟩ => ⟨S2728x2, .f32⟩
  | .local .tc .vmem, ⟨11, _⟩ => ⟨S2728x1, .f32⟩
  | .local .tc .vmem, ⟨12, _⟩ => ⟨S2728x1, .f32⟩
  | .local .tc .vmem, ⟨13, _⟩ => ⟨S4x200, .f32⟩
  | .local .tc .vmem, ⟨14, _⟩ => ⟨S80x2, .f32⟩
  | .local .tc .vmem, ⟨15, _⟩ => ⟨S80x2, .f32⟩
  | .local .tc .vmem, ⟨16, _⟩ => ⟨S1x200, .i32⟩
  | .local .tc .vmem, ⟨17, _⟩ => ⟨S8x200, .f32⟩
  | .local .tc .vmem, ⟨18, _⟩ => ⟨S2728x200, .i8⟩
  | .local .tc .vmem, ⟨19, _⟩ => ⟨S2728x200, .i8⟩
  | .local .tc .vmem, ⟨20, _⟩ => ⟨S16x200, .i32⟩
  | .local .tc .vmem, ⟨21, _⟩ => ⟨S2728x200, .f32⟩
  | .local .tc .vmem, ⟨22, _⟩ => ⟨S2728x200, .f32⟩
  | .local .tc .vmem, ⟨23, _⟩ => ⟨S2728x200, .i32⟩
  | .local .tc .vmem, ⟨24, _⟩ => ⟨S2728x200, .i32⟩
  | .local .scVector .vmem, ⟨0, _⟩ => ⟨S256, .i32⟩
  | .local .scVector .vmem, ⟨1, _⟩ => ⟨S5456, .f32⟩
  | .local .scVector .vmem, ⟨2, _⟩ => ⟨S16, .i32⟩
  | .local .scVector .vmem, ⟨3, _⟩ => ⟨S16, .i32⟩
  | _, _ => ⟨S4096x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v5_0_scv : Ref sig .scVector := ⟨.hbm, 17, rfl⟩
abbrev main_v7_scv : Ref sig .scVector := ⟨.hbm, 21, rfl⟩
abbrev main_v8_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg9_1 : Ref sig .tc := ⟨.vmem, 22, rfl⟩
abbrev cc2_stg10_0 : Ref sig .tc := ⟨.vmem, 23, rfl⟩
abbrev cc2_stg10_1 : Ref sig .tc := ⟨.vmem, 24, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem9_0 : DmaSem sig := 30
abbrev cc2_sem9_1 : DmaSem sig := 31
abbrev cc2_sem10_0 : DmaSem sig := 32
abbrev cc2_sem10_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S3x5456 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S200x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S200x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5456x200 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S200x5456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let v4 : Index := Scalar.indexCast v3
  ![v4.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c0_i32_678_r1 : BitVec 32 := 0#32
  ![v3.toNat, 0]
@[reducible] def k1_t1_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off3 (k1_t1 : Fin k1_t1_loop.trips) : Fin 1 → Nat :=
  let c0_i32_20 : BitVec 32 := 0#32
  let c1_i32 : BitVec 32 := 1#32
  let arg10 : BitVec 32 := Scf.iv c0_i32_20 c1_i32 k1_t1
  let c16_i32 : BitVec 32 := 16#32
  let v2536 : BitVec 32 := Scalar.muli arg10 c16_i32
  let v2537 : Index := Scalar.indexCast v2536
  ![v2537.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v14 : BitVec 32 := Scalar.addi v1 c32_i32
  let v15 : Index := Scalar.indexCast v14
  ![v15.toNat]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v14 : BitVec 32 := Scalar.addi v1 c32_i32
  let c0_i32_678_r2 : BitVec 32 := 0#32
  ![v14.toNat, 0]
@[reducible] def k1_t2_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off6 (k1_t2 : Fin k1_t2_loop.trips) : Fin 1 → Nat :=
  let c0_i32_20 : BitVec 32 := 0#32
  let c1_i32 : BitVec 32 := 1#32
  let arg10 : BitVec 32 := Scf.iv c0_i32_20 c1_i32 k1_t2
  let c16_i32 : BitVec 32 := 16#32
  let v2536 : BitVec 32 := Scalar.muli arg10 c16_i32
  let v2537 : Index := Scalar.indexCast v2536
  ![v2537.toNat]
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v25 : BitVec 32 := Scalar.addi v1 c64_i32
  let v26 : Index := Scalar.indexCast v25
  ![v26.toNat]
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v25 : BitVec 32 := Scalar.addi v1 c64_i32
  let c0_i32_678_r3 : BitVec 32 := 0#32
  ![v25.toNat, 0]
@[reducible] def k1_t3_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off9 (k1_t3 : Fin k1_t3_loop.trips) : Fin 1 → Nat :=
  let c0_i32_20 : BitVec 32 := 0#32
  let c1_i32 : BitVec 32 := 1#32
  let arg10 : BitVec 32 := Scf.iv c0_i32_20 c1_i32 k1_t3
  let c16_i32 : BitVec 32 := 16#32
  let v2536 : BitVec 32 := Scalar.muli arg10 c16_i32
  let v2537 : Index := Scalar.indexCast v2536
  ![v2537.toNat]
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v36 : BitVec 32 := Scalar.addi v1 c96_i32
  let v37 : Index := Scalar.indexCast v36
  ![v37.toNat]
def k1_off11 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v36 : BitVec 32 := Scalar.addi v1 c96_i32
  let c0_i32_678_r4 : BitVec 32 := 0#32
  ![v36.toNat, 0]
@[reducible] def k1_t4_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off12 (k1_t4 : Fin k1_t4_loop.trips) : Fin 1 → Nat :=
  let c0_i32_20 : BitVec 32 := 0#32
  let c1_i32 : BitVec 32 := 1#32
  let arg10 : BitVec 32 := Scf.iv c0_i32_20 c1_i32 k1_t4
  let c16_i32 : BitVec 32 := 16#32
  let v2536 : BitVec 32 := Scalar.muli arg10 c16_i32
  let v2537 : Index := Scalar.indexCast v2536
  ![v2537.toNat]
def k1_off13 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v47 : BitVec 32 := Scalar.addi v1 c128_i32
  let v48 : Index := Scalar.indexCast v47
  ![v48.toNat]
def k1_off14 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v47 : BitVec 32 := Scalar.addi v1 c128_i32
  let c0_i32_678_r5 : BitVec 32 := 0#32
  ![v47.toNat, 0]
@[reducible] def k1_t5_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off15 (k1_t5 : Fin k1_t5_loop.trips) : Fin 1 → Nat :=
  let c0_i32_20 : BitVec 32 := 0#32
  let c1_i32 : BitVec 32 := 1#32
  let arg10 : BitVec 32 := Scf.iv c0_i32_20 c1_i32 k1_t5
  let c16_i32 : BitVec 32 := 16#32
  let v2536 : BitVec 32 := Scalar.muli arg10 c16_i32
  let v2537 : Index := Scalar.indexCast v2536
  ![v2537.toNat]
def k1_off16 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v58 : BitVec 32 := Scalar.addi v1 c160_i32
  let v59 : Index := Scalar.indexCast v58
  ![v59.toNat]
def k1_off17 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v58 : BitVec 32 := Scalar.addi v1 c160_i32
  let c0_i32_678_r6 : BitVec 32 := 0#32
  ![v58.toNat, 0]
@[reducible] def k1_t6_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off18 (k1_t6 : Fin k1_t6_loop.trips) : Fin 1 → Nat :=
  let c0_i32_20 : BitVec 32 := 0#32
  let c1_i32 : BitVec 32 := 1#32
  let arg10 : BitVec 32 := Scf.iv c0_i32_20 c1_i32 k1_t6
  let c16_i32 : BitVec 32 := 16#32
  let v2536 : BitVec 32 := Scalar.muli arg10 c16_i32
  let v2537 : Index := Scalar.indexCast v2536
  ![v2537.toNat]
def k1_off19 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v69 : BitVec 32 := Scalar.addi v1 c192_i32
  let v70 : Index := Scalar.indexCast v69
  ![v70.toNat]
def k1_off20 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v69 : BitVec 32 := Scalar.addi v1 c192_i32
  let c0_i32_678_r7 : BitVec 32 := 0#32
  ![v69.toNat, 0]
def k1_cond7 (i : grid1.Coords) (v74 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c192_i32 : BitVec 32 := 192#32
  let v69 : BitVec 32 := Scalar.addi v1 c192_i32
  let c200_i32_17 : BitVec 32 := 200#32
  let v75 : BitVec 1 := Scalar.cmpi .slt v69 c200_i32_17
  let c0_i32_18 : BitVec 32 := 0#32
  let v76 : BitVec 1 := Scalar.cmpi .ne v74 c0_i32_18
  let v77 : BitVec 1 := Scalar.andi v75 v76
  let v78 : BitVec 32 := Scalar.extui v77
  let c0_i32_19 : BitVec 32 := 0#32
  let v79 : BitVec 1 := Scalar.cmpi .ne v78 c0_i32_19
  v79

def k1_chk1 (i : grid1.Coords) (v74 : BitVec 32) : Prop :=
  (∀ (k1_h7 : k1_cond7 i v74 = 1#1), ∀ a, (k1_off20 i) a + S1x5456.size a ≤ S200x5456.size a)
theorem k1_off20_inb : ∀ (i : grid1.Coords) (v74 : BitVec 32) (k1_hw1 : k1_chk1 i v74), ∀ (k1_h7 : k1_cond7 i v74 = 1#1), ∀ a, (k1_off20 i) a + S1x5456.size a ≤ S200x5456.size a := fun i v74 k1_hw1 k1_h7 => k1_hw1 k1_h7

@[reducible] def k1_t7_loop : Scf.Loop 32 :=
  let c0_i32_20 : BitVec 32 := 0#32
  let c341_i32 : BitVec 32 := 341#32
  let v82 : BitVec 32 := Scalar.addi c0_i32_20 c341_i32
  let c1_i32 : BitVec 32 := 1#32
  ⟨c0_i32_20, v82, c1_i32⟩
def k1_off21 (k1_t7 : Fin k1_t7_loop.trips) : Fin 1 → Nat :=
  let c0_i32_20 : BitVec 32 := 0#32
  let c1_i32 : BitVec 32 := 1#32
  let arg10 : BitVec 32 := Scf.iv c0_i32_20 c1_i32 k1_t7
  let c16_i32 : BitVec 32 := 16#32
  let v2536 : BitVec 32 := Scalar.muli arg10 c16_i32
  let v2537 : Index := Scalar.indexCast v2536
  ![v2537.toNat]
abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2728x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2728x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S80x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S80x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x200 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x200 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2728x200 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S16x200 .i32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2728x200 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2728x200 .i32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2 : Shape := ⟨2, ![4096, 2]⟩
abbrev S1024x2 : Shape := ⟨2, ![1024, 2]⟩
abbrev S256x2 : Shape := ⟨2, ![256, 2]⟩
abbrev S64x2 : Shape := ⟨2, ![64, 2]⟩
abbrev S16x2 : Shape := ⟨2, ![16, 2]⟩
abbrev S200x4 : Shape := ⟨2, ![200, 4]⟩
abbrev S80x2 : Shape := ⟨2, ![80, 2]⟩
abbrev S200 : Shape := ⟨1, ![200]⟩
abbrev S5456x200 : Shape := ⟨2, ![5456, 200]⟩
abbrev S200x1 : Shape := ⟨2, ![200, 1]⟩
abbrev S_ : Shape := ⟨0, ![]⟩
abbrev S200x2 : Shape := ⟨2, ![200, 2]⟩
abbrev S1x200x2 : Shape := ⟨3, ![1, 200, 2]⟩
abbrev S4096x1x2 : Shape := ⟨3, ![4096, 1, 2]⟩
abbrev S4096x200x2 : Shape := ⟨3, ![4096, 200, 2]⟩
abbrev S4096x200x1 : Shape := ⟨3, ![4096, 200, 1]⟩
abbrev S4096x200 : Shape := ⟨2, ![4096, 200]⟩
abbrev S1024x1x2 : Shape := ⟨3, ![1024, 1, 2]⟩
abbrev S1024x200x2 : Shape := ⟨3, ![1024, 200, 2]⟩
abbrev S1024x200x1 : Shape := ⟨3, ![1024, 200, 1]⟩
abbrev S1024x200 : Shape := ⟨2, ![1024, 200]⟩
abbrev S256x1x2 : Shape := ⟨3, ![256, 1, 2]⟩
abbrev S256x200x2 : Shape := ⟨3, ![256, 200, 2]⟩
abbrev S256x200x1 : Shape := ⟨3, ![256, 200, 1]⟩
abbrev S256x200 : Shape := ⟨2, ![256, 200]⟩
abbrev S64x1x2 : Shape := ⟨3, ![64, 1, 2]⟩
abbrev S64x200x2 : Shape := ⟨3, ![64, 200, 2]⟩
abbrev S64x200x1 : Shape := ⟨3, ![64, 200, 1]⟩
abbrev S64x200 : Shape := ⟨2, ![64, 200]⟩
abbrev S16x1x2 : Shape := ⟨3, ![16, 1, 2]⟩
abbrev S16x200x2 : Shape := ⟨3, ![16, 200, 2]⟩
abbrev S16x200x1 : Shape := ⟨3, ![16, 200, 1]⟩
abbrev S16x200 : Shape := ⟨2, ![16, 200]⟩
abbrev S200x5456 : Shape := ⟨2, ![200, 5456]⟩
abbrev S200x9 : Shape := ⟨2, ![200, 9]⟩
abbrev S200x9x1 : Shape := ⟨3, ![200, 9, 1]⟩
abbrev S200x9x2 : Shape := ⟨3, ![200, 9, 2]⟩
abbrev S1x200 : Shape := ⟨2, ![1, 200]⟩

abbrev nBuf : Space → Nat
  | .hbm => 208
  | .vmem => 0
  | .smem => 0
  | _ => 0

abbrev hbmTy0_0 (i : Nat) : BufTy := match i % 128 with
  | 0 => ⟨S4096x2, .f32⟩
  | 1 => ⟨S1024x2, .f32⟩
  | 2 => ⟨S256x2, .f32⟩
  | 3 => ⟨S64x2, .f32⟩
  | 4 => ⟨S16x2, .f32⟩
  | 5 => ⟨S200x4, .f32⟩
  | 6 => ⟨S80x2, .f32⟩
  | 7 => ⟨S80x2, .f32⟩
  | 8 => ⟨S200, .i32⟩
  | 9 => ⟨S5456x200, .i1⟩
  | 10 => ⟨S200x1, .f32⟩
  | 11 => ⟨S200, .f32⟩
  | 12 => ⟨S200x1, .f32⟩
  | 13 => ⟨S200, .f32⟩
  | 14 => ⟨S200, .f32⟩
  | 15 => ⟨S_, .f32⟩
  | 16 => ⟨S200, .f32⟩
  | 17 => ⟨S200, .f32⟩
  | 18 => ⟨S200x1, .f32⟩
  | 19 => ⟨S200, .f32⟩
  | 20 => ⟨S200x1, .f32⟩
  | 21 => ⟨S200, .f32⟩
  | 22 => ⟨S200, .f32⟩
  | 23 => ⟨S_, .f32⟩
  | 24 => ⟨S200, .f32⟩
  | 25 => ⟨S200, .f32⟩
  | 26 => ⟨S200x1, .f32⟩
  | 27 => ⟨S200x1, .f32⟩
  | 28 => ⟨S200x2, .f32⟩
  | 29 => ⟨S1x200x2, .f32⟩
  | 30 => ⟨S_, .i32⟩
  | 31 => ⟨S200, .i32⟩
  | 32 => ⟨S200, .i1⟩
  | 33 => ⟨S_, .i32⟩
  | 34 => ⟨S200, .i32⟩
  | 35 => ⟨S200, .i32⟩
  | 36 => ⟨S200, .i32⟩
  | 37 => ⟨S200x1, .i32⟩
  | 38 => ⟨S200x2, .f32⟩
  | 39 => ⟨S1x200x2, .f32⟩
  | 40 => ⟨S_, .i32⟩
  | 41 => ⟨S200, .i32⟩
  | 42 => ⟨S200, .i1⟩
  | 43 => ⟨S_, .i32⟩
  | 44 => ⟨S200, .i32⟩
  | 45 => ⟨S200, .i32⟩
  | 46 => ⟨S200, .i32⟩
  | 47 => ⟨S200x1, .i32⟩
  | 48 => ⟨S200x2, .f32⟩
  | 49 => ⟨S1x200x2, .f32⟩
  | 50 => ⟨S4096x1x2, .f32⟩
  | 51 => ⟨S4096x200x2, .f32⟩
  | 52 => ⟨S4096x200x2, .f32⟩
  | 53 => ⟨S4096x200x2, .f32⟩
  | 54 => ⟨S_, .f32⟩
  | 55 => ⟨S4096x200x2, .f32⟩
  | 56 => ⟨S4096x200x2, .f32⟩
  | 57 => ⟨S4096x200x2, .f32⟩
  | 58 => ⟨S4096x200x2, .f32⟩
  | 59 => ⟨S4096x200x2, .f32⟩
  | 60 => ⟨S4096x200x2, .f32⟩
  | 61 => ⟨S1x200x2, .f32⟩
  | 62 => ⟨S_, .f32⟩
  | 63 => ⟨S1x200x2, .f32⟩
  | 64 => ⟨S1x200x2, .f32⟩
  | 65 => ⟨S4096x200x2, .f32⟩
  | 66 => ⟨S4096x200x2, .f32⟩
  | 67 => ⟨S4096x200x2, .f32⟩
  | 68 => ⟨S4096x200x1, .f32⟩
  | 69 => ⟨S4096x200, .f32⟩
  | 70 => ⟨S4096x200x1, .f32⟩
  | 71 => ⟨S4096x200, .f32⟩
  | 72 => ⟨S4096x200, .f32⟩
  | 73 => ⟨S1024x1x2, .f32⟩
  | 74 => ⟨S1024x200x2, .f32⟩
  | 75 => ⟨S1024x200x2, .f32⟩
  | 76 => ⟨S1024x200x2, .f32⟩
  | 77 => ⟨S_, .f32⟩
  | 78 => ⟨S1024x200x2, .f32⟩
  | 79 => ⟨S1024x200x2, .f32⟩
  | 80 => ⟨S1024x200x2, .f32⟩
  | 81 => ⟨S1024x200x2, .f32⟩
  | 82 => ⟨S1024x200x2, .f32⟩
  | 83 => ⟨S1024x200x2, .f32⟩
  | 84 => ⟨S1x200x2, .f32⟩
  | 85 => ⟨S_, .f32⟩
  | 86 => ⟨S1x200x2, .f32⟩
  | 87 => ⟨S1x200x2, .f32⟩
  | 88 => ⟨S1024x200x2, .f32⟩
  | 89 => ⟨S1024x200x2, .f32⟩
  | 90 => ⟨S1024x200x2, .f32⟩
  | 91 => ⟨S1024x200x1, .f32⟩
  | 92 => ⟨S1024x200, .f32⟩
  | 93 => ⟨S1024x200x1, .f32⟩
  | 94 => ⟨S1024x200, .f32⟩
  | 95 => ⟨S1024x200, .f32⟩
  | 96 => ⟨S256x1x2, .f32⟩
  | 97 => ⟨S256x200x2, .f32⟩
  | 98 => ⟨S256x200x2, .f32⟩
  | 99 => ⟨S256x200x2, .f32⟩
  | 100 => ⟨S_, .f32⟩
  | 101 => ⟨S256x200x2, .f32⟩
  | 102 => ⟨S256x200x2, .f32⟩
  | 103 => ⟨S256x200x2, .f32⟩
  | 104 => ⟨S256x200x2, .f32⟩
  | 105 => ⟨S256x200x2, .f32⟩
  | 106 => ⟨S256x200x2, .f32⟩
  | 107 => ⟨S1x200x2, .f32⟩
  | 108 => ⟨S_, .f32⟩
  | 109 => ⟨S1x200x2, .f32⟩
  | 110 => ⟨S1x200x2, .f32⟩
  | 111 => ⟨S256x200x2, .f32⟩
  | 112 => ⟨S256x200x2, .f32⟩
  | 113 => ⟨S256x200x2, .f32⟩
  | 114 => ⟨S256x200x1, .f32⟩
  | 115 => ⟨S256x200, .f32⟩
  | 116 => ⟨S256x200x1, .f32⟩
  | 117 => ⟨S256x200, .f32⟩
  | 118 => ⟨S256x200, .f32⟩
  | 119 => ⟨S64x1x2, .f32⟩
  | 120 => ⟨S64x200x2, .f32⟩
  | 121 => ⟨S64x200x2, .f32⟩
  | 122 => ⟨S64x200x2, .f32⟩
  | 123 => ⟨S_, .f32⟩
  | 124 => ⟨S64x200x2, .f32⟩
  | 125 => ⟨S64x200x2, .f32⟩
  | 126 => ⟨S64x200x2, .f32⟩
  | 127 => ⟨S64x200x2, .f32⟩
  | _ => ⟨S4096x2, .f32⟩

abbrev hbmTy0_1 (i : Nat) : BufTy := match i % 128 with
  | 0 => ⟨S64x200x2, .f32⟩
  | 1 => ⟨S64x200x2, .f32⟩
  | 2 => ⟨S1x200x2, .f32⟩
  | 3 => ⟨S_, .f32⟩
  | 4 => ⟨S1x200x2, .f32⟩
  | 5 => ⟨S1x200x2, .f32⟩
  | 6 => ⟨S64x200x2, .f32⟩
  | 7 => ⟨S64x200x2, .f32⟩
  | 8 => ⟨S64x200x2, .f32⟩
  | 9 => ⟨S64x200x1, .f32⟩
  | 10 => ⟨S64x200, .f32⟩
  | 11 => ⟨S64x200x1, .f32⟩
  | 12 => ⟨S64x200, .f32⟩
  | 13 => ⟨S64x200, .f32⟩
  | 14 => ⟨S16x1x2, .f32⟩
  | 15 => ⟨S16x200x2, .f32⟩
  | 16 => ⟨S16x200x2, .f32⟩
  | 17 => ⟨S16x200x2, .f32⟩
  | 18 => ⟨S_, .f32⟩
  | 19 => ⟨S16x200x2, .f32⟩
  | 20 => ⟨S16x200x2, .f32⟩
  | 21 => ⟨S16x200x2, .f32⟩
  | 22 => ⟨S16x200x2, .f32⟩
  | 23 => ⟨S16x200x2, .f32⟩
  | 24 => ⟨S16x200x2, .f32⟩
  | 25 => ⟨S1x200x2, .f32⟩
  | 26 => ⟨S_, .f32⟩
  | 27 => ⟨S1x200x2, .f32⟩
  | 28 => ⟨S1x200x2, .f32⟩
  | 29 => ⟨S16x200x2, .f32⟩
  | 30 => ⟨S16x200x2, .f32⟩
  | 31 => ⟨S16x200x2, .f32⟩
  | 32 => ⟨S16x200x1, .f32⟩
  | 33 => ⟨S16x200, .f32⟩
  | 34 => ⟨S16x200x1, .f32⟩
  | 35 => ⟨S16x200, .f32⟩
  | 36 => ⟨S16x200, .f32⟩
  | 37 => ⟨S5456x200, .f32⟩
  | 38 => ⟨S5456x200, .i32⟩
  | 39 => ⟨S_, .i32⟩
  | 40 => ⟨S200, .i32⟩
  | 41 => ⟨S_, .i32⟩
  | 42 => ⟨S200, .i32⟩
  | 43 => ⟨S200, .i1⟩
  | 44 => ⟨S200x5456, .f32⟩
  | 45 => ⟨S200x9, .f32⟩
  | 46 => ⟨S200x9, .i32⟩
  | 47 => ⟨S_, .i1⟩
  | 48 => ⟨S200x5456, .i1⟩
  | 49 => ⟨S200, .i32⟩
  | 50 => ⟨S200x1, .i32⟩
  | 51 => ⟨S_, .i32⟩
  | 52 => ⟨S200x1, .i32⟩
  | 53 => ⟨S200x1, .i1⟩
  | 54 => ⟨S_, .i32⟩
  | 55 => ⟨S200x1, .i32⟩
  | 56 => ⟨S200x1, .i32⟩
  | 57 => ⟨S200x1, .i32⟩
  | 58 => ⟨S_, .i32⟩
  | 59 => ⟨S200x9, .i32⟩
  | 60 => ⟨S200x9, .i1⟩
  | 61 => ⟨S_, .i32⟩
  | 62 => ⟨S200x9, .i32⟩
  | 63 => ⟨S200x9, .i32⟩
  | 64 => ⟨S200x9, .i32⟩
  | 65 => ⟨S200x9, .i32⟩
  | 66 => ⟨S200x9x1, .i32⟩
  | 67 => ⟨S200x9x1, .i32⟩
  | 68 => ⟨S200x9x2, .i32⟩
  | 69 => ⟨S_, .i1⟩
  | 70 => ⟨S200x9, .i1⟩
  | 71 => ⟨S200x5456, .i1⟩
  | 72 => ⟨S5456x200, .i1⟩
  | 73 => ⟨S1x200, .i1⟩
  | 74 => ⟨S5456x200, .i1⟩
  | 75 => ⟨S5456x200, .i1⟩
  | 76 => ⟨S_, .f32⟩
  | 77 => ⟨S_, .f32⟩
  | 78 => ⟨S5456x200, .f32⟩
  | 79 => ⟨S5456x200, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_10 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_11 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_12 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_13 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_c_14 : Ref sig .tc := ⟨.hbm, 167, rfl⟩
abbrev main_v141 : Ref sig .tc := ⟨.hbm, 168, rfl⟩
abbrev main_c_15 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_values : Ref sig .tc := ⟨.hbm, 173, rfl⟩
abbrev main_indices : Ref sig .tc := ⟨.hbm, 174, rfl⟩
abbrev main_c_16 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_c_17 : Ref sig .tc := ⟨.hbm, 179, rfl⟩
abbrev main_v148 : Ref sig .tc := ⟨.hbm, 180, rfl⟩
abbrev main_v149 : Ref sig .tc := ⟨.hbm, 181, rfl⟩
abbrev main_c_18 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_c_19 : Ref sig .tc := ⟨.hbm, 186, rfl⟩
abbrev main_v153 : Ref sig .tc := ⟨.hbm, 187, rfl⟩
abbrev main_v154 : Ref sig .tc := ⟨.hbm, 188, rfl⟩
abbrev main_c_20 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_c_21 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_call0_v0 : Ref sig .tc := ⟨.hbm, 202, rfl⟩
abbrev main_v166 : Ref sig .tc := ⟨.hbm, 203, rfl⟩
abbrev main_cst_22 : Ref sig .tc := ⟨.hbm, 204, rfl⟩
abbrev main_call1_v0 : Ref sig .tc := ⟨.hbm, 205, rfl⟩
abbrev main_call1_v1 : Ref sig .tc := ⟨.hbm, 206, rfl⟩
abbrev main_v167 : Ref sig .tc := ⟨.hbm, 207, rfl⟩

abbrev nD : Nat := 1
abbrev τ : Topo := Topo.v7x

variable {F : FTy → Type} [FloatOps F]
-- ==== Proof.Rounds.lean ====
/-
  What the SparseCore kernel computes of one row, as functions: the nine running maxima of each lane, and the nine
  extraction rounds that follow. The printed kernel's pure windows are shown to be these functions.
-/
module

public import proofs.«01_k».proof.Proof.Gen.KernelIdeal

@[expose] public section

noncomputable section

namespace Cert.Proof.Rounds

open Idealize.ShloMosaic Idealize.SL.Sem
open Cert.KernelIdeal Cert.KernelIdeal.Gen

variable {F : FTy → Type} [FloatOps F]

/-- Nine values, in order. -/
structure Nine (α : Type) where
  x0 : α
  x1 : α
  x2 : α
  x3 : α
  x4 : α
  x5 : α
  x6 : α
  x7 : α
  x8 : α

abbrev L16 : Type := IVec S16 32
abbrev V16 (F : FTy → Type) : Type := FVec F S16 .f32

/-- The positions `l xor s` of the sixteen lanes, over the register of 128 lanes the gather reads. -/
def xorIdx (lanes : L16) (s : BitVec 32) : IVec S128 32 :=
  have a : L16 := xori lanes (broadcast S16 s)
  have b : IVec S128 32 := concatenate S128 0 [⟨S16, a⟩, ⟨S16, a⟩, ⟨S16, a⟩, ⟨S16, a⟩, ⟨S16, a⟩, ⟨S16, a⟩, ⟨S16, a⟩, ⟨S16, a⟩] concatenates_S16_S16_S16_S16_S16_S16_S16_S16_S128_d0
  shapeCast S128 (shapeCast S128x1 (select (cmpi .slt b (broadcast S128 0#32)) (addi b (broadcast S128 128#32)) b) shapeCasts_S128_S128x1) shapeCasts_S128x1_S128

/-- `x` read at lane `l xor s` in lane `l`. -/
def permF (lanes : L16) (s : BitVec 32) (x : V16 F) : V16 F :=
  extractStridedSlice S16 ![0] (dynamicGather 0 (concatenate S128 0 [⟨S16, x⟩, ⟨S16, x⟩, ⟨S16, x⟩, ⟨S16, x⟩, ⟨S16, x⟩, ⟨S16, x⟩, ⟨S16, x⟩, ⟨S16, x⟩] concatenates_S16_S16_S16_S16_S16_S16_S16_S16_S128_d0 : FVec F S128 .f32) (xorIdx lanes s)) slices_S128_o0_S16

/-- The same of an integer vector. -/
def permI (lanes : L16) (s : BitVec 32) (x : L16) : L16 :=
  extractStridedSlice S16 ![0] (dynamicGather 0 (concatenate S128 0 [⟨S16, x⟩, ⟨S16, x⟩, ⟨S16, x⟩, ⟨S16, x⟩, ⟨S16, x⟩, ⟨S16, x⟩, ⟨S16, x⟩, ⟨S16, x⟩] concatenates_S16_S16_S16_S16_S16_S16_S16_S16_S128_d0 : IVec S128 32) (xorIdx lanes s)) slices_S128_o0_S16

def maxStep (lanes : L16) (s : BitVec 32) (x : V16 F) : V16 F := maximumf x (permF lanes s x)
def minStep (lanes : L16) (s : BitVec 32) (x : L16) : L16 := minsi x (permI lanes s x)

/-- The largest lane of `x`, in every lane. -/
def laneMax (lanes : L16) (x : V16 F) : V16 F := maxStep lanes 8#32 (maxStep lanes 4#32 (maxStep lanes 2#32 (maxStep lanes 1#32 x)))
/-- The least lane of `x`, in every lane. -/
def laneMin (lanes : L16) (x : L16) : L16 := minStep lanes 8#32 (minStep lanes 4#32 (minStep lanes 2#32 (minStep lanes 1#32 x)))

def minusTwo : V16 F := broadcast S16 (Scalar.ofBits .f32 0xC0000000#32)
def zeros : L16 := broadcast S16 0#32
def ones : L16 := broadcast S16 1#32
def big : L16 := broadcast S16 1073741824#32

/-- The running maximum `m`, joined by the entry `t` where it is not yet taken. -/
def mx (m : V16 F) (k : L16) (t : V16 F) : V16 F := maximumf m (select (cmpi .eq k zeros) t minusTwo)
/-- The running least index `m`, joined by the index `d` where its entry `t` is not yet taken and equals `v`. -/
def mn (v : V16 F) (m : L16) (k : L16) (t : V16 F) (d : L16) : L16 := minsi m (select (andi (cmpi .eq k zeros) (cmpf .oeq t v)) d big)
/-- An entry is taken once its value and its index are those of the round. -/
def tk (v : V16 F) (d' : L16) (k : L16) (t : V16 F) (d : L16) : L16 := select (andi (cmpf .oeq t v) (cmpi .eq d d')) ones k

/-- What the rounds carry: which entries are taken, and the indices found so far. -/
structure St where
  k : Nine L16
  pay : L16

variable (lanes : L16) (t : Nine (V16 F)) (d : Nine L16)

def best (k : Nine L16) : V16 F :=
  laneMax lanes (mx (mx (mx (mx (mx (mx (mx (mx (mx minusTwo k.x0 t.x0) k.x1 t.x1) k.x2 t.x2) k.x3 t.x3) k.x4 t.x4) k.x5 t.x5) k.x6 t.x6) k.x7 t.x7) k.x8 t.x8)

def bestIdx (k : Nine L16) (v : V16 F) : L16 :=
  laneMin lanes (mn v (mn v (mn v (mn v (mn v (mn v (mn v (mn v (mn v big k.x0 t.x0 d.x0) k.x1 t.x1 d.x1) k.x2 t.x2 d.x2) k.x3 t.x3 d.x3) k.x4 t.x4 d.x4)
    k.x5 t.x5 d.x5) k.x6 t.x6 d.x6) k.x7 t.x7 d.x7) k.x8 t.x8 d.x8)

def takeAll (k : Nine L16) (v : V16 F) (j : L16) : Nine L16 :=
  ⟨tk v j k.x0 t.x0 d.x0, tk v j k.x1 t.x1 d.x1, tk v j k.x2 t.x2 d.x2, tk v j k.x3 t.x3 d.x3, tk v j k.x4 t.x4 d.x4, tk v j k.x5 t.x5 d.x5,
    tk v j k.x6 t.x6 d.x6, tk v j k.x7 t.x7 d.x7, tk v j k.x8 t.x8 d.x8⟩

/-- One round: the best value among the entries not taken, the least index holding it, its entry marked taken. -/
def round (r : BitVec 32) (s : St) : St :=
  have v := best lanes t s.k
  have j := bestIdx lanes t d s.k v
  ⟨takeAll t d s.k v j, select (cmpi .eq lanes (broadcast S16 r)) j s.pay⟩

def start : St := ⟨⟨zeros, zeros, zeros, zeros, zeros, zeros, zeros, zeros, zeros⟩, zeros⟩

/-- The nine rounds. -/
def rounds : St :=
  round lanes t d 8#32 (round lanes t d 7#32 (round lanes t d 6#32 (round lanes t d 5#32 (round lanes t d 4#32 (round lanes t d 3#32
    (round lanes t d 2#32 (round lanes t d 1#32 (round lanes t d 0#32 start))))))))

end Cert.Proof.Rounds

end
-- ==== Proof.Row.lean ====
/-
  One row's work on a vector subcore, as one program: the row fetched, the 341 chunks of sixteen entries inserted into
  the nine running maxima of each lane, the nine extraction rounds, and the sixteen indices found scattered to the
  row's places of the output. The printed kernel writes this program out seven times, once per row of a tile; each of
  the seven is shown to be it.
-/
module

public import proofs.«01_k».proof.Proof.Gen.KernelIdeal.Skeleton
public import proofs.«01_k».proof.Proof.Rounds

@[expose] public section

noncomputable section

namespace Cert.Proof.Row

open Idealize.ShloMosaic Idealize.SL.Sem
open Cert.KernelIdeal Cert.KernelIdeal.Gen Cert.Proof.Rounds

variable {F : FTy → Type} [FloatOps F]

/-! ## The nine running maxima -/

/-- Nine values and their nine indices, per lane. -/
structure Kept (F : FTy → Type) where
  t : Nine (V16 F)
  d : Nine L16

/-- What stays in the place of `t` when `v` comes: the larger. -/
def hi (v t : V16 F) : V16 F := select (cmpf .ogt v t) v t
/-- What goes on to the next place. -/
def lo (v t : V16 F) : V16 F := select (cmpf .ogt v t) t v
def hiI (v t : V16 F) (j d : L16) : L16 := select (cmpf .ogt v t) j d
def loI (v t : V16 F) (j d : L16) : L16 := select (cmpf .ogt v t) d j

/-- A chunk `v` with its indices `j` inserted into the nine. -/
def insert (s : Kept F) (v : V16 F) (j : L16) : Kept F :=
  have v1 := lo v s.t.x0
  have v2 := lo v1 s.t.x1
  have v3 := lo v2 s.t.x2
  have v4 := lo v3 s.t.x3
  have v5 := lo v4 s.t.x4
  have v6 := lo v5 s.t.x5
  have v7 := lo v6 s.t.x6
  have v8 := lo v7 s.t.x7
  have j1 := loI v s.t.x0 j s.d.x0
  have j2 := loI v1 s.t.x1 j1 s.d.x1
  have j3 := loI v2 s.t.x2 j2 s.d.x2
  have j4 := loI v3 s.t.x3 j3 s.d.x3
  have j5 := loI v4 s.t.x4 j4 s.d.x4
  have j6 := loI v5 s.t.x5 j5 s.d.x5
  have j7 := loI v6 s.t.x6 j6 s.d.x6
  have j8 := loI v7 s.t.x7 j7 s.d.x7
  ⟨⟨hi v s.t.x0, hi v1 s.t.x1, hi v2 s.t.x2, hi v3 s.t.x3, hi v4 s.t.x4, hi v5 s.t.x5, hi v6 s.t.x6, hi v7 s.t.x7, hi v8 s.t.x8⟩,
    ⟨hiI v s.t.x0 j s.d.x0, hiI v1 s.t.x1 j1 s.d.x1, hiI v2 s.t.x2 j2 s.d.x2, hiI v3 s.t.x3 j3 s.d.x3, hiI v4 s.t.x4 j4 s.d.x4,
      hiI v5 s.t.x5 j5 s.d.x5, hiI v6 s.t.x6 j6 s.d.x6, hiI v7 s.t.x7 j7 s.d.x7, hiI v8 s.t.x8 j8 s.d.x8⟩⟩

def minusOne : V16 F := broadcast S16 (Scalar.ofBits .f32 0xBF800000#32)

/-- Before the first chunk: nine times −1, at an index past every entry. -/
def kept0 : Kept F :=
  ⟨⟨minusOne, minusOne, minusOne, minusOne, minusOne, minusOne, minusOne, minusOne, minusOne⟩, ⟨big, big, big, big, big, big, big, big, big⟩⟩

/-- The indices of chunk `k`. -/
def chunkIdx (lanes : L16) (k : ℕ) : L16 := addi lanes (broadcast S16 (Scalar.muli (Scf.iv 0#32 1#32 k) 16#32))

/-- Chunk `k` of a row of 5456 entries. -/
def chunk (x : S5456.Idx → F .f32) (k : ℕ) : V16 F :=
  fun l => x fun a => ⟨(k * 16 + (l 0).val) % S5456.size a, Nat.mod_lt _ (by match a with | 0 => decide)⟩

/-- The nine after the first `k` chunks of the row `x`. -/
def keptAfter (lanes : L16) (x : S5456.Idx → F .f32) : ℕ → Kept F
  | 0 => kept0
  | k + 1 => insert (keptAfter lanes x k) (chunk x k) (chunkIdx lanes k)

/-- The sixteen indices found for the row `x` (nine of them meant, in lanes 0 to 8). -/
def found (lanes : L16) (x : S5456.Idx → F .f32) : L16 :=
  (rounds lanes (keptAfter lanes x 341).t (keptAfter lanes x 341).d).pay

/-! ## The program -/

abbrev Tup (F : FTy → Type) : Type :=
  V16 F × V16 F × V16 F × V16 F × V16 F × V16 F × V16 F × V16 F × V16 F × L16 × L16 × L16 × L16 × L16 × L16 × L16 × L16 × L16

def toTup (s : Kept F) : Tup F :=
  (s.t.x0, s.t.x1, s.t.x2, s.t.x3, s.t.x4, s.t.x5, s.t.x6, s.t.x7, s.t.x8, s.d.x0, s.d.x1, s.d.x2, s.d.x3, s.d.x4, s.d.x5, s.d.x6, s.d.x7, s.d.x8)

def ofTup (p : Tup F) : Kept F :=
  match p with
  | (a0, a1, a2, a3, a4, a5, a6, a7, a8, b0, b1, b2, b3, b4, b5, b6, b7, b8) => ⟨⟨a0, a1, a2, a3, a4, a5, a6, a7, a8⟩, ⟨b0, b1, b2, b3, b4, b5, b6, b7, b8⟩⟩

theorem ofTup_toTup (s : Kept F) : ofTup (toTup s) = s := rfl

/-- The kernel's operands and scratch buffers. -/
abbrev wM : Memref sig .scVector .hbm S200x5456 .f32 := Memref.whole main_v5_0_scv
abbrev fM : Memref sig .scVector .hbm S256 .i32 := Memref.whole main_v7_scv
abbrev oM : Memref sig .scVector .hbm S3200 .i32 := Memref.whole main_v8_scv
abbrev flM : Memref sig .scVector .vmem S256 .i32 := Memref.whole cc1_scratch0
abbrev rowM : Memref sig .scVector .vmem S5456 .f32 := Memref.whole cc1_scratch1
abbrev placeM : Memref sig .scVector .vmem S16 .i32 := Memref.whole cc1_scratch2
abbrev payM : Memref sig .scVector .vmem S16 .i32 := Memref.whole cc1_scratch3

variable (i : grid1.Coords)

/-- Programs of the thread of tile `i`. -/
local notation "TileProg" => Prog (TpuEff nD τ sig (Elt F) Λ₀ (Proc.scVector (Fin.castLE hcore1 (i 0)) (Fin.castLE hsub1 (i 1))))

/-- One chunk's work: the chunk loaded and inserted. -/
def chunkBody (lanes : L16) (k : Fin k1_t1_loop.trips) (p : Tup F) : TileProg (Tup F) := do
  let x : Vec F S16 .f32 ← Prog.lift (.load rowM (Rect.unit (s := S5456) (k1_off3 k) S16.size (k1_off3_inb k)).toLoadRect (View.loadsAt_vmem h_S16))
  pure (toTup (insert (ofTup p) (shapeCast S16 x shapeCasts_S16_S16) (chunkIdx lanes k.val)))

/-- Row `off` of the weights, as the copy reads it. -/
abbrev srcM (off : Fin 2 → ℕ) (inb : ∀ a, off a + S1x5456.size a ≤ S200x5456.size a) : Memref sig .scVector .hbm S5456 .f32 :=
  (wM.slice (Rect.unit (s := S200x5456) off S1x5456.size inb) (fun _ => rfl)).squeeze S5456 squeezes_S1x5456_S5456

/-- All of the output, as the scatter addresses it. -/
abbrev outM : Memref sig .scVector .hbm S3200 .i32 := oM.slice (Rect.unit (s := S3200) ![0] S3200.size inb_S3200_S3200_0) (fun _ => rfl)

/-- The row fetched and searched: the indices found and the places they go to. -/
def rowFind (off : Fin 2 → ℕ) (inb : ∀ a, off a + S1x5456.size a ≤ S200x5456.size a) (s : DmaSems sig S_) (lanes : L16) (g : BitVec 32) :
    TileProg (Σ' (_ : IVec S16 32), IVec S16 32) := do
  Prog.lift (.enqueueDma (srcM off inb) (.here rowM) (.dma s.sem) ((View.wordExact_bits rfl).reshape _ _) (Memref.isWhole_whole _).wordExact ⟨Or.inl rfl, trivial⟩)
  Prog.lift (.waitDma2 s.sem (srcM off inb) rowM ((View.wordExact_bits rfl).reshape _ _) (Memref.isWhole_whole _).wordExact)
  let p ← Scf.Loop.for k1_t1_loop k1_t1_ok (toTup (kept0 (F := F))) (chunkBody i lanes)
  pure ⟨(rounds lanes (ofTup p).t (ofTup p).d).pay, addi (muli lanes (broadcast S16 200#32)) (broadcast S16 g)⟩

/-- What follows: places and indices stored, and the indices scattered. -/
def rowPut (r : Σ' (_ : IVec S16 32), IVec S16 32) : TileProg PUnit := do
  let _ : Vec F S16 .i32 ← Prog.lift (.load placeM (Rect.unit (s := S16) ![0] S16.size inb_S16_S16_0).toLoadRect (View.loadsAt_vmem h_S16))
  Prog.lift (.store placeM (Rect.unit (s := S16) ![0] S16.size inb_S16_S16_0) (shapeCast S16 r.2 shapeCasts_S16_S16 : IVec S16 32) Finset.univ (View.stores_vmem_bits_univ h_S16 rfl) (.inl rfl))
  let _ : Vec F S16 .i32 ← Prog.lift (.load payM (Rect.unit (s := S16) ![0] S16.size inb_S16_S16_0).toLoadRect (View.loadsAt_vmem h_S16))
  Prog.lift (.store payM (Rect.unit (s := S16) ![0] S16.size inb_S16_S16_0) (shapeCast S16 r.1 shapeCasts_S16_S16 : IVec S16 32) Finset.univ (View.stores_vmem_bits_univ h_S16 rfl) (.inl rfl))
  SparseCore.enqueueIndirectScatter rfl payM outM gathers_S3200_S16 placeM rfl cc1_scratch4.sem rfl (Or.inl rfl)
  SparseCore.waitIndirectScatter cc1_scratch4.sem payM outM (Memref.isWhole_whole _).wordExact (View.wordExact_bits rfl)
  pure ⟨⟩

/-! ## The seven copies -/

section Copies

set_option maxRecDepth 65536
set_option maxHeartbeats 4000000

theorem assoc3 {E : Type → Type} {A B C D G : Type} (x : Prog E A) (y : Prog E B) (z : Prog E C) (g : C → D) (f : D → Prog E G) :
    ((do let _ ← x; let _ ← y; let c ← z; pure (g c)) >>= f) = (do let _ ← x; let _ ← y; let c ← z; f (g c)) := by
  simp only [bind_assoc, pure_bind]

theorem congr3 {E : Type → Type} {A B C G : Type} (x : Prog E A) (y : Prog E B) {z z' : Prog E C} {f f' : C → Prog E G} (hz : z = z')
    (h : ∀ c, f c = f' c) : (do let _ ← x; let _ ← y; let c ← z; f c) = (do let _ ← x; let _ ← y; let c ← z'; f' c) := by
  rw [hz, funext h]

theorem find1 (lanes : L16) (g : BitVec 32) :
    k1_part53 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off2 i) (k1_off2_inb i) cc1_scoped1 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find2 (lanes : L16) (g : BitVec 32) :
    k1_part106 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off5 i) (k1_off5_inb i) cc1_scoped2 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find3 (lanes : L16) (g : BitVec 32) :
    k1_part159 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off8 i) (k1_off8_inb i) cc1_scoped3 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find4 (lanes : L16) (g : BitVec 32) :
    k1_part212 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off11 i) (k1_off11_inb i) cc1_scoped4 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find5 (lanes : L16) (g : BitVec 32) :
    k1_part265 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off14 i) (k1_off14_inb i) cc1_scoped5 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find6 (lanes : L16) (g : BitVec 32) :
    k1_part318 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g
      = rowFind i (k1_off17 i) (k1_off17_inb i) cc1_scoped6 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

theorem find7 (lanes : L16) (g : BitVec 32) (w : BitVec 32) (hw : k1_chk1 i w) (h7 : k1_cond7 i w = 1#1) :
    k1_part371 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7 lanes g w hw h7
      = rowFind i (k1_off20 i) (k1_off20_inb i w hw h7) cc1_scoped7 lanes g := by
  refine (assoc3 (A := _) (B := _) (Prog.lift _) (Prog.lift _) (Scf.Loop.for _ _ _ _) _ _).trans ?_
  refine congr3 _ _ rfl (fun (a0, a1, a2, a3, a4, a5, a6, a7, a8, b0, b1, b2, b3, b4, b5, b6, b7, b8) => ?_)
  rfl

end Copies

end Cert.Proof.Row

end
-- ==== Proof.Body.lean ====
/-
  ONE TILE'S PROGRAM, WRITTEN AS SEVEN EQUAL STEPS

  The kernel's text for a tile repeats one step seven times: read the row's flag, and if the row exists and its flag
  is set, search the row and scatter what was found.  Here that step is written once (`rowIf`), and the kernel's text is
  shown to be seven of them in a row.
-/
module

public import proofs.«01_k».proof.Proof.Row

@[expose] public section

noncomputable section

namespace Cert.Proof.Row

open Cert.KernelIdeal Cert.KernelIdeal.Gen
open Idealize.ShloMosaic
open Idealize.SL.Sem
open Cert.Proof.Rounds

variable {F : FTy → Type} [FloatOps F] (i : grid1.Coords)

local notation "TileProg" => Prog (TpuEff nD τ sig (Elt F) Λ₀ (Proc.scVector (Fin.castLE hcore1 (i 0)) (Fin.castLE hsub1 (i 1))))

abbrev lanes : L16 := iota .scVector S16 32 [0] iota_S16_d0_w32_scVector

/-- The tile's number as the program computes it, and the number of its `j`-th row. -/
def tileNo : BitVec 32 := Scalar.addi (Scalar.muli (BitVec.ofNat 32 (i 1).val) 2#32) (BitVec.ofNat 32 (i 0).val)
def rowNo (n : BitVec 32) : BitVec 32 := Scalar.addi (tileNo i) n

/-- The flag read: the first of the sixteen words loaded. -/
def wordOf (x : L16) : BitVec 32 := extractAt ![0] (extractStridedSlice S1 ![0] (shapeCast S16 x shapeCasts_S16_S16 : IVec S16 32) slices_S16_o0_S1 : IVec S1 32) inpos_S1_p0

/-- Whether row `g` is searched: it exists and its flag is set. -/
def flagged (g w : BitVec 32) : BitVec 1 := Scalar.cmpi .ne (Scalar.extui (Scalar.andi (Scalar.cmpi .slt g 200#32) (Scalar.cmpi .ne w 0#32)) : BitVec 32) 0#32

/-- What follows a search, then `k`. -/
def rowPutThen {α : Type} (r : Σ' (_ : IVec S16 32), IVec S16 32) (k : TileProg α) : TileProg α := do
  let _ : Vec F S16 .i32 ← Prog.lift (.load placeM (Rect.unit (s := S16) ![0] S16.size inb_S16_S16_0).toLoadRect (View.loadsAt_vmem h_S16))
  Prog.lift (.store placeM (Rect.unit (s := S16) ![0] S16.size inb_S16_S16_0) (shapeCast S16 r.2 shapeCasts_S16_S16 : IVec S16 32) Finset.univ (View.stores_vmem_bits_univ h_S16 rfl) (.inl rfl))
  let _ : Vec F S16 .i32 ← Prog.lift (.load payM (Rect.unit (s := S16) ![0] S16.size inb_S16_S16_0).toLoadRect (View.loadsAt_vmem h_S16))
  Prog.lift (.store payM (Rect.unit (s := S16) ![0] S16.size inb_S16_S16_0) (shapeCast S16 r.1 shapeCasts_S16_S16 : IVec S16 32) Finset.univ (View.stores_vmem_bits_univ h_S16 rfl) (.inl rfl))
  SparseCore.enqueueIndirectScatter rfl payM outM gathers_S3200_S16 placeM rfl cc1_scratch4.sem rfl (Or.inl rfl)
  SparseCore.waitIndirectScatter cc1_scratch4.sem payM outM (Memref.isWhole_whole _).wordExact (View.wordExact_bits rfl)
  k

theorem rowPutThen_eq {α : Type} (r : Σ' (_ : IVec S16 32), IVec S16 32) (k : TileProg α) : rowPutThen (F := F) i r k = (rowPut i r >>= fun _ => k) := by
  unfold rowPutThen rowPut
  simp only [bind_assoc, pure_bind]

/-- The flags' sixteen words from `off`. -/
def flagRead (off : Fin 1 → ℕ) (inb : ∀ a, off a + S16.size a ≤ S256.size a) : TileProg (Vec F S16 .i32) :=
  Prog.lift (.load flM (Rect.unit (s := S256) off S16.size inb).toLoadRect (View.loadsAt_vmem h_S16))

/-- One step: row `g`, whose flag word is `w`, searched and scattered if it is to be; then `k`. -/
def rowIf {α : Type} (off : Fin 2 → ℕ) (inb : ∀ a, off a + S1x5456.size a ≤ S200x5456.size a) (s : DmaSems sig S_) (g w : BitVec 32) (k : TileProg α) : TileProg α :=
  if flagged g w = 1#1 then rowFind i off inb s lanes g >>= fun r => rowPutThen i r k else k

/-- The flags copied in, the first three steps, and the fourth row's flag read. -/
def firstPart : TileProg (Σ' (_ : BitVec 32) (_ : IVec S16 32) (_ : BitVec 32), Vec F S16 .i32) := do
  Prog.lift (.enqueueDma fM (.here flM) (.dma cc1_scoped0.sem) (Memref.isWhole_whole _).wordExact (Memref.isWhole_whole _).wordExact ⟨Or.inl rfl, trivial⟩)
  Prog.lift (.waitDma2 cc1_scoped0.sem fM flM (Memref.isWhole_whole _).wordExact (Memref.isWhole_whole _).wordExact)
  let x0 ← flagRead i (k1_off1 i) (k1_off1_inb i)
  rowIf i (k1_off2 i) (k1_off2_inb i) cc1_scoped1 (rowNo i 0#32) (wordOf x0) do
  let x1 ← flagRead i (k1_off4 i) (k1_off4_inb i)
  rowIf i (k1_off5 i) (k1_off5_inb i) cc1_scoped2 (rowNo i 32#32) (wordOf x1) do
  let x2 ← flagRead i (k1_off7 i) (k1_off7_inb i)
  rowIf i (k1_off8 i) (k1_off8_inb i) cc1_scoped3 (rowNo i 64#32) (wordOf x2) do
  let x3 ← flagRead i (k1_off10 i) (k1_off10_inb i)
  pure ⟨tileNo i, lanes, rowNo i 96#32, x3⟩

/-- The next three steps, and the last row's flag read. -/
def secondPart (x3 : L16) : TileProg (Σ' (_ : BitVec 32) (v74 : BitVec 32), k1_chk1 i v74) := do
  rowIf i (k1_off11 i) (k1_off11_inb i) cc1_scoped4 (rowNo i 96#32) (wordOf x3) do
  let x4 ← flagRead i (k1_off13 i) (k1_off13_inb i)
  rowIf i (k1_off14 i) (k1_off14_inb i) cc1_scoped5 (rowNo i 128#32) (wordOf x4) do
  let x5 ← flagRead i (k1_off16 i) (k1_off16_inb i)
  rowIf i (k1_off17 i) (k1_off17_inb i) cc1_scoped6 (rowNo i 160#32) (wordOf x5) do
  let x6 ← flagRead i (k1_off19 i) (k1_off19_inb i)
  let h ← Prog.lift (TpuEff.assume (k1_chk1 i (wordOf x6)) (k1_chk1.dec i (wordOf x6)))
  pure ⟨rowNo i 192#32, wordOf x6, h.down⟩

section Equal

set_option maxRecDepth 65536
set_option maxHeartbeats 4000000

theorem firstPart_eq :
    k1_part372 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7
      = firstPart i := by
  unfold k1_part372 firstPart rowIf
  rw [← find1, ← find2, ← find3]
  rfl

theorem secondPart_eq (x3 : L16) :
    k1_part373 (F := F) i wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7
        (tileNo i) lanes (rowNo i 96#32) x3
      = secondPart i x3 := by
  unfold k1_part373 secondPart rowIf
  rw [← find4, ← find5, ← find6]
  rfl

end Equal

end Cert.Proof.Row

end
-- ==== Proof.Setup.lean ====
/-
  The program as the launch theorem of the SparseCore calls sees it, and the ghost state the proof runs over.
-/
module

public import proofs.«01_k».proof.Proof.Body
public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import Idealize.ShloMosaic.Lib.VecWindow

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rounds Cert.Proof.Row

variable {F : FTy → Type}

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The two TensorCore calls' staging cells are accounted for in the second component. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- The SparseCore call's operands, as @main's TensorCore names them. -/
abbrev wLoc (d : Dev nD) : Loc nD τ sig := (SparseCore.T d).loc main_v5_0
abbrev fLoc (d : Dev nD) : Loc nD τ sig := (SparseCore.T d).loc main_v7
abbrev oLoc (d : Dev nD) : Loc nD τ sig := (SparseCore.T d).loc main_v8

/-- The number of the tile `s` of SparseCore `c`, and its share of what every tile reads. -/
def wid (c : Fin 2) (s : Fin 16) : Fin 32 := ⟨2 * s.val + c.val, by omega⟩
abbrev tq (t : Fin 32) : PosShare TreeShare := Transfers.shareTokN fullShare t.val

/-- The places of the output that tile `t` writes: those of the rows `g` with `g ≡ t` modulo 32. -/
def oSet (t : Fin 32) : Finset S3200.Idx := Finset.univ.filter fun k => ((k 0).val % 200) % 32 = t.val

end Cert.Proof

end
-- ==== Proof.TcA.lean ====
/-
  The first TensorCore call: what its one step leaves in its three results, as functions of its six operands.
-/
module

public import proofs.«01_k».proof.Proof.Setup
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Pipeline.ValueKit
public import Idealize.ShloMosaic.Lib.Pipeline.RegionArraysS

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- The weights the first call writes, one row per box. -/
def wtA (x0 : Vec F S3x5456 .f32) (x1 : Vec F S200x4 .f32) (x2 x3 : Vec F S80x2 .f32) (x4 : Vec F S200x1 .i32) : Vec F S200x5456 .f32 :=
  k0_pay14 (k0_pay2 (View.ld x0 (Rect.unit (s := S3x5456) ![0, 0] S1x5456.size inb_S3x5456_S1x5456_0_0)))
    (k0_pay3 (View.ld x0 (Rect.unit (s := S3x5456) ![1, 0] S1x5456.size inb_S3x5456_S1x5456_1_0)))
    (k0_pay4 (View.ld x0 (Rect.unit (s := S3x5456) ![2, 0] S1x5456.size inb_S3x5456_S1x5456_2_0)))
    (k0_pay5 (View.ld x1 (Rect.unit (s := S200x4) ![0, 0] S200x1.size inb_S200x4_S200x1_0_0))
      (View.ld x1 (Rect.unit (s := S200x4) ![0, 2] S200x1.size inb_S200x4_S200x1_0_2)))
    (k0_pay6 (View.ld x1 (Rect.unit (s := S200x4) ![0, 1] S200x1.size inb_S200x4_S200x1_0_1))
      (View.ld x1 (Rect.unit (s := S200x4) ![0, 3] S200x1.size inb_S200x4_S200x1_0_3)))
    (k0_pay10 x4 x2) (k0_pay11 x4 x2) (k0_pay12 x4 x3) (k0_pay13 x4 x3) (Scalar.ofBits .f32 0x3F000000#32)

/-- After one store over the whole of a buffer, the buffer holds what was stored. -/
theorem read_writes_full {s : Shape} {e : EltTy} {κ : Kind} {sp : Space} (v : View sig κ sp s e) {off : Fin s.rank → Nat}
    (h : ∀ a, off a = 0) (inb : ∀ a, off a + s.size a ≤ s.size a) (f : v.ty.Contents (Elt F)) (w : Vec F s e) :
    v.read (Elt F) (v.writes (Elt F) f [⟨Rect.unit off s.size inb, w⟩]) = w := by
  have hc := View.canon_cons_unit_zero (Val := Elt F) (View.eq_zero_of_forall h) inb w []
  have hm : ∀ y : s.Idx, y ∈ (Rect.unit off s.size inb).set := fun y =>
    Rect.mem_set_unit.mpr fun a => ⟨by rw [h a]; exact Nat.zero_le _, by rw [h a, Nat.zero_add]; exact (y a).isLt⟩
  rw [View.read_writes_eq_canon v f [⟨Rect.unit off s.size inb, w⟩] fun y => ⟨_, List.mem_singleton.mpr rfl, hm y⟩]
  exact hc

/-- A load of the whole of a buffer gives what it holds. -/
theorem readAt_full {s : Shape} {e : EltTy} {κ : Kind} {sp : Space} (v : View sig κ sp s e) {off : Fin s.rank → Nat}
    (h : ∀ a, off a = 0) (inb : ∀ a, off a + s.size a ≤ s.size a) (f : v.ty.Contents (Elt F)) :
    v.readAt (Elt F) (Rect.unit off s.size inb).toLoadRect f = v.read (Elt F) f :=
  View.ld_unit_zero (View.eq_zero_of_forall h) inb _

/-- A buffer held at contents that read `x` is owned at `x`. -/
theorem owns_of {s : Shape} {e : EltTy} {sp : Space} {d : Dev nD} {m : Memref sig .tc sp s e}
    {f : m.view.ty.Contents (Elt F)} {x : Vec F s e} (h : m.view.read (Elt F) f = x) :
    (m.view.loc (T d) ↦[m.view.set]{fullShare} f : sProp 𝕄) ⊢ iprop(∃ g, ⌜m.view.read (Elt F) g = x⌝ ∗ (m.view.loc (T d) ↦[m.view.set]{fullShare} g)) := by
  iintro H
  iexists f; isplitr
  · ipureintro; exact h
  · iexact H

set_option maxRecDepth 65536 in
/-- The step of the first call, over any nine whole buffers. -/
theorem bodyA_wp (d : Dev nD) (E : Set ℕ)
    (a0 : Memref sig .tc .vmem S3x5456 .f32) (h0 : a0.IsWhole) (a1 : Memref sig .tc .vmem S200x4 .f32) (h1 : a1.IsWhole)
    (a2 : Memref sig .tc .vmem S80x2 .f32) (h2 : a2.IsWhole) (a3 : Memref sig .tc .vmem S80x2 .f32) (h3 : a3.IsWhole)
    (a4 : Memref sig .tc .vmem S200x1 .i32) (h4 : a4.IsWhole) (a5 : Memref sig .tc .vmem S5456x200 .i8) (h5 : a5.IsWhole)
    (a6 : Memref sig .tc .vmem S200x5456 .f32) (h6 : a6.IsWhole) (a7 : Memref sig .tc .vmem S8x256 .i32) (h7 : a7.IsWhole)
    (a8 : Memref sig .tc .vmem S8x200 .f32) (h8 : a8.IsWhole)
    (x0 : Vec F S3x5456 .f32) (x1 : Vec F S200x4 .f32) (x2 x3 : Vec F S80x2 .f32) (x4 : Vec F S200x1 .i32) (x5 : Vec F S5456x200 .i8)
    (y6 : Vec F S200x5456 .f32) (y7 : Vec F S8x256 .i32) (y8 : Vec F S8x200 .f32) :
    (iprop(owns (T d) a0 fullShare x0 ∗ owns (T d) a1 fullShare x1 ∗ owns (T d) a2 fullShare x2 ∗ owns (T d) a3 fullShare x3
        ∗ owns (T d) a4 fullShare x4 ∗ owns (T d) a5 fullShare x5 ∗ owns (T d) a6 fullShare y6 ∗ owns (T d) a7 fullShare y7
        ∗ owns (T d) a8 fullShare y8) : sProp 𝕄)
      ⊢ wp frame (wpE (defs₀ (F := F)) 𝒱₀ (T d) none) E (cc0__body_a a0 h0 a1 h1 a2 h2 a3 h3 a4 h4 a5 h5 a6 h6 a7 h7 a8 h8)
          fun _ => iprop(owns (T d) a0 fullShare x0 ∗ owns (T d) a1 fullShare x1 ∗ owns (T d) a2 fullShare x2 ∗ owns (T d) a3 fullShare x3
            ∗ owns (T d) a4 fullShare x4 ∗ owns (T d) a5 fullShare x5 ∗ owns (T d) a6 fullShare (wtA x0 x1 x2 x3 x4)
            ∗ owns (T d) a7 fullShare (k0_pay16 x5) ∗ owns (T d) a8 fullShare (k0_pay1 (k0_pay15 x5))) := by
  rw [cc0__body_a_eq_skeleton]
  unfold cc0__body_a_skel
  rw [k0_part1_eq_skeleton, k0_part2_eq_skeleton]
  unfold k0_part1_skel k0_part2_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  subst e0 e1 e2 e3 e4 e5
  sl_exec
  sl_step
  have hz : ∀ a : Fin 2, (![0, 0] : Fin 2 → ℕ) a = 0 := by decide
  have e7' := read_writes_full a7.view hz inb_S8x256_S8x256_0_0 f7 (k0_pay16 (a5.view.read (Elt F) f5))
  have e8' := read_writes_full a8.view hz inb_S8x200_S8x200_0_0 f8 (k0_pay1 (k0_pay15 (a5.view.read (Elt F) f5)))
  rw [readAt_full a4.view hz, readAt_full a2.view hz, readAt_full a3.view hz, readAt_full a5.view hz]
  isplitl [H0]; · iapply (owns_of (f := f0) rfl) $$ H0
  isplitl [H1]; · iapply (owns_of (f := f1) rfl) $$ H1
  isplitl [H2]; · iapply (owns_of (f := f2) rfl) $$ H2
  isplitl [H3]; · iapply (owns_of (f := f3) rfl) $$ H3
  isplitl [H4]; · iapply (owns_of (f := f4) rfl) $$ H4
  isplitl [H5]; · iapply (owns_of (f := f5) rfl) $$ H5
  isplitl [H6]
  · iexists _; isplitr [H6]
    rotate_left
    · iexact H6
    · ipureintro
      exact (read_writes_full a6.view hz _ f6 _).trans rfl
  isplitl [H7]; · iapply (owns_of e7') $$ H7
  iapply (owns_of e8') $$ H8

end Cert.Proof

end
-- ==== Proof.TcC.lean ====
/-
  The second TensorCore call: what one of its two steps leaves in its two results, as functions of its nine operands' blocks.
-/
module

public import proofs.«01_k».proof.Proof.TcA

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- The squared-distance weights of one block of points. -/
def wC (x0 : Vec F S2728x2 .f32) (x1 : Vec F S2728x1 .f32) (x2 : Vec F S4x200 .f32) (x3 x4 : Vec F S80x2 .f32) (x5 : Vec F S1x200 .i32) :
    FVec F S2728x200 .f32 :=
  k2_pay11 (k2_pay4 (View.ld x0 (Rect.unit (s := S2728x2) ![0, 0] S2728x1.size inb_S2728x2_S2728x1_0_0)))
    (k2_pay5 (View.ld x0 (Rect.unit (s := S2728x2) ![0, 1] S2728x1.size inb_S2728x2_S2728x1_0_1))) x1
    (k2_pay6 (View.ld x2 (Rect.unit (s := S4x200) ![0, 0] S1x200.size inb_S4x200_S1x200_0_0))
      (View.ld x2 (Rect.unit (s := S4x200) ![2, 0] S1x200.size inb_S4x200_S1x200_2_0)))
    (k2_pay7 (View.ld x2 (Rect.unit (s := S4x200) ![1, 0] S1x200.size inb_S4x200_S1x200_1_0))
      (View.ld x2 (Rect.unit (s := S4x200) ![3, 0] S1x200.size inb_S4x200_S1x200_3_0)))
    (k2_pay8 x5) (k2_pay9 x5 (View.ld x3 (Rect.unit (s := S80x2) ![0, 0] S80x1.size inb_S80x2_S80x1_0_0)))
    (k2_pay10 (View.ld x3 (Rect.unit (s := S80x2) ![0, 1] S80x1.size inb_S80x2_S80x1_0_1)))
    (View.ld x4 (Rect.unit (s := S80x2) ![0, 0] S80x1.size inb_S80x2_S80x1_0_0))
    (View.ld x4 (Rect.unit (s := S80x2) ![0, 1] S80x1.size inb_S80x2_S80x1_0_1))

/-- Row `k` of the sixteen rows of chosen points. -/
abbrev ixRow (x8 : Vec F S16x200 .i32) (k : ℕ) (h : ∀ a, (![k, 0] : Fin 2 → ℕ) a + S1x200.size a ≤ S16x200.size a) : Vec F S1x200 .i32 :=
  View.ld x8 (Rect.unit (s := S16x200) ![k, 0] S1x200.size h)

/-- Which of the first seven chosen points of each box are points of the block. -/
def hitC (a : BitVec 32) (x8 : Vec F S16x200 .i32) : IVec S2728x200 1 :=
  k2_pay15 a (ixRow x8 0 inb_S16x200_S1x200_0_0) (ixRow x8 1 inb_S16x200_S1x200_1_0) (ixRow x8 2 inb_S16x200_S1x200_2_0) (ixRow x8 3 inb_S16x200_S1x200_3_0) (ixRow x8 4 inb_S16x200_S1x200_4_0) (ixRow x8 5 inb_S16x200_S1x200_5_0) (ixRow x8 6 inb_S16x200_S1x200_6_0)

/-- The mask the step writes. -/
def maskC (a : BitVec 32) (x6 : Vec F S8x200 .f32) (x7 : Vec F S2728x200 .i8) (x8 : Vec F S16x200 .i32) : Vec F S2728x200 .i32 :=
  k2_pay2 (k2_pay12 x7) (k2_pay13 (View.ld x6 (Rect.unit (s := S8x200) ![0, 0] S1x200.size inb_S8x200_S1x200_0_0))) (k2_pay14 a)
    (hitC a x8) (k2_pay16 (ixRow x8 7 inb_S16x200_S1x200_7_0)) (ixRow x8 8 inb_S16x200_S1x200_8_0)

/-- The masked weights the step writes. -/
def outC (a : BitVec 32) (x0 : Vec F S2728x2 .f32) (x1 : Vec F S2728x1 .f32) (x2 : Vec F S4x200 .f32) (x3 : Vec F S80x2 .f32) (x4 : Vec F S80x2 .f32) (x5 : Vec F S1x200 .i32) (x6 : Vec F S8x200 .f32) (x7 : Vec F S2728x200 .i8) (x8 : Vec F S16x200 .i32) : Vec F S2728x200 .f32 :=
  k2_pay3 (wC x0 x1 x2 x3 x4 x5) (k2_pay12 x7) (k2_pay13 (View.ld x6 (Rect.unit (s := S8x200) ![0, 0] S1x200.size inb_S8x200_S1x200_0_0)))
    (k2_pay14 a) (hitC a x8) (k2_pay16 (ixRow x8 7 inb_S16x200_S1x200_7_0)) (ixRow x8 8 inb_S16x200_S1x200_8_0)

set_option maxRecDepth 65536 in
/-- The step of the second call at grid point `i`, over any eleven whole buffers. -/
theorem bodyC_wp (d : Dev nD) (E : Set ℕ) (i : grid2.Coords)
    (a0 : Memref sig .tc .vmem S2728x2 .f32) (h0 : a0.IsWhole) (a1 : Memref sig .tc .vmem S2728x1 .f32) (h1 : a1.IsWhole) (a2 : Memref sig .tc .vmem S4x200 .f32) (h2 : a2.IsWhole) (a3 : Memref sig .tc .vmem S80x2 .f32) (h3 : a3.IsWhole) (a4 : Memref sig .tc .vmem S80x2 .f32) (h4 : a4.IsWhole) (a5 : Memref sig .tc .vmem S1x200 .i32) (h5 : a5.IsWhole) (a6 : Memref sig .tc .vmem S8x200 .f32) (h6 : a6.IsWhole) (a7 : Memref sig .tc .vmem S2728x200 .i8) (h7 : a7.IsWhole) (a8 : Memref sig .tc .vmem S16x200 .i32) (h8 : a8.IsWhole) (a9 : Memref sig .tc .vmem S2728x200 .f32) (h9 : a9.IsWhole) (a10 : Memref sig .tc .vmem S2728x200 .i32) (h10 : a10.IsWhole)
    (x0 : Vec F S2728x2 .f32) (x1 : Vec F S2728x1 .f32) (x2 : Vec F S4x200 .f32) (x3 : Vec F S80x2 .f32) (x4 : Vec F S80x2 .f32) (x5 : Vec F S1x200 .i32) (x6 : Vec F S8x200 .f32) (x7 : Vec F S2728x200 .i8) (x8 : Vec F S16x200 .i32)
    (y9 : Vec F S2728x200 .f32) (y10 : Vec F S2728x200 .i32) :
    (iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ owns (T d) a7 fullShare x7 ∗ owns (T d) a8 fullShare x8 ∗ owns (T d) a9 fullShare y9 ∗ owns (T d) a10 fullShare y10) : sProp 𝕄)
      ⊢ wp frame (wpE (defs₀ (F := F)) 𝒱₀ (T d) none) E (cc2__body_c i a0 h0 a1 h1 a2 h2 a3 h3 a4 h4 a5 h5 a6 h6 a7 h7 a8 h8 a9 h9 a10 h10)
          fun _ => iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ owns (T d) a7 fullShare x7 ∗ owns (T d) a8 fullShare x8
            ∗ owns (T d) a9 fullShare (outC (BitVec.ofNat 32 (i 0).val) x0 x1 x2 x3 x4 x5 x6 x7 x8)
            ∗ owns (T d) a10 fullShare (maskC (BitVec.ofNat 32 (i 0).val) x6 x7 x8)) := by
  rw [cc2__body_c_eq_skeleton]
  unfold cc2__body_c_skel
  rw [k2_part1_eq_skeleton, k2_part2_eq_skeleton, k2_part3_eq_skeleton]
  unfold k2_part1_skel k2_part2_skel k2_part3_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩
  subst e0 e1 e2 e3 e4 e5 e6 e7 e8
  sl_exec
  sl_step
  have hz : ∀ a : Fin 2, (![0, 0] : Fin 2 → ℕ) a = 0 := by decide
  rw [readAt_full a1.view hz, readAt_full a5.view hz, readAt_full a7.view hz]
  isplitl [H0]; · iapply (owns_of (f := f0) rfl) $$ H0
  isplitl [H1]; · iapply (owns_of (f := f1) rfl) $$ H1
  isplitl [H2]; · iapply (owns_of (f := f2) rfl) $$ H2
  isplitl [H3]; · iapply (owns_of (f := f3) rfl) $$ H3
  isplitl [H4]; · iapply (owns_of (f := f4) rfl) $$ H4
  isplitl [H5]; · iapply (owns_of (f := f5) rfl) $$ H5
  isplitl [H6]; · iapply (owns_of (f := f6) rfl) $$ H6
  isplitl [H7]; · iapply (owns_of (f := f7) rfl) $$ H7
  isplitl [H8]; · iapply (owns_of (f := f8) rfl) $$ H8
  isplitl [H9]
  · iexists _; isplitr [H9]
    rotate_left
    · iexact H9
    · ipureintro
      exact (read_writes_full a9.view hz _ f9 _).trans rfl
  · iexists _; isplitr [H10]
    rotate_left
    · iexact H10
    · ipureintro
      exact (read_writes_full a10.view hz _ f10 _).trans rfl

end Cert.Proof

end
-- ==== Proof.Region.lean ====
/-
  The two TensorCore calls as regions of the program: what each window's block holds at each step, the step's obligation,
  and each region entered from and left with the device's buffers at known contents.
-/
module

public import proofs.«01_k».proof.Proof.TcC

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.Pipeline (arrRef arrRefs scopedRest BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- No pipeline prefetches a table. -/
abbrev adm : (p : Fin 2) → (pcfgs (F := F) p).Adm := fun p => (cfgs p).toPCfg_adm

/-- The block of window `w` of the first call, out of the buffers' contents `U`. -/
abbrev blkA (U : Valuation τ sig (Elt F)) (w : Fin cfg0.W) (t : Fin cfg0.N) : ((cfg0.win w).xblock (cfg0.grid.coords t)).Idx → Elt F (cfg0.win w).elt :=
  ((cfg0.win w).blk t).view.read (Elt F) (U (Proc.devRef .tc (arrRef spec0 w)))

/-- The block of window `w` of the second call at step `t`. -/
abbrev blkC (U : Valuation τ sig (Elt F)) (w : Fin cfg2.W) (t : Fin cfg2.N) : ((cfg2.win w).xblock (cfg2.grid.coords t)).Idx → Elt F (cfg2.win w).elt :=
  ((cfg2.win w).blk t).view.read (Elt F) (U (Proc.devRef .tc (arrRef spec2 w)))

/-- The first call, entered with the buffers at `U`, the core owing `O` with its waits within `B`. -/
def datA (U : Valuation τ sig (Elt F)) (O : CellTallies nD τ sig (HIx 1)) (B : Set (SemLoc sig × HIx 1)) (d : Dev nD) :
    Pipeline.Dat τ (Elt F) (HIx 1) ℕ UU ℕ cfg0 d where
  A w := U (Proc.devRef .tc (arrRef spec0 w))
  after w t := match w with
    | 0 => blkA U 0 t
    | 1 => blkA U 1 t
    | 2 => blkA U 2 t
    | 3 => blkA U 3 t
    | 4 => blkA U 4 t
    | 5 => blkA U 5 t
    | 6 => wtA (blkA U 0 t) (blkA U 1 t) (blkA U 2 t) (blkA U 3 t) (blkA U 4 t)
    | 7 => k0_pay16 (blkA U 5 t)
    | 8 => k0_pay1 (k0_pay15 (blkA U 5 t))
    | ⟨_ + 9, h⟩ => absurd h (Nat.not_lt.2 (Nat.le_add_left _ _))
  Φ _ := scopedRest spec0 d
  q _ := fullShare
  owed _ := O
  recorded _ := B

/-- The second call, likewise. -/
def datC (U : Valuation τ sig (Elt F)) (O : CellTallies nD τ sig (HIx 1)) (B : Set (SemLoc sig × HIx 1)) (d : Dev nD) :
    Pipeline.Dat τ (Elt F) (HIx 1) ℕ UU ℕ cfg2 d where
  A w := U (Proc.devRef .tc (arrRef spec2 w))
  after w t := match w with
    | 0 => blkC U 0 t
    | 1 => blkC U 1 t
    | 2 => blkC U 2 t
    | 3 => blkC U 3 t
    | 4 => blkC U 4 t
    | 5 => blkC U 5 t
    | 6 => blkC U 6 t
    | 7 => blkC U 7 t
    | 8 => blkC U 8 t
    | 9 => outC (BitVec.ofNat 32 (cfg2.grid.coords t 0).val) (blkC U 0 t) (blkC U 1 t) (blkC U 2 t) (blkC U 3 t) (blkC U 4 t) (blkC U 5 t)
        (blkC U 6 t) (blkC U 7 t) (blkC U 8 t)
    | 10 => maskC (BitVec.ofNat 32 (cfg2.grid.coords t 0).val) (blkC U 6 t) (blkC U 7 t) (blkC U 8 t)
    | ⟨_ + 11, h⟩ => absurd h (Nat.not_lt.2 (Nat.le_add_left _ _))
  Φ _ := scopedRest spec2 d
  q _ := fullShare
  owed _ := O
  recorded _ := B

/-- Both calls' proof data, for the buffers' contents at the call in question. -/
def dats (U : Dev nD → Valuation τ sig (Elt F)) (O : Dev nD → CellTallies nD τ sig (HIx 1)) (B : Dev nD → Set (SemLoc sig × HIx 1)) :
    (p : Fin 2) → (d : Dev nD) → Pipeline.Dat τ (Elt F) (HIx 1) ℕ UU ℕ (Pipeline.pin (pcfgs (F := F)) adm p) d
  | 0 => fun d => datA (U d) (O d) (B d) d
  | 1 => fun d => datC (U d) (O d) (B d) d

/-- A step that turns `A` into `A'`, run beside what it does not touch, its windows' buffers gathered before and dealt out after. -/
theorem step_frame {d : Dev nD} {p : Prog (TpuEff nD τ sig (Elt F) Λ₀ .tc) PUnit} {R₁ R₂ A A' W W' : sProp 𝕄} (hW : W ⊢ A)
    (h : A ⊢ wp frame (wpE (defs₀ (F := F)) 𝒱₀ (T d) none) Set.univ p fun _ => A') (hW' : A' ⊢ W') :
    iprop(R₁ ∗ R₂ ∗ W) ⊢ wp frame (wpE (defs₀ (F := F)) 𝒱₀ (T d) none) Set.univ p fun _ => iprop(R₁ ∗ R₂ ∗ W') := by
  refine BI.Entails.trans (sep_mono .rfl (sep_mono .rfl (hW.trans (h.trans (wp_mono _ _ _ fun _ => hW'))))) ?_
  exact (sep_mono .rfl (wp_frame_l _ _ _)).trans (wp_frame_l _ _ _)

section BodyA

variable (U : Valuation τ sig (Elt F)) (O : CellTallies nD τ sig (HIx 1)) (B : Set (SemLoc sig × HIx 1)) (d : Dev nD)

theorem beforeA_0 (t : Fin cfg0.N) (x) : (datA U O B d).before 0 t x = blkA U 0 t :=
  (datA U O B d).before_in_eq_fetched 0 rfl (fun _ => rfl) (fun _ _ _ => rfl) (fun _ => rfl) t x
theorem beforeA_1 (t : Fin cfg0.N) (x) : (datA U O B d).before 1 t x = blkA U 1 t :=
  (datA U O B d).before_in_eq_fetched 1 rfl (fun _ => rfl) (fun _ _ _ => rfl) (fun _ => rfl) t x
theorem beforeA_2 (t : Fin cfg0.N) (x) : (datA U O B d).before 2 t x = blkA U 2 t :=
  (datA U O B d).before_in_eq_fetched 2 rfl (fun _ => rfl) (fun _ _ _ => rfl) (fun _ => rfl) t x
theorem beforeA_3 (t : Fin cfg0.N) (x) : (datA U O B d).before 3 t x = blkA U 3 t :=
  (datA U O B d).before_in_eq_fetched 3 rfl (fun _ => rfl) (fun _ _ _ => rfl) (fun _ => rfl) t x
theorem beforeA_4 (t : Fin cfg0.N) (x) : (datA U O B d).before 4 t x = blkA U 4 t :=
  (datA U O B d).before_in_eq_fetched 4 rfl (fun _ => rfl) (fun _ _ _ => rfl) (fun _ => rfl) t x
theorem beforeA_5 (t : Fin cfg0.N) (x) : (datA U O B d).before 5 t x = blkA U 5 t :=
  (datA U O B d).before_in_eq_fetched 5 rfl (fun _ => rfl) (fun _ _ _ => rfl) (fun _ => rfl) t x

/-- The step's obligation of the first call. -/
theorem bodyA_obligation : BodyObligationLoose (datA U O B d) (defs₀ (F := F)) 𝒱₀ (none : HIx 1) Set.univ := fun t => by
  rw [bigSep_W0, bigSep_W0]
  rw [show (datA U O B d).Φ t.succ = (datA U O B d).Φ t.castSucc from rfl,
    show (datA U O B d).owesAt (none : HIx 1) t.succ = (datA U O B d).owesAt (none : HIx 1) t.castSucc from rfl]
  have h := fun y6 y7 y8 => bodyA_wp (F := F) d Set.univ (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0)
    (blkA U 0 t) (blkA U 1 t) (blkA U 2 t) (blkA U 3 t) (blkA U 4 t) (blkA U 5 t) y6 y7 y8
  iintro ⟨HΦ, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  rw [beforeA_0, beforeA_1, beforeA_2, beforeA_3, beforeA_4, beforeA_5]
  iapply (step_frame (d := d) .rfl (h ((datA U O B d).before 6 t x6) ((datA U O B d).before 7 t x7) ((datA U O B d).before 8 t x8)) .rfl)
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem beforeC_0 (t : Fin cfg2.N) (x) : (datC U O B d).before 0 t x = blkC U 0 t :=
  (datC U O B d).before_in_eq_fetched 0 rfl (fun _ => rfl) (fun _ _ _ => rfl) (fun _ => rfl) t x
theorem beforeC_1 (t : Fin cfg2.N) (x) : (datC U O B d).before 1 t x = blkC U 1 t :=
  (datC U O B d).before_in_eq_fetched 1 rfl (fun _ => rfl) (fun _ _ _ => rfl) (fun _ => rfl) t x
theorem beforeC_2 (t : Fin cfg2.N) (x) : (datC U O B d).before 2 t x = blkC U 2 t :=
  (datC U O B d).before_in_eq_fetched 2 rfl (fun _ => rfl) (fun _ _ _ => rfl) (fun _ => rfl) t x
theorem beforeC_3 (t : Fin cfg2.N) (x) : (datC U O B d).before 3 t x = blkC U 3 t :=
  (datC U O B d).before_in_eq_fetched 3 rfl (fun _ => rfl) (fun _ _ _ => rfl) (fun _ => rfl) t x
theorem beforeC_4 (t : Fin cfg2.N) (x) : (datC U O B d).before 4 t x = blkC U 4 t :=
  (datC U O B d).before_in_eq_fetched 4 rfl (fun _ => rfl) (fun _ _ _ => rfl) (fun _ => rfl) t x
theorem beforeC_5 (t : Fin cfg2.N) (x) : (datC U O B d).before 5 t x = blkC U 5 t :=
  (datC U O B d).before_in_eq_fetched 5 rfl (fun _ => rfl) (fun _ _ _ => rfl) (fun _ => rfl) t x
theorem beforeC_6 (t : Fin cfg2.N) (x) : (datC U O B d).before 6 t x = blkC U 6 t :=
  (datC U O B d).before_in_eq_fetched 6 rfl (fun _ => rfl) (fun _ _ _ => rfl) (fun _ => rfl) t x
theorem beforeC_7 (t : Fin cfg2.N) (x) : (datC U O B d).before 7 t x = blkC U 7 t :=
  (datC U O B d).before_in_eq_fetched 7 rfl (fun _ => rfl) (fun _ _ _ => rfl) (fun _ => rfl) t x
theorem beforeC_8 (t : Fin cfg2.N) (x) : (datC U O B d).before 8 t x = blkC U 8 t :=
  (datC U O B d).before_in_eq_fetched 8 rfl (fun _ => rfl) (fun _ _ _ => rfl) (fun _ => rfl) t x

/-- The step's obligation of the second call. -/
theorem bodyC_obligation : BodyObligationLoose (datC U O B d) (defs₀ (F := F)) 𝒱₀ (none : HIx 1) Set.univ := fun t => by
  rw [bigSep_W2, bigSep_W2]
  rw [show (datC U O B d).Φ t.succ = (datC U O B d).Φ t.castSucc from rfl,
    show (datC U O B d).owesAt (none : HIx 1) t.succ = (datC U O B d).owesAt (none : HIx 1) t.castSucc from rfl]
  have h := fun y9 y10 => bodyC_wp (F := F) d Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10))
    (blkC U 0 t) (blkC U 1 t) (blkC U 2 t) (blkC U 3 t) (blkC U 4 t) (blkC U 5 t) (blkC U 6 t) (blkC U 7 t) (blkC U 8 t) y9 y10
  iintro ⟨HΦ, HO, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩⟩
  rw [beforeC_0, beforeC_1, beforeC_2, beforeC_3, beforeC_4, beforeC_5, beforeC_6, beforeC_7, beforeC_8]
  iapply (step_frame (d := d) .rfl (h ((datC U O B d).before 9 t x9) ((datC U O B d).before 10 t x10)) .rfl)
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end BodyA

end Cert.Proof

end
-- ==== Proof.Seg.lean ====
/-
  Each TensorCore call, run from the device's buffers at known contents to the buffers at the contents it leaves.
-/
module

public import proofs.«01_k».proof.Proof.Region
public import Idealize.ShloMosaic.Lib.Pipeline.RegionArraysS

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.Pipeline (arrRef arrRefs scopedRest BodyObligationLoose ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-- Both calls' launch facts. -/
theorem kit : (p : Fin 2) → Pipeline.PLaunchFacts (nD := nD) (τ := τ) (pcfgs (F := F)) p
  | 0 => launch0.toP
  | 1 => launch2.toP

section Seg

variable (U : Dev nD → Valuation τ sig (Elt F)) (O : Dev nD → CellTallies nD τ sig (HIx 1)) (B : Dev nD → Set (SemLoc sig × HIx 1))

theorem dats_owed (p : Fin 2) (d : Dev nD) (t) : (dats U O B p d).owed t = O d := by
  match p with
  | 0 => rfl
  | 1 => rfl
theorem dats_recorded (p : Fin 2) (d : Dev nD) (t) : (dats U O B p d).recorded t = B d := by
  match p with
  | 0 => rfl
  | 1 => rfl
theorem dats_rest (p : Fin 2) (d : Dev nD) (t) : (dats U O B p d).Φ t = scopedRest (Pipeline.pin (pcfgs (F := F)) adm p).spec d := by
  match p with
  | 0 => exact congrArg (fun c : Pipeline.Cfg sig Λ₀ => (scopedRest c.spec d : sProp 𝕄)) (rfl : cfg0 = Pipeline.pin (pcfgs (F := F)) adm 0)
  | 1 => exact congrArg (fun c : Pipeline.Cfg sig Λ₀ => (scopedRest c.spec d : sProp 𝕄)) (rfl : cfg2 = Pipeline.pin (pcfgs (F := F)) adm 1)
theorem dats_share (p : Fin 2) (d : Dev nD) (w) : (dats U O B p d).share w = fullShare := by
  match p with
  | 0 => fin_cases w <;> rfl
  | 1 => fin_cases w <;> rfl
theorem dats_entry (p : Fin 2) (d : Dev nD) (w) : (dats U O B p d).arrAt w 0 = U d (Proc.devRef .tc (arrRef (Pipeline.pin (pcfgs (F := F)) adm p).spec w)) := by
  match p with
  | 0 => rfl
  | 1 => rfl
theorem dats_body (p : Fin 2) (d : Dev nD) : BodyObligationLoose (dats U O B p d) (defs₀ (F := F)) 𝒱₀ (none : HIx 1) Set.univ := by
  match p with
  | 0 => exact bodyA_obligation (U d) (O d) (B d) d
  | 1 => exact bodyC_obligation (U d) (O d) (B d) d
theorem no_table (p : Fin 2) : (pcfgs (F := F) p).pre.K = 0 := by
  match p with
  | 0 => rfl
  | 1 => rfl
theorem arr_unscoped (p : Fin 2) : arrRefs (τ := τ) (pcfgs (F := F) p).spec ⊆ ucRefs τ sig := by
  match p with
  | 0 => exact Pipeline.arrRefs_sub_ucRefs _ (by intro w; fin_cases w <;> rfl)
  | 1 => exact Pipeline.arrRefs_sub_ucRefs _ (by intro w; fin_cases w <;> rfl)

/-- What a device holds around a call: its buffers at `V`, and what it owes, its recorded waits within `B`. -/
abbrev around (d : Dev nD) (V : Valuation τ sig (Elt F)) (O : CellTallies nD τ sig (HIx 1)) (B : Set (SemLoc sig × HIx 1)) : sProp 𝕄 :=
  iprop(StableHlo.held (T d) (ucRefs τ sig) V ∗ ∃ W, ⌜∀ x ∈ W, x ∈ B⌝ ∗ owes (T d) O W)

/-- Call `p` as a region of the program. -/
def seg (hO : ∀ d g, O d g none = 0) (hB : ∀ p d, (Pipeline.pin (pcfgs (F := F)) adm p).waitPairs (none : HIx 1) ⊆ B d) (p : Fin 2) :
    Pipeline.RegionSeg (pcfgs (F := F)) adm (dats U O B) (none : HIx 1) (defs₀ (F := F)) 𝒱₀ (K (F := F)).L (K (F := F)).lev p where
  win := (kit (F := F) p).to₀.win
  block_pos := (kit (F := F) p).to₀.block_pos
  stage_whole := (kit (F := F) p).to₀.stage_whole
  K := PEmpty
  osem k := k.elim
  ho := Pipeline.OwnSemFacts.none _
  hbody := dats_body U O B p
  hwaits d := Pipeline.cellsWaits_intro (Pipeline.pin (pcfgs (F := F)) adm) (dats U O B) (none : HIx 1) p d fun w s t => by
    rw [dats_owed]
    exact (K (F := F)).mayWait_none _ (hO d)
  pre d := around d (U d) (O d) (B d)
  post d := around d (afterRegion (dats U O B p d) (U d)) (O d) (B d)
  X _ := iprop(emp)
  Y _ := iprop(emp)
  Z d := StableHlo.held (T d) (ucRefs τ sig \ arrRefs (pcfgs (F := F) p).spec) (U d)
  hentry d := by
    rw [Pipeline.ownSems0_none, Pipeline.prefHeld_of_none _ (no_table p),
      Pipeline.arrays_held (pcfgs (F := F)) adm (dats U O B) p (kit (F := F) p) d (dats_share U O B p d) _ (U d) (dats_entry U O B p d)]
    unfold around
    rw [StableHlo.held_sub_split (T d) (arr_unscoped (F := F) p) (U d)]
    iintro ⟨⟨⟨Ha, Hu⟩, HO⟩, -, -⟩
    imodintro
    isplitl [Ha]; · iexact Ha
    isplitr; · iempintro
    isplitl [HO]
    · unfold Pipeline.Dat.owesAt Pipeline.owesWithin Pipeline.Dat.bound
      rw [dats_owed, dats_recorded]
      icases HO with ⟨%W, %hW, HO⟩; iexists W; isplitr; · ipureintro; exact fun x hx => Or.inl (hW x hx)
      iexact HO
    isplitr; · iempintro
    iexact Hu
  hin d := by
    rw [dats_rest]
    iintro ⟨-, -, H⟩
    iexact H
  hout d := by
    rw [dats_rest, Pipeline.ownSems0_none]
    iintro H
    isplitr; · iempintro
    isplitr; · iempintro
    iexact H
  hexit d := by
    rw [Pipeline.arrays_held (pcfgs (F := F)) adm (dats U O B) p (kit (F := F) p) d (dats_share U O B p d) _ (afterRegion (dats U O B p d) (U d))
      (fun w => (Pipeline.afterRegion_arr (dats U O B p d) (U d) (kit (F := F) p).win.arr_inj w).symm)]
    unfold around
    rw [StableHlo.held_sub_split (T d) (arr_unscoped (F := F) p) (afterRegion (dats U O B p d) (U d)),
      StableHlo.held_congr (T d) (S := ucRefs τ sig \ arrRefs (pcfgs (F := F) p).spec) (V := afterRegion (dats U O B p d) (U d)) (V' := U d)
        (Pipeline.afterRegion_off (dats U O B p d) (U d) (ucRefs τ sig))]
    iintro ⟨Ha, HO, -, Hu⟩
    imodintro
    isplitl [Ha Hu]
    · isplitl [Ha]; · iexact Ha
      iexact Hu
    unfold Pipeline.Dat.owesAt Pipeline.owesWithin Pipeline.Dat.bound
    rw [dats_owed, dats_recorded]
    icases HO with ⟨%W, %hW, HO⟩; iexists W
    isplitr; · ipureintro; exact fun x hx => (hW hx).elim id fun h => hB p d h
    iexact HO

/-- Call `p` run on device `d`: from the buffers at `U d` to the buffers as the call leaves them. -/
theorem call_wp (hO : ∀ d g, O d g none = 0) (hB : ∀ p d, (Pipeline.pin (pcfgs (F := F)) adm p).waitPairs (none : HIx 1) ⊆ B d) (p : Fin 2)
    (d : Dev nD) (Φ : PUnit → sProp 𝕄) :
    iprop((boundary (T d) ∗ around d (afterRegion (dats U O B p d) (U d)) (O d) (B d) -∗ Φ ⟨⟩)
      ∗ boundary (T d) ∗ around d (U d) (O d) (B d) ∗ levAts (K (F := F)).L (K (F := F)).lev
      ∗ Pipeline.cellsGhost (Pipeline.pin (pcfgs (F := F)) adm) EP p d ∗ Pipeline.toksInit (Pipeline.pin (pcfgs (F := F)) adm) EP p d)
      ⊢ wp frame (wpE (K.defs (D (F := F))) 𝒱 (T d) none) Set.univ (Prog.lift (.customCall (SparseCore.inner (Pipeline.entry p)) ())) Φ := by
  refine BI.Entails.trans ?_ ((K (F := F)).wp_liftProg (D (F := F)) 𝒱 (T d) Set.univ none (Prog.op (.customCall (Pipeline.entry p) ()) .ret) Φ)
  refine BI.Entails.trans ?_ (Pipeline.RegionSeg.wp (pcfgs (F := F)) adm (dats U O B) (none : HIx 1) ((kit (F := F) 0).cellOf_inj adm) EP (defs₀ (F := F)) 𝒱₀
    (K (F := F)).L (K (F := F)).lev (seg U O B hO hB p) d none (fun _ h => nomatch h) .ret Φ)
  change iprop(_ ∗ boundary (T d) ∗ around d (U d) (O d) (B d) ∗ _)
    ⊢ iprop((boundary (T d) ∗ around d (afterRegion (dats U O B p d) (U d)) (O d) (B d) -∗ _) ∗ boundary (T d) ∗ around d (U d) (O d) (B d) ∗ _)
  iintro ⟨Hk, H⟩
  isplitl [Hk]
  · iintro H
    rw [wp_ret]
    imodintro
    iapply Hk
    iexact H
  iexact H

end Seg

end Cert.Proof

end
-- ==== Proof.Tile.lean ====
/-
  What a tile of the SparseCore kernel does: its rows, one after the other, each leaving at the row's places of the
  output the indices found for it.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rounds Cert.Proof.Row

variable {F : FTy → Type}

local notation "𝕄" => MT nD τ sig (HIx 1) (Elt F) ℕ UU ℕ

variable [FloatOps F]

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev thr : Thread nD τ := V d (cV L) (jV L)

/-- Row `g` of the weights. -/
def rowOfW (w : S200x5456.Idx → F .f32) (g : ℕ) : S5456.Idx → F .f32 :=
  fun x => w fun a => match a with | 0 => ⟨g % 200, Nat.mod_lt _ (by decide)⟩ | 1 => ⟨(x 0).val, (x 0).isLt⟩

variable (O : CellTallies nD τ sig (HIx 1)) (W : Waits sig (HIx 1))

/-- What the thread owes, some waits recorded. -/
def Owe : sProp 𝕄 := iprop(∃ W', ⌜∀ p ∈ W', p ∈ W ∨ p.2 = none⌝ ∗ owes (thr d L) O W')

/-- The row as the copy reads it. -/
theorem read_src (off : Fin 2 → ℕ) (inb : ∀ a, off a + S1x5456.size a ≤ S200x5456.size a) (g : ℕ) (hoff : off = ![g, 0])
    (w : S200x5456.Idx → F .f32) : (srcM off inb).view.read (Elt F) w = rowOfW w g := by
  subst hoff
  have hg : g < 200 := by have := inb 0; simpa [Shape.size] using this
  funext x
  show w ((Rect.unit (s := S200x5456) ![g, 0] S1x5456.size inb).emb (Shape.reshapeEquiv squeezes_S1x5456_S5456.numel_eq x)) = _
  unfold rowOfW
  have hx : Shape.reshapeEquiv squeezes_S1x5456_S5456.numel_eq x = (fun a => match a with | 0 => ⟨0, by decide⟩ | 1 => ⟨(x 0).val, (x 0).isLt⟩ : S1x5456.Idx) := by
    apply Shape.reshapeEquiv_eq_of_rowMajor
    rw [Shape.rowMajor_val_two, Shape.rowMajor_val_one]
    simp
  rw [hx]
  congr 1
  funext a
  match a with
  | 0 => exact Fin.ext (by simp [Rect.unit, Rect.emb, Nat.mod_eq_of_lt hg])
  | 1 => exact Fin.ext (by simp [Rect.unit, Rect.emb])

theorem cast_self {α : Type} (x : S16.Idx → α) : shapeCast S16 x shapeCasts_S16_S16 = x := by
  funext l
  show x (Shape.reshapeEquiv _ l) = x l
  rw [Shape.reshapeEquiv_self]

theorem trips_eq : k1_t1_loop.trips = 341 := by decide

/-- Chunk `k` as the loop loads it. -/
theorem read_chunk (fr : S5456.Idx → F .f32) (k : Fin k1_t1_loop.trips) :
    (shapeCast S16 ((rowM).view.readAt (Elt F) (Rect.unit (s := S5456) (k1_off3 k) S16.size (k1_off3_inb k)).toLoadRect fr) shapeCasts_S16_S16 : Vec F S16 .f32)
      = chunk fr k.val := by
  rw [cast_self]
  funext x
  show fr ((Rect.unit (s := S5456) (k1_off3 k) S16.size (k1_off3_inb k)).toLoadRect.idx x) = _
  unfold chunk
  congr 1
  funext a
  match a with
  | 0 =>
    apply Fin.ext
    have hk : k.val < 341 := trips_eq ▸ k.isLt
    have hx : (x 0).val < 16 := (x 0).isLt
    show (k1_off3 k) 0 + 1 * (x 0).val = (k.val * 16 + (x 0).val) % 5456
    have e : (k1_off3 k) 0 = 16 * k.val := congrFun (k1_off3_eq k) 0
    rw [Nat.mod_eq_of_lt (by omega)]
    omega

def loopInv (fr : Buf (Elt F) ((thr d L).loc cc1_scratch1)) (k : ℕ) (p : Tup F) : sProp 𝕄 :=
  iprop(⌜p = toTup (keptAfter lanes fr k)⌝ ∗ ((rowM).view.loc (thr d L) ↦{fullShare} fr))

theorem rowFind_wp (hO : ∀ g, O g none = 0) (off : Fin 2 → ℕ) (inb : ∀ a, off a + S1x5456.size a ≤ S200x5456.size a) (s : DmaSems sig S_)
    (g : BitVec 32) (q : PosShare TreeShare) (w : Buf (Elt F) (wLoc d)) (hoff : off = ![g.toNat, 0]) :
    iprop(levAts (K (F := F)).L (K (F := F)).lev ∗ (wLoc d ↦{q} w) ∗ (∃ f, (thr d L).loc cc1_scratch1 ↦{fullShare} f)
        ∗ semVal (thr d L, .dma s.sem) 0 ∗ Owe d L O W)
      ⊢ wp frame (wpE (defs₀ (F := F)) 𝒱₀ (thr d L) none) Set.univ (rowFind (F := F) L off inb s lanes g)
          fun r => iprop(⌜r = ⟨found lanes (rowOfW w g.toNat), addi (muli lanes (broadcast S16 200#32)) (broadcast S16 g)⟩⌝
            ∗ (wLoc d ↦{q} w) ∗ (∃ f, (thr d L).loc cc1_scratch1 ↦{fullShare} f) ∗ semVal (thr d L, .dma s.sem) 0 ∗ Owe d L O W) := by
  unfold rowFind Owe
  iintro ⟨#Hlv, Hw, ⟨%fr, Hr⟩, Hsem, %W', %hW', HO⟩
  ihave Hmw := (show levAts (K (F := F)).L (K (F := F)).lev ⊢ Transfers.MayWaits (thr d L) (default : HIx 1) O from
    (K (F := F)).mayWaits_none (thr := thr d L) hO) $$ Hlv
  ihave Hw' := (Entails.of_eq (show (wLoc d ↦{q} w : sProp 𝕄) = (wM).view.loc (thr d L) ↦{q} w from rfl)) $$ Hw
  ihave Hr' := (Entails.of_eq (show ((thr d L).loc cc1_scratch1 ↦{fullShare} fr : sProp 𝕄) = (rowM).view.loc (thr d L) ↦{fullShare} fr from rfl)) $$ Hr
  sl_exec
  sl_for (loopInv d L (rowOfW w g.toNat)) $$ [Hr']
  case region =>
    intro k p
    show _ ⊢ wp _ _ _ (chunkBody L lanes k p) _
    unfold loopInv chunkBody
    iintro ⟨%hp, Hr⟩
    sl_exec
    sl_step
    isplitr
    · ipureintro
      rw [hp, ofTup_toTup, read_chunk]; rfl
    · iexact Hr
  · unfold loopInv
    rw [View.write_whole_univ, show rowFind_wp.sl.dma0 d off inb w = rowOfW w g.toNat from read_src off inb _ hoff w]
    isplitr
    · ipureintro; rfl
    · iexact Hr'
  iintro %p HI
  unfold loopInv
  icases HI with ⟨%hp, Hr⟩
  sl_exec
  sl_step
  isplitr
  · ipureintro
    rw [hp, ofTup_toTup]; rfl
  isplitl [Hw']; · iexact Hw'
  isplitl [Hr]; · iexists _; iexact Hr
  isplitl [Hsem]; · iexact Hsem
  iexists _; isplitr
  swap; · iexact HO
  ipureintro; intro p hp
  rcases Finset.mem_insert.mp hp with hp | hp; · exact .inr (hp ▸ rfl)
  exact hW' p hp

/-- The output with the indices `pay` put at row `g`'s places: lane `l` at `200 l + g`. -/
def putAt (o : S3200.Idx → BitVec 32) (g : ℕ) (pay : L16) : S3200.Idx → BitVec 32 :=
  fun k => if (k 0).val % 200 = g then pay (fun a => ⟨(k 0).val / 200 % S16.size a, Nat.mod_lt _ (by match a with | 0 => decide)⟩) else o k

/-- The places of row `g`, and what the stores leave in the two scratch buffers. -/
abbrev places (g : BitVec 32) : L16 := addi (muli lanes (broadcast S16 200#32)) (broadcast S16 g)

theorem places_toNat (g : BitVec 32) (hg : g.toNat < 200) (l : S16.Idx) : (places g l).toNat = 200 * (l 0).val + g.toNat := by
  have hl : (l 0).val < 16 := (l 0).isLt
  show (BitVec.ofNat 32 (0 * 16 + (l 0).val) * 200#32 + g).toNat = _
  rw [BitVec.toNat_add, BitVec.toNat_mul, BitVec.toNat_ofNat, BitVec.toNat_ofNat]
  omega

theorem stored_place (f : Buf (Elt F) ((thr d L).loc cc1_scratch2)) (x : L16) :
    (placeM).view.writes (Elt F) f [⟨Rect.unit (s := S16) ![0] S16.size inb_S16_S16_0, shapeCast S16 x shapeCasts_S16_S16⟩] = x := by
  rw [cast_self]
  exact (View.read_whole (Val := Elt F) cc1_scratch2 _).symm.trans (View.read_writes_full (placeM).view f inb_S16_S16_0 x [])

theorem stored_pay (f : Buf (Elt F) ((thr d L).loc cc1_scratch3)) (x : L16) :
    (payM).view.writes (Elt F) f [⟨Rect.unit (s := S16) ![0] S16.size inb_S16_S16_0, shapeCast S16 x shapeCasts_S16_S16⟩] = x := by
  rw [cast_self]
  exact (View.read_whole (Val := Elt F) cc1_scratch3 _).symm.trans (View.read_writes_full (payM).view f inb_S16_S16_0 x [])

/-! ### Where the scatter writes -/

abbrev ax : Fin S3200.rank := (gathers_S3200_S16).axis

theorem out_emb (n : Fin (S3200.size ax)) (x : (S3200.rowRect ax n).shape.Idx) :
    (((outM).view.slice (S3200.rowRect ax n)).emb x (0 : Fin 1)).val = n.val := by
  have hx : (x (0 : Fin 1)).val < 1 := (x (0 : Fin 1)).isLt
  show 0 + 1 * (n.val + 1 * (x (0 : Fin 1)).val) = n.val
  omega

theorem mem_out (n : Fin (S3200.size ax)) (k : S3200.Idx) : k ∈ ((outM).view.slice (S3200.rowRect ax n)).set ↔ (k 0).val = n.val := by
  constructor
  · intro h
    obtain ⟨x, -, rfl⟩ := Finset.mem_map.mp h
    exact out_emb n x
  · intro h
    refine Finset.mem_map.mpr ⟨fun a => ⟨0, by match a with | ⟨0, _⟩ => exact Nat.one_pos⟩, Finset.mem_univ _, ?_⟩
    funext a
    match a with
    | ⟨0, _⟩ => exact Fin.ext ((out_emb n _).trans h.symm)

theorem places_in (g : BitVec 32) (hg : g.toNat < 200) (x : S16.Idx) :
    ((placeM).view.read (Elt F) (places g) x).toNat < S3200.size (gathers_S3200_S16).axis := by
  have hx : (x 0).val < 16 := (x 0).isLt
  show (places g x).toNat < 3200
  rw [places_toNat g hg]; omega

/-- The row of the output that entry `k` of the scatter's list names. -/
abbrev placeRow (g : BitVec 32) (hg : g.toNat < 200) : Fin (S16.size (gathers_S3200_S16).axis') → Fin (S3200.size (gathers_S3200_S16).axis) :=
  SparseCore.rows ((placeM).view.read (Elt F) (places g)) rfl (places_in g hg)

theorem placeRow_val (g : BitVec 32) (hg : g.toNat < 200) (k : Fin (S16.size (gathers_S3200_S16).axis')) :
    (placeRow (F := F) g hg k).val = 200 * k.val + g.toNat := by
  show (places g (S16.rowMajor.symm (k.cast _))).toNat = _
  rw [places_toNat g hg]
  have e : (S16.rowMajor (S16.rowMajor.symm (k.cast rfl))).val = _ := Shape.rowMajor_val_one _
  rw [Equiv.apply_symm_apply] at e
  exact congrArg (fun n => 200 * n + g.toNat) e.symm

theorem placeRow_inj (g : BitVec 32) (hg : g.toNat < 200) : Function.Injective (placeRow (F := F) g hg) := by
  intro k k' h
  have e := congrArg Fin.val h
  rw [placeRow_val, placeRow_val] at e
  exact Fin.ext (by omega)

theorem mem_named (g : BitVec 32) (hg : g.toNat < 200) (i : S3200.Idx) :
    i ∈ SparseCore.namedRows (thr d L) (outM).view (gathers_S3200_S16).axis (placeRow (F := F) g hg) ↔ (i 0).val % 200 = g.toNat := by
  have hi : (i 0).val < 3200 := (i 0).isLt
  rw [SparseCore.namedRows_eq]
  constructor
  · intro h
    obtain ⟨k, -, hk⟩ := Finset.mem_biUnion.mp h
    have e := (mem_out _ i).mp hk
    rw [placeRow_val] at e
    omega
  · intro h
    have h16 : (i 0).val / 200 < 16 := by omega
    refine Finset.mem_biUnion.mpr ⟨⟨(i 0).val / 200, h16⟩, Finset.mem_univ _, (mem_out _ i).mpr ?_⟩
    rw [placeRow_val]
    show (i 0).val = 200 * ((i 0).val / 200) + g.toNat
    omega

/-- One row of the output, written with entry `k` of the payload. -/
theorem written_row (k : Fin (S16.size (gathers_S3200_S16).axis')) (n : Fin (S3200.size ax)) (pay : L16) (o : Buf (Elt F) (oLoc d))
    (i : S3200.Idx) (hm : i ∈ ((outM).view.slice (S3200.rowRect ax n)).set) :
    ((outM).view.slice (S3200.rowRect ax n)).write (Elt F) o (SparseCore.scatterRowPayload (thr d L) payM gathers_S3200_S16 pay k) Finset.univ i
      = pay (fun a => ⟨k.val % S16.size a, Nat.mod_lt _ (by match a with | 0 => decide)⟩) := by
  obtain ⟨x, -, rfl⟩ := Finset.mem_map.mp hm
  refine (View.write_emb_of_mem _ _ (Finset.mem_univ x)).trans ?_
  show pay _ = pay _
  congr 1
  funext a
  match a with
  | ⟨0, _⟩ =>
    apply Fin.ext
    have hk : k.val < 16 := k.isLt
    have hy (y : (S16.rowRect (gathers_S3200_S16).axis' k).shape.Idx) :
        (((payM).view.slice (S16.rowRect (gathers_S3200_S16).axis' k)).emb y (0 : Fin 1)).val = k.val % 16 := by
      have h0 : (y (0 : Fin 1)).val < 1 := (y (0 : Fin 1)).isLt
      show k.val + 1 * (y (0 : Fin 1)).val = k.val % 16
      omega
    exact hy _

/-- What the scatter leaves. -/
theorem scattered (g : BitVec 32) (hg : g.toNat < 200) (pay : L16) (o : Buf (Elt F) (oLoc d)) (i : S3200.Idx) :
    SparseCore.scatterBuf (thr d L) (outM).view (gathers_S3200_S16).axis (placeRow (F := F) g hg)
      (SparseCore.scatterRowPayload (thr d L) payM gathers_S3200_S16 pay) o i = putAt o g.toNat pay i := by
  have hi : (i 0).val < 3200 := (i 0).isLt
  unfold putAt
  by_cases h : (i 0).val % 200 = g.toNat
  · rw [if_pos h]
    have h16 : (i 0).val / 200 < 16 := by omega
    have hm : i ∈ ((outM).view.slice (S3200.rowRect ax (placeRow (F := F) g hg ⟨(i 0).val / 200, h16⟩))).set :=
      (mem_out _ i).mpr (by rw [placeRow_val]; show (i 0).val = 200 * ((i 0).val / 200) + g.toNat; omega)
    rw [SparseCore.scatterBuf_of_mem (thr d L) (outM).view ax _ (placeRow_inj g hg) _ _ hm]
    exact written_row d L _ _ pay o i hm
  · rw [if_neg h]
    exact SparseCore.scatterBuf_of_not_mem (thr d L) (outM).view ax _ _ _ (fun hm => h ((mem_named d L g hg i).mp hm))

theorem rowPut_wp (hO : ∀ g, O g none = 0) (g : BitVec 32) (hg : g.toNat < 200) (t : Fin 32) (hgt : g.toNat % 32 = t.val) (pay : L16)
    (o : Buf (Elt F) (oLoc d)) :
    iprop(levAts (K (F := F)).L (K (F := F)).lev ∗ (∃ f, (thr d L).loc cc1_scratch2 ↦{fullShare} f) ∗ (∃ f, (thr d L).loc cc1_scratch3 ↦{fullShare} f)
        ∗ (oLoc d ↦[oSet t]{fullShare} o) ∗ semVal (thr d L, .dma cc1_scratch4.sem) 0 ∗ Owe d L O W)
      ⊢ wp frame (wpE (defs₀ (F := F)) 𝒱₀ (thr d L) none) Set.univ (rowPut (F := F) L ⟨pay, addi (muli lanes (broadcast S16 200#32)) (broadcast S16 g)⟩)
          fun _ => iprop((∃ f, (thr d L).loc cc1_scratch2 ↦{fullShare} f) ∗ (∃ f, (thr d L).loc cc1_scratch3 ↦{fullShare} f)
            ∗ (oLoc d ↦[oSet t]{fullShare} putAt o g.toNat pay) ∗ semVal (thr d L, .dma cc1_scratch4.sem) 0 ∗ Owe d L O W) := by
  unfold rowPut Owe
  iintro ⟨#Hlv, ⟨%f2, H2⟩, ⟨%f3, H3⟩, Ho, Hsem, %W', %hW', HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (show (oLoc d ↦[oSet t]{fullShare} o : sProp 𝕄) = (outM).view.loc (thr d L) ↦[oSet t]{fullShare} o from rfl)) $$ Ho
  ihave H2' := (Entails.of_eq (show ((thr d L).loc cc1_scratch2 ↦{fullShare} f2 : sProp 𝕄) = (placeM).view.loc (thr d L) ↦{fullShare} f2 from rfl)) $$ H2
  ihave H3' := (Entails.of_eq (show ((thr d L).loc cc1_scratch3 ↦{fullShare} f3 : sProp 𝕄) = (payM).view.loc (thr d L) ↦{fullShare} f3 from rfl)) $$ H3
  sl_exec
  rw [show (placeM).view.writes (Elt F) f2 _ = places g from stored_place d L f2 (places g),
    show (payM).view.writes (Elt F) f3 _ = pay from stored_pay d L f3 pay]
  have hsub : SparseCore.namedRows (thr d L) (outM).view (gathers_S3200_S16).axis (placeRow (F := F) g hg) ⊆ oSet t := fun i hi =>
    Finset.mem_filter.mpr ⟨Finset.mem_univ _, by rw [(mem_named d L g hg i).mp hi]; exact hgt⟩
  have hps : (payM).view.set = Finset.univ := View.set_whole _
  have hss : (placeM).view.set = Finset.univ := View.set_whole _
  ihave Hd := (pointsTo_split_subset hsub).1 $$ Ho'
  icases Hd with ⟨Hd, Hrest⟩
  ihave Hp := (Entails.of_eq (show ((payM).view.loc (thr d L) ↦{fullShare} pay : sProp 𝕄) = (payM).view.loc (thr d L) ↦[(payM).view.set]{fullShare} pay by rw [hps])) $$ H3'
  ihave Hs := (Entails.of_eq (show ((placeM).view.loc (thr d L) ↦{fullShare} places g : sProp 𝕄) = (placeM).view.loc (thr d L) ↦[(placeM).view.set]{fullShare} places g by rw [hss])) $$ H2'
  iapply (SparseCore.wp_indirectScatterLocal countersEmb 𝒱₀ (thr d L) none (hg := gathers_S3200_S16) (default : HIx 1)
      (payM).view.dmaCredit (by decide) (places_in g hg) (placeRow_inj g hg) (SparseCore.sum_scatterCredit_eq_srcCredit (thr d L) payM outM gathers_S3200_S16 rfl _ (fun _ => rfl) (fun _ => rfl))) $$ [Hp Hd Hs Hsem]
  · isplitl [Hp]; · iexact Hp
    isplitl [Hd]; · iexact Hd
    isplitl [Hs]; · iexact Hs
    iexact Hsem
  iintro Hfl
  sl_exec
  iapply (Transfers.wp_waitLocalO countersEmb 𝒱₀ (thr d L) none (default : HIx 1) (rfl : (payM).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hd, Hp, Hs⟩, Hsem, HO⟩
  ihave Hd' := (Entails.of_eq (pointsTo_congr (fun i _ => scattered d L g hg pay o i))) $$ Hd
  ihave Hrest' := (Entails.of_eq (pointsTo_congr (g := putAt o g.toNat pay) (fun i hi => by
    unfold putAt; rw [if_neg (fun h => (Finset.mem_sdiff.mp hi).2 ((mem_named (F := F) d L g hg i).mpr h))]))) $$ Hrest
  ihave Ho := (pointsTo_split_subset hsub).2 $$ [Hd' Hrest']
  · isplitl [Hd']
    · iexact Hd'
    · iexact Hrest'
  ihave Hp' := (Entails.of_eq (show ((payM).view.loc (thr d L) ↦[(payM).view.set]{fullShare} pay : sProp 𝕄) = (thr d L).loc cc1_scratch3 ↦{fullShare} pay by rw [hps])) $$ Hp
  ihave Hs' := (Entails.of_eq (show ((placeM).view.loc (thr d L) ↦[(placeM).view.set]{fullShare} places g : sProp 𝕄) = (thr d L).loc cc1_scratch2 ↦{fullShare} places g by rw [hss])) $$ Hs
  sl_exec
  sl_step
  isplitl [Hs']; · iexists _; iexact Hs'
  isplitl [Hp']; · iexists _; iexact Hp'
  isplitl [Ho]; · iexact Ho
  isplitl [Hsem]; · iexact Hsem
  iexists _; isplitr
  swap; · iexact HO
  ipureintro; intro p hp
  rcases Finset.mem_insert.mp hp with hp | hp; · exact .inr (hp ▸ rfl)
  exact hW' p hp

end Tile

end Cert.Proof

end
-- ==== Proof.Steps.lean ====
/-
  A TILE'S SEVEN STEPS, IN ORDER

  Each step leaves at its row's places of the output the indices found for the row, when the row exists and is flagged;
  the tile's whole program leaves them for all of its rows.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rounds Cert.Proof.Row

variable {F : FTy → Type}

local notation "𝕄" => MT nD τ sig (HIx 1) (Elt F) ℕ UU ℕ

variable [FloatOps F]

/-- A conjunction over a set, the members of a list taken out one by one. -/
theorem bigSep_list {M A : Type} [URA M] [DecidableEq A] (Φ : A → sProp M) : ∀ (l : List A) (S : Finset A), l.Nodup → (∀ a ∈ l, a ∈ S) →
    bigSep S Φ = l.foldr (fun a R => iprop(Φ a ∗ R)) (bigSep (l.foldl Finset.erase S) Φ)
  | [], _, _, _ => rfl
  | a :: l, S, hn, hm => by
    obtain ⟨ha, hn'⟩ := List.nodup_cons.mp hn
    rw [SparseCore.bigSep_erase' (hm a (List.mem_cons_self ..)),
      bigSep_list Φ l (S.erase a) hn' (fun b hb => Finset.mem_erase.mpr ⟨fun e => ha (e ▸ hb), hm b (List.mem_cons_of_mem _ hb)⟩)]
    rfl

/-- Row `g` searched or not, by its flag word: what it makes of the output. -/
def stepOut (w : S200x5456.Idx → F .f32) (o : S3200.Idx → BitVec 32) (g wd : BitVec 32) : S3200.Idx → BitVec 32 :=
  if g.toNat < 200 ∧ wd ≠ 0#32 then putAt o g.toNat (found lanes (rowOfW w g.toNat)) else o

theorem flagged_iff (g wd : BitVec 32) (hg : g.toNat < 256) : flagged g wd = 1#1 ↔ g.toNat < 200 ∧ wd ≠ 0#32 := by
  have h1 : (BitVec.ofBool (g.slt 200#32) = 1#1) ↔ g.toNat < 200 := by
    rw [show (BitVec.ofBool (g.slt 200#32) = 1#1) ↔ g.slt 200#32 = true by cases g.slt 200#32 <;> decide,
      BitVec.slt_eq_decide, decide_eq_true_eq, BitVec.toInt_eq_toNat_cond, BitVec.toInt_eq_toNat_cond]
    simp only [BitVec.toNat_ofNat]; omega
  have h2 : (BitVec.ofBool (wd != 0#32) = 1#1) ↔ wd ≠ 0#32 := by
    by_cases h : wd = 0#32
    · subst h; decide
    · rw [(bne_iff_ne (a := wd) (b := 0#32)).mpr h]; exact ⟨fun _ => h, fun _ => rfl⟩
  have h3 (a b : BitVec 1) : (BitVec.ofBool ((a &&& b).setWidth 32 != 0#32) = 1#1) ↔ a = 1#1 ∧ b = 1#1 := by
    revert a b; decide
  rw [← h1, ← h2, ← h3]; rfl

section Tile

variable (d : Dev nD) (L : grid1.Coords)
variable (O : CellTallies nD τ sig (HIx 1)) (W : Waits sig (HIx 1))

theorem owe_insert {W' : Waits sig (HIx 1)} (hW' : ∀ p ∈ W', p ∈ W ∨ p.2 = none) {s : SemLoc sig} :
    (owes (thr d L) O (insert (s, (default : HIx 1)) W') : sProp 𝕄) ⊢ Owe d L O W := by
  unfold Owe
  iintro HO
  iexists _; isplitr
  swap; · iexact HO
  ipureintro; intro p hp
  rcases Finset.mem_insert.mp hp with hp | hp; · exact .inr (hp ▸ rfl)
  exact hW' p hp

/-- What a tile holds between two steps, the output's part at `o`. -/
def Held (q : PosShare TreeShare) (w : Buf (Elt F) (wLoc d)) (t : Fin 32) (o : Buf (Elt F) (oLoc d)) : sProp 𝕄 :=
  iprop((wLoc d ↦{q} w) ∗ (∃ f, (thr d L).loc cc1_scratch1 ↦{fullShare} f) ∗ (∃ f, (thr d L).loc cc1_scratch2 ↦{fullShare} f)
    ∗ (∃ f, (thr d L).loc cc1_scratch3 ↦{fullShare} f) ∗ (oLoc d ↦[oSet t]{fullShare} o) ∗ semVal (thr d L, .dma cc1_scratch4.sem) 0 ∗ Owe d L O W)

local notation "Lv" => (levAts (SparseCore.Cfg.L (K (F := F))) (SparseCore.Cfg.lev (K (F := F))) : sProp (MT nD τ sig (HIx 1) (Elt F) ℕ UU ℕ))

theorem wand_wp {α : Type} {p : Prog (TpuEff nD τ sig (Elt F) Λ₀ (thr d L).2) α} {Q Q' : α → sProp 𝕄} :
    iprop(wp frame (wpE (defs₀ (F := F)) 𝒱₀ (thr d L) none) Set.univ p Q ∗ ∀ a, Q a -∗ Q' a)
      ⊢ wp frame (wpE (defs₀ (F := F)) 𝒱₀ (thr d L) none) Set.univ p Q' := wp_wand_r _ _ _

theorem search_wp (hO : ∀ g, O g none = 0) {α : Type} (off : Fin 2 → ℕ) (inb : ∀ a, off a + S1x5456.size a ≤ S200x5456.size a) (s : DmaSems sig S_)
    (g : BitVec 32) (hg : g.toNat < 200) (q : PosShare TreeShare) (w : Buf (Elt F) (wLoc d)) (t : Fin 32) (o : Buf (Elt F) (oLoc d))
    (hoff : off = ![g.toNat, 0]) (hgt : g.toNat % 32 = t.val) (k : Prog (TpuEff nD τ sig (Elt F) Λ₀ (thr d L).2) α) (Q : α → sProp 𝕄) :
    iprop(Lv ∗ semVal (thr d L, .dma s.sem) 0 ∗ Held d L O W q w t o
        ∗ (semVal (thr d L, .dma s.sem) 0 ∗ Held d L O W q w t (putAt o g.toNat (found lanes (rowOfW w g.toNat)))
            -∗ wp frame (wpE (defs₀ (F := F)) 𝒱₀ (thr d L) none) Set.univ k Q))
      ⊢ wp frame (wpE (defs₀ (F := F)) 𝒱₀ (thr d L) none) Set.univ (rowFind (F := F) L off inb s lanes g >>= fun r => rowPutThen L r k) Q := by
  unfold Held
  iintro ⟨#Hlv, Hs, ⟨Hw, Hr, Hpl, Hpa, Ho, Hsc, HO⟩, Hk⟩
  rw [wp_bind]
  iapply (wand_wp d L)
  isplitl [Hw Hr Hs HO]
  · iapply (rowFind_wp d L O W hO off inb s g q w hoff)
    isplitr; · iexact Hlv
    isplitl [Hw]; · iexact Hw
    isplitl [Hr]; · iexact Hr
    isplitl [Hs] <;> iassumption
  iintro %r ⟨%hr, Hw, Hr, Hs, HO⟩
  subst hr
  rw [rowPutThen_eq, wp_bind]
  iapply (wand_wp d L)
  isplitl [Hpl Hpa Ho Hsc HO]
  · iapply (rowPut_wp d L O W hO g hg t hgt (found lanes (rowOfW w g.toNat)) o)
    isplitr; · iexact Hlv
    isplitl [Hpl]; · iexact Hpl
    isplitl [Hpa]; · iexact Hpa
    isplitl [Ho]; · iexact Ho
    isplitl [Hsc] <;> iassumption
  iintro %u ⟨Hpl, Hpa, Ho, Hsc, HO⟩
  iapply Hk
  isplitl [Hs]; · iexact Hs
  isplitl [Hw]; · iexact Hw
  isplitl [Hr]; · iexact Hr
  isplitl [Hpl]; · iexact Hpl
  isplitl [Hpa]; · iexact Hpa
  isplitl [Ho]; · iexact Ho
  isplitl [Hsc] <;> iassumption

theorem rowIf_wp (hO : ∀ g, O g none = 0) {α : Type} (off : Fin 2 → ℕ) (inb : ∀ a, off a + S1x5456.size a ≤ S200x5456.size a) (s : DmaSems sig S_)
    (g wd : BitVec 32) (hg : g.toNat < 256) (q : PosShare TreeShare) (w : Buf (Elt F) (wLoc d)) (t : Fin 32) (o : Buf (Elt F) (oLoc d))
    (hoff : off = ![g.toNat, 0]) (hgt : g.toNat % 32 = t.val) (k : Prog (TpuEff nD τ sig (Elt F) Λ₀ (thr d L).2) α) (Q : α → sProp 𝕄) :
    iprop(Lv ∗ semVal (thr d L, .dma s.sem) 0 ∗ Held d L O W q w t o
        ∗ (semVal (thr d L, .dma s.sem) 0 ∗ Held d L O W q w t (stepOut w o g wd)
            -∗ wp frame (wpE (defs₀ (F := F)) 𝒱₀ (thr d L) none) Set.univ k Q))
      ⊢ wp frame (wpE (defs₀ (F := F)) 𝒱₀ (thr d L) none) Set.univ (rowIf (F := F) L off inb s g wd k) Q := by
  unfold rowIf stepOut
  by_cases h : g.toNat < 200 ∧ wd ≠ 0#32
  · rw [if_pos ((flagged_iff g wd hg).mpr h), if_pos h]
    exact search_wp d L O W hO off inb s g h.1 q w t o hoff hgt k Q
  · rw [if_neg (fun e => h ((flagged_iff g wd hg).mp e)), if_neg h]
    iintro ⟨-, Hs, Hh, Hk⟩
    iapply Hk
    isplitl [Hs] <;> iassumption

/-! ### The flags -/

/-- Flag `n`. -/
def flagOf (f : S256.Idx → BitVec 32) (n : ℕ) : BitVec 32 := f fun a => ⟨n % S256.size a, Nat.mod_lt _ (by match a with | 0 => decide)⟩

theorem word_read (off : Fin 1 → ℕ) (inb : ∀ a, off a + S16.size a ≤ S256.size a) (n : ℕ) (hoff : off = ![n]) (f : Buf (Elt F) ((thr d L).loc cc1_scratch0)) :
    wordOf ((flM).view.readAt (Elt F) (Rect.unit (s := S256) off S16.size inb).toLoadRect f) = flagOf f n := by
  subst hoff
  have hn : n + 16 ≤ 256 := inb 0
  unfold wordOf
  rw [cast_self]
  show f _ = f _
  congr 1
  funext a
  match a with
  | 0 =>
    apply Fin.ext
    show n + 1 * (0 + 1 * 0) = n % 256
    omega

theorem tileNo_val : (tileNo L).toNat = 2 * (L 1).val + (L 0).val := by
  have h0 : (L 0).val < 2 := (L 0).isLt
  have h1 : (L 1).val < 16 := (L 1).isLt
  show (BitVec.ofNat 32 (L 1).val * 2#32 + BitVec.ofNat 32 (L 0).val).toNat = _
  simp only [BitVec.toNat_add, BitVec.toNat_mul, BitVec.toNat_ofNat]
  omega

theorem rowNo_val (n : ℕ) (hn : n < 224) : (rowNo L (BitVec.ofNat 32 n)).toNat = 2 * (L 1).val + (L 0).val + n := by
  have h0 : (L 0).val < 2 := (L 0).isLt
  have h1 : (L 1).val < 16 := (L 1).isLt
  show (tileNo L + BitVec.ofNat 32 n).toNat = _
  rw [BitVec.toNat_add, tileNo_val, BitVec.toNat_ofNat]
  omega

/-- What row `g` makes of the output. -/
def stepN (w : S200x5456.Idx → F .f32) (f : S256.Idx → BitVec 32) (o : S3200.Idx → BitVec 32) (g : ℕ) : S3200.Idx → BitVec 32 :=
  if g < 200 ∧ flagOf f g ≠ 0#32 then putAt o g (found lanes (rowOfW w g)) else o

/-- The output after the rows `t`, `t + 32`, … , the first `j` of them. -/
def outs (w : S200x5456.Idx → F .f32) (f : S256.Idx → BitVec 32) (o : S3200.Idx → BitVec 32) (t : ℕ) : ℕ → S3200.Idx → BitVec 32
  | 0 => o
  | j + 1 => stepN w f (outs w f o t j) (t + 32 * j)

/-- The tile's number. -/
def tid : Fin 32 := wid (L 0) (L 1)
theorem tid_val : (tid L).val = 2 * (L 1).val + (L 0).val := rfl

/-- One step of the tile, for the row `t + 32 j`. -/
theorem step_wp (hO : ∀ g, O g none = 0) {α : Type} (j : ℕ) (hj : j < 7) (off : Fin 2 → ℕ) (inb : ∀ a, off a + S1x5456.size a ≤ S200x5456.size a) (s : DmaSems sig S_)
    (foff : Fin 1 → ℕ) (finb : ∀ a, foff a + S16.size a ≤ S256.size a)
    (q : PosShare TreeShare) (w : Buf (Elt F) (wLoc d)) (f : Buf (Elt F) ((thr d L).loc cc1_scratch0)) (o : Buf (Elt F) (oLoc d))
    (hoff : off = ![2 * (L 1).val + (L 0).val + 32 * j, 0]) (hfoff : foff = ![2 * (L 1).val + (L 0).val + 32 * j])
    (k : Prog (TpuEff nD τ sig (Elt F) Λ₀ (thr d L).2) α) (Q : α → sProp 𝕄) :
    iprop(Lv ∗ semVal (thr d L, .dma s.sem) 0 ∗ Held d L O W q w (tid L) (outs w f o (tid L).val j)
        ∗ (semVal (thr d L, .dma s.sem) 0 ∗ Held d L O W q w (tid L) (outs w f o (tid L).val (j + 1))
            -∗ wp frame (wpE (defs₀ (F := F)) 𝒱₀ (thr d L) none) Set.univ k Q))
      ⊢ wp frame (wpE (defs₀ (F := F)) 𝒱₀ (thr d L) none) Set.univ
          (rowIf (F := F) L off inb s (rowNo L (BitVec.ofNat 32 (32 * j))) (wordOf ((flM).view.readAt (Elt F) (Rect.unit (s := S256) foff S16.size finb).toLoadRect f)) k) Q := by
  have h0 : (L 0).val < 2 := (L 0).isLt
  have h1 : (L 1).val < 16 := (L 1).isLt
  have hv := rowNo_val L (32 * j) (by omega)
  have ht := tid_val L
  rw [word_read d L foff finb _ hfoff]
  refine .trans (Entails.of_eq ?_) (rowIf_wp d L O W hO off inb s (rowNo L (BitVec.ofNat 32 (32 * j))) _ (by omega) q w (tid L) (outs w f o (tid L).val j)
    (by rw [hv]; exact hoff) (by omega) k Q)
  rw [show outs w f o (tid L).val (j + 1) = stepOut w (outs w f o (tid L).val j) (rowNo L (BitVec.ofNat 32 (32 * j))) (flagOf f (2 * (L 1).val + (L 0).val + 32 * j)) by
    show stepN _ _ _ _ = _
    unfold stepN stepOut
    rw [hv, ht]]

/-! ### What a tile is given and gives back -/

/-- The tile's semaphores. -/
abbrev tileSems : List (DmaSem sig) := [cc1_scoped0.sem, cc1_scoped1.sem, cc1_scoped2.sem, cc1_scoped3.sem, cc1_scoped4.sem, cc1_scoped5.sem, cc1_scoped6.sem, cc1_scoped7.sem, cc1_scratch4.sem]
/-- The tile's scratch buffers. -/
abbrev tileBufs : List (Ref sig .scVector) := [cc1_scratch0, cc1_scratch1, cc1_scratch2, cc1_scratch3]

abbrev semCells : List (GSem nD τ sig) := tileSems.map fun s => (thr d L, SemLoc.dma s)
abbrev bufRefs : List (DevRef τ sig) := tileBufs.map fun b => (Proc.scVector (cV L) (jV L)).devRef b

theorem ownSems_eq : (ownSems0 (thr d L) : sProp 𝕄)
    = iprop(semVal (thr d L, .dma cc1_scoped0.sem) 0 ∗ semVal (thr d L, .dma cc1_scoped1.sem) 0 ∗ semVal (thr d L, .dma cc1_scoped2.sem) 0
        ∗ semVal (thr d L, .dma cc1_scoped3.sem) 0 ∗ semVal (thr d L, .dma cc1_scoped4.sem) 0 ∗ semVal (thr d L, .dma cc1_scoped5.sem) 0
        ∗ semVal (thr d L, .dma cc1_scoped6.sem) 0 ∗ semVal (thr d L, .dma cc1_scoped7.sem) 0 ∗ semVal (thr d L, .dma cc1_scratch4.sem) 0
        ∗ bigSep ((semCells d L).foldl Finset.erase (ownCells (thr d L))) fun g => semVal g 0) := by
  unfold SparseCore.Cfg.ownSems0
  refine bigSep_list _ (semCells d L) _ ?_ ?_
  · exact List.Nodup.map (fun a b h => by injection h with _ h; injection h) (by decide)
  · intro a ha
    obtain ⟨s, hs, rfl⟩ := List.mem_map.mp ha
    refine mem_ownCells.mpr ⟨rfl, ?_⟩
    have h : ∀ s ∈ tileSems, (SemLoc.dma s : SemLoc sig).isScoped .scVector = true := by decide
    exact h s hs

theorem ownBufs_eq : (ownBufs (thr d L) : sProp 𝕄)
    = iprop((∃ f, (thr d L).loc cc1_scratch0 ↦{fullShare} f) ∗ (∃ f, (thr d L).loc cc1_scratch1 ↦{fullShare} f)
        ∗ (∃ f, (thr d L).loc cc1_scratch2 ↦{fullShare} f) ∗ (∃ f, (thr d L).loc cc1_scratch3 ↦{fullShare} f)
        ∗ bigSep ((bufRefs L).foldl Finset.erase (ownRefs (τ := τ) (.scVector (cV L) (jV L)))) fun b => iprop(∃ f, ((d, b) : Loc nD τ sig) ↦{fullShare} f)) := by
  unfold SparseCore.Cfg.ownBufs
  refine bigSep_list (fun b => iprop(∃ f, ((d, b) : Loc nD τ sig) ↦{fullShare} f)) (bufRefs L) _ ?_ ?_
  · exact List.Nodup.map (Proc.devRef_injective _) (show [cc1_scratch0, cc1_scratch1, cc1_scratch2, cc1_scratch3].Nodup by decide)
  · intro a ha
    obtain ⟨b, hb, rfl⟩ := List.mem_map.mp ha
    refine SparseCore.Cfg.mem_ownRefs_of_owner (p := Proc.scVector (cV L) (jV L)) (b := (Proc.scVector (cV L) (jV L)).devRef b) ?_
    fin_cases hb <;> rfl

set_option maxHeartbeats 4000000 in
/-- The first three steps. -/
theorem firstPart_wp (hO : ∀ g, O g none = 0) (q : PosShare TreeShare) (w : Buf (Elt F) (wLoc d)) (f : Buf (Elt F) (fLoc d)) (o : Buf (Elt F) (oLoc d)) :
    iprop(Lv ∗ semVal (thr d L, .dma cc1_scoped0.sem) 0 ∗ semVal (thr d L, .dma cc1_scoped1.sem) 0 ∗ semVal (thr d L, .dma cc1_scoped2.sem) 0
        ∗ semVal (thr d L, .dma cc1_scoped3.sem) 0 ∗ (fLoc d ↦{q} f) ∗ (∃ f, (thr d L).loc cc1_scratch0 ↦{fullShare} f) ∗ Held d L O W q w (tid L) o)
      ⊢ wp frame (wpE (defs₀ (F := F)) 𝒱₀ (thr d L) none) Set.univ (firstPart (F := F) L)
          fun p => iprop(⌜p = ⟨tileNo L, lanes, rowNo L 96#32, (flM).view.readAt (Elt F) (Rect.unit (s := S256) (k1_off10 L) S16.size (k1_off10_inb L)).toLoadRect f⟩⌝
            ∗ semVal (thr d L, .dma cc1_scoped0.sem) 0 ∗ semVal (thr d L, .dma cc1_scoped1.sem) 0 ∗ semVal (thr d L, .dma cc1_scoped2.sem) 0
            ∗ semVal (thr d L, .dma cc1_scoped3.sem) 0 ∗ (fLoc d ↦{q} f) ∗ ((thr d L).loc cc1_scratch0 ↦{fullShare} f)
            ∗ Held d L O W q w (tid L) (outs w f o (tid L).val 3)) := by
  unfold firstPart flagRead
  conv_lhs => unfold Held Owe
  iintro ⟨#Hlv, Hs0, Hs1, Hs2, Hs3, Hf, ⟨%fl, Hfl⟩, ⟨Hw, Hr, Hpl, Hpa, Ho, Hsc, %W', %hW', HO⟩⟩
  ihave Hmw := (show Lv ⊢ Transfers.MayWaits (thr d L) (default : HIx 1) O from
    (K (F := F)).mayWaits_none (thr := thr d L) hO) $$ Hlv
  ihave Hf' := (Entails.of_eq (show (fLoc d ↦{q} f : sProp 𝕄) = (fM).view.loc (thr d L) ↦{q} f from rfl)) $$ Hf
  ihave Hfl' := (Entails.of_eq (show ((thr d L).loc cc1_scratch0 ↦{fullShare} fl : sProp 𝕄) = (flM).view.loc (thr d L) ↦{fullShare} fl from rfl)) $$ Hfl
  sl_exec
  rw [View.write_whole_univ, show firstPart_wp.sl.dma0 d f = f from rfl]
  ihave Hh := (show iprop((wLoc d ↦{q} w) ∗ (∃ f, (thr d L).loc cc1_scratch1 ↦{fullShare} f) ∗ (∃ f, (thr d L).loc cc1_scratch2 ↦{fullShare} f)
      ∗ (∃ f, (thr d L).loc cc1_scratch3 ↦{fullShare} f) ∗ (oLoc d ↦[oSet (tid L)]{fullShare} o) ∗ semVal (thr d L, .dma cc1_scratch4.sem) 0 ∗ Owe d L O W)
      ⊢ Held d L O W q w (tid L) (outs w f o (tid L).val 0) from .rfl) $$ [Hw Hr Hpl Hpa Ho Hsc HO]
  · isplitl [Hw]; · iexact Hw
    isplitl [Hr]; · iexact Hr
    isplitl [Hpl]; · iexact Hpl
    isplitl [Hpa]; · iexact Hpa
    isplitl [Ho]; · iexact Ho
    isplitl [Hsc]; · iexact Hsc
    iapply (owe_insert d L O W hW'); iexact HO
  iapply (step_wp d L O W hO 0 (by decide) (k1_off2 L) (k1_off2_inb L) cc1_scoped1 (k1_off1 L) (k1_off1_inb L) q w f o (k1_off2_eq L) (k1_off1_eq L))
  isplitr; · iexact Hlv
  isplitl [Hs1]; · iexact Hs1
  isplitl [Hh]; · iexact Hh
  iintro ⟨Hs1, Hh⟩
  sl_exec
  iapply (step_wp d L O W hO 1 (by decide) (k1_off5 L) (k1_off5_inb L) cc1_scoped2 (k1_off4 L) (k1_off4_inb L) q w f o (k1_off5_eq L) (k1_off4_eq L))
  isplitr; · iexact Hlv
  isplitl [Hs2]; · iexact Hs2
  isplitl [Hh]; · iexact Hh
  iintro ⟨Hs2, Hh⟩
  sl_exec
  iapply (step_wp d L O W hO 2 (by decide) (k1_off8 L) (k1_off8_inb L) cc1_scoped3 (k1_off7 L) (k1_off7_inb L) q w f o (k1_off8_eq L) (k1_off7_eq L))
  isplitr; · iexact Hlv
  isplitl [Hs3]; · iexact Hs3
  isplitl [Hh]; · iexact Hh
  iintro ⟨Hs3, Hh⟩
  sl_exec
  sl_step
  isplitr; · ipureintro; rfl
  isplitl [Hs0]; · iexact Hs0
  isplitl [Hs1]; · iexact Hs1
  isplitl [Hs2]; · iexact Hs2
  isplitl [Hs3]; · iexact Hs3
  isplitl [Hf']; · iexact Hf'
  isplitl [Hfl']; · iexact Hfl'
  iexact Hh

/-- The tile's part of the output when it is done: at the places of a row that is flagged, what was found for the row. -/
def outVal (w : S200x5456.Idx → F .f32) (f : S256.Idx → BitVec 32) (o : S3200.Idx → BitVec 32) : S3200.Idx → BitVec 32 := fun k =>
  if flagOf f ((k 0).val % 200) ≠ 0#32 then
    found lanes (rowOfW w ((k 0).val % 200)) fun a => ⟨(k 0).val / 200 % S16.size a, Nat.mod_lt _ (by match a with | 0 => decide)⟩
  else o k

theorem outs_apply (w : S200x5456.Idx → F .f32) (f : S256.Idx → BitVec 32) (o : S3200.Idx → BitVec 32) (t : ℕ) (k : S3200.Idx)
    (hk : ((k 0).val % 200) % 32 = t) : ∀ j, outs w f o t j k = if (k 0).val % 200 < t + 32 * j then outVal w f o k else o k
  | 0 => by
    rw [if_neg (by omega)]; rfl
  | j + 1 => by
    have ih := outs_apply w f o t k hk j
    have h2 : (k 0).val % 200 < 200 := Nat.mod_lt _ (by decide)
    show stepN w f (outs w f o t j) (t + 32 * j) k = _
    unfold stepN
    by_cases he : (k 0).val % 200 = t + 32 * j
    · rw [if_pos (show (k 0).val % 200 < t + 32 * (j + 1) by omega)]
      rw [if_neg (by omega)] at ih
      unfold outVal
      rw [he]
      by_cases hf : flagOf f (t + 32 * j) = 0#32
      · rw [if_neg (fun h => h.2 hf), if_neg (fun h => h hf), ih]
      · rw [if_pos ⟨by omega, hf⟩, if_pos hf]
        unfold putAt
        rw [if_pos he]
    · have hi : (if (k 0).val % 200 < t + 32 * (j + 1) then outVal w f o k else o k) = if (k 0).val % 200 < t + 32 * j then outVal w f o k else o k := by
        by_cases h : (k 0).val % 200 < t + 32 * j
        · rw [if_pos h, if_pos (by omega)]
        · rw [if_neg h, if_neg (by omega)]
      rw [hi, ← ih]
      by_cases hc : t + 32 * j < 200 ∧ flagOf f (t + 32 * j) ≠ 0#32
      · rw [if_pos hc]; unfold putAt; rw [if_neg he]
      · rw [if_neg hc]

theorem outs_seven (w : S200x5456.Idx → F .f32) (f : S256.Idx → BitVec 32) (o : S3200.Idx → BitVec 32) (t : Fin 32) (k : S3200.Idx)
    (hk : k ∈ oSet t) : outs w f o t.val 7 k = outVal w f o k := by
  have h2 : (k 0).val % 200 < 200 := Nat.mod_lt _ (by decide)
  rw [outs_apply w f o t.val k (Finset.mem_filter.mp hk).2 7]
  exact if_pos (by omega)

set_option maxHeartbeats 4000000 in
/-- The next three steps. -/
theorem secondPart_wp (hO : ∀ g, O g none = 0) (q : PosShare TreeShare) (w : Buf (Elt F) (wLoc d)) (f : Buf (Elt F) (fLoc d)) (o : Buf (Elt F) (oLoc d)) :
    iprop(Lv ∗ semVal (thr d L, .dma cc1_scoped4.sem) 0 ∗ semVal (thr d L, .dma cc1_scoped5.sem) 0 ∗ semVal (thr d L, .dma cc1_scoped6.sem) 0
        ∗ ((thr d L).loc cc1_scratch0 ↦{fullShare} f) ∗ Held d L O W q w (tid L) (outs w f o (tid L).val 3))
      ⊢ wp frame (wpE (defs₀ (F := F)) 𝒱₀ (thr d L) none) Set.univ
          (secondPart (F := F) L ((flM).view.readAt (Elt F) (Rect.unit (s := S256) (k1_off10 L) S16.size (k1_off10_inb L)).toLoadRect f))
          fun p => iprop(⌜p.1 = rowNo L 192#32 ∧ p.2.1 = wordOf ((flM).view.readAt (Elt F) (Rect.unit (s := S256) (k1_off19 L) S16.size (k1_off19_inb L)).toLoadRect f)⌝
            ∗ semVal (thr d L, .dma cc1_scoped4.sem) 0 ∗ semVal (thr d L, .dma cc1_scoped5.sem) 0 ∗ semVal (thr d L, .dma cc1_scoped6.sem) 0
            ∗ ((thr d L).loc cc1_scratch0 ↦{fullShare} f) ∗ Held d L O W q w (tid L) (outs w f o (tid L).val 6)) := by
  unfold secondPart flagRead
  iintro ⟨#Hlv, Hs4, Hs5, Hs6, Hfl, Hh⟩
  ihave Hfl' := (Entails.of_eq (show ((thr d L).loc cc1_scratch0 ↦{fullShare} f : sProp 𝕄) = (flM).view.loc (thr d L) ↦{fullShare} f from rfl)) $$ Hfl
  iapply (step_wp d L O W hO 3 (by decide) (k1_off11 L) (k1_off11_inb L) cc1_scoped4 (k1_off10 L) (k1_off10_inb L) q w f o (k1_off11_eq L) (k1_off10_eq L))
  isplitr; · iexact Hlv
  isplitl [Hs4]; · iexact Hs4
  isplitl [Hh]; · iexact Hh
  iintro ⟨Hs4, Hh⟩
  sl_exec
  iapply (step_wp d L O W hO 4 (by decide) (k1_off14 L) (k1_off14_inb L) cc1_scoped5 (k1_off13 L) (k1_off13_inb L) q w f o (k1_off14_eq L) (k1_off13_eq L))
  isplitr; · iexact Hlv
  isplitl [Hs5]; · iexact Hs5
  isplitl [Hh]; · iexact Hh
  iintro ⟨Hs5, Hh⟩
  sl_exec
  iapply (step_wp d L O W hO 5 (by decide) (k1_off17 L) (k1_off17_inb L) cc1_scoped6 (k1_off16 L) (k1_off16_inb L) q w f o (k1_off17_eq L) (k1_off16_eq L))
  isplitr; · iexact Hlv
  isplitl [Hs6]; · iexact Hs6
  isplitl [Hh]; · iexact Hh
  iintro ⟨Hs6, Hh⟩
  have hchk : ∀ v, k1_chk1 L v := by
    intro v h7
    have h := (flagged_iff (rowNo L 192#32) v (by rw [rowNo_val L 192 (by decide)]; have h0 : (L 0).val < 2 := (L 0).isLt; have h1 : (L 1).val < 16 := (L 1).isLt; omega)).mp h7
    rw [rowNo_val L 192 (by decide)] at h
    have e : k1_off20 L = ![2 * (L 1).val + (L 0).val + 192, 0] := by
      show ![(rowNo L 192#32).toNat, 0] = _
      rw [rowNo_val L 192 (by decide)]
    rw [e]
    intro a
    match a with
    | 0 => show 2 * (L 1).val + (L 0).val + 192 + 1 ≤ 200; omega
    | 1 => show 0 + 5456 ≤ 5456; omega
  have hc := hchk (wordOf ((flM).view.readAt (Elt F) (Rect.unit (s := S256) (k1_off19 L) S16.size (k1_off19_inb L)).toLoadRect f))
  sl_exec
  sl_step
  isplitr; · ipureintro; exact ⟨rfl, rfl⟩
  isplitl [Hs4]; · iexact Hs4
  isplitl [Hs5]; · iexact Hs5
  isplitl [Hs6]; · iexact Hs6
  isplitl [Hfl']; · iexact Hfl'
  iexact Hh

set_option maxHeartbeats 4000000 in
/-- THE TILE'S WHOLE PROGRAM: from shares of the weights and the flags and its part of the output, to the same with its part of the
    output at `outVal`. -/
theorem tile_wp (hF : (K (F := F)).Facts) (hO : ∀ g, O g none = 0) (q : PosShare TreeShare) (w : Buf (Elt F) (wLoc d)) (f : Buf (Elt F) (fLoc d)) (o : Buf (Elt F) (oLoc d)) :
    iprop(Lv ∗ emp ∗ ((wLoc d ↦{q} w) ∗ (fLoc d ↦{q} f) ∗ (oLoc d ↦[oSet (tid L)]{fullShare} o))
        ∗ scopedBufs (thr d L) ∗ scopedSems0 (thr d L) ∗ owes (thr d L) O W)
      ⊢ wp frame (wpE (defs₀ (F := F)) 𝒱₀ (thr d L) none) Set.univ
          (cc1__body_b (F := F) L wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7)
          fun _ => iprop(((wLoc d ↦{q} w) ∗ (fLoc d ↦{q} f) ∗ (oLoc d ↦[oSet (tid L)]{fullShare} outVal w f o))
            ∗ scopedBufs (thr d L) ∗ scopedSems0 (thr d L) ∗ ∃ W', ⌜∀ p ∈ W', p ∈ W ∨ p.2 = none⌝ ∗ owes (thr d L) O W') := by
  unfold cc1__body_b
  rw [firstPart_eq, (K (F := F)).scopedBufs_V hF d (cV L) (jV L), SparseCore.Cfg.scopedSems0_V (Val := Elt F) d (cV L) (jV L), ownSems_eq, ownBufs_eq, wp_bind]
  iintro ⟨#Hlv, -, ⟨Hw, Hf, Ho⟩, ⟨Hfl, Hr, Hpl, Hpa, Hbufs⟩, ⟨Hs0, Hs1, Hs2, Hs3, Hs4, Hs5, Hs6, Hs7, Hsc, Hsems⟩, HO⟩
  iapply (wand_wp d L)
  isplitl [Hs0 Hs1 Hs2 Hs3 Hf Hfl Hw Hr Hpl Hpa Ho Hsc HO]
  · iapply (firstPart_wp d L O W hO q w f o)
    isplitr; · iexact Hlv
    isplitl [Hs0]; · iexact Hs0
    isplitl [Hs1]; · iexact Hs1
    isplitl [Hs2]; · iexact Hs2
    isplitl [Hs3]; · iexact Hs3
    isplitl [Hf]; · iexact Hf
    isplitl [Hfl]; · iexact Hfl
    unfold Held Owe
    isplitl [Hw]; · iexact Hw
    isplitl [Hr]; · iexact Hr
    isplitl [Hpl]; · iexact Hpl
    isplitl [Hpa]; · iexact Hpa
    isplitl [Ho]; · iexact Ho
    isplitl [Hsc]; · iexact Hsc
    iexists W; isplitr
    · ipureintro; exact fun p hp => .inl hp
    iexact HO
  iintro %p ⟨%hp, Hs0, Hs1, Hs2, Hs3, Hf, Hfl, Hh⟩
  subst hp
  dsimp only
  rw [secondPart_eq, wp_bind]
  iapply (wand_wp d L)
  isplitl [Hs4 Hs5 Hs6 Hfl Hh]
  · iapply (secondPart_wp d L O W hO q w f o)
    isplitr; · iexact Hlv
    isplitl [Hs4]; · iexact Hs4
    isplitl [Hs5]; · iexact Hs5
    isplitl [Hs6]; · iexact Hs6
    isplitl [Hfl] <;> iassumption
  iintro %p ⟨%hp, Hs4, Hs5, Hs6, Hfl, Hh⟩
  obtain ⟨v69, v74, hw⟩ := p
  obtain ⟨h1, h2⟩ := hp
  dsimp only at h1 h2
  subst h1
  have h0 : (L 0).val < 2 := (L 0).isLt
  have h1 : (L 1).val < 16 := (L 1).isLt
  have hv := rowNo_val L 192 (by decide)
  have ht := tid_val L
  have hwd : v74 = flagOf f (2 * (L 1).val + (L 0).val + 192) := h2.trans (word_read d L (k1_off19 L) (k1_off19_inb L) _ (k1_off19_eq L) f)
  have hstep : outs w f o (tid L).val 7 = stepOut w (outs w f o (tid L).val 6) (rowNo L 192#32) v74 := by
    rw [hwd]
    show stepN _ _ _ _ = _
    unfold stepN stepOut
    rw [hv, ht]
  iapply (wand_wp d L (Q := fun _ => iprop(semVal (thr d L, .dma cc1_scoped7.sem) 0 ∗ Held d L O W q w (tid L) (outs w f o (tid L).val 7))))
  isplitl [Hs7 Hh]
  · rw [hstep]
    unfold stepOut
    by_cases hc : k1_cond7 L v74 = 1#1
    · have hg := (flagged_iff (rowNo L 192#32) v74 (by omega)).mp hc
      rw [dif_pos hc, find7, if_pos hg]
      iapply (search_wp d L O W hO (k1_off20 L) (k1_off20_inb L v74 hw hc) cc1_scoped7 (rowNo L 192#32) hg.1 q w (tid L) (outs w f o (tid L).val 6) rfl (by omega))
      isplitr; · iexact Hlv
      isplitl [Hs7]; · iexact Hs7
      isplitl [Hh]; · iexact Hh
      iintro ⟨Hs7, Hh⟩
      sl_step
      isplitl [Hs7] <;> iassumption
    · have hg : ¬ ((rowNo L 192#32).toNat < 200 ∧ v74 ≠ 0#32) := fun e => hc ((flagged_iff (rowNo L 192#32) v74 (by omega)).mpr e)
      rw [dif_neg hc, if_neg hg]
      sl_step
      isplitl [Hs7] <;> iassumption
  iintro %u ⟨Hs7, Hh⟩
  unfold Held
  icases Hh with ⟨Hw, Hr, Hpl, Hpa, Ho, Hsc, HO⟩
  ihave Ho := (Entails.of_eq (pointsTo_congr (f := outs w f o (tid L).val 7) (g := outVal w f o) (fun k hk => outs_seven w f o (tid L) k hk))) $$ Ho
  isplitl [Hw Hf Ho]
  · isplitl [Hw]; · iexact Hw
    isplitl [Hf] <;> iassumption
  isplitl [Hfl Hr Hpl Hpa Hbufs]
  · isplitl [Hfl]; · iexists _; iexact Hfl
    isplitl [Hr]; · iexact Hr
    isplitl [Hpl]; · iexact Hpl
    isplitl [Hpa] <;> iassumption
  isplitr [HO]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hsc] <;> iassumption
  unfold Owe
  iexact HO

end Tile

end Cert.Proof

end
-- ==== Proof.Launch.lean ====
/-
  The whole program's run: what every buffer holds when it ends, as a function of what it held at the start.
-/
module

public import proofs.«01_k».proof.Proof.Seg
public import proofs.«01_k».proof.Proof.Steps

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.Pipeline (arrRef arrRefs scopedRest BodyObligationLoose ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rounds Cert.Proof.Row

variable {F : FTy → Type} [FloatOps F] [∀ e, Nonempty (Elt F e)]

local notation "𝕄" => MT nD τ sig (HIx 1) (Elt F) ℕ UU ℕ

/-! ## The buffers' contents along @main -/

/-- The host operations before the first call, between the calls, and after the last. -/
def ops₁ : List (HloOp τ sig (Elt F)) := [
  StableHlo.nullary main_cst (fun i => FloatOps.ofBits .f32 (lit0 (S1x5456.rowMajor i))),
  StableHlo.nullary main_cst_0 (fun i => FloatOps.ofBits .f32 (lit1 (S5456x1.rowMajor i))),
  StableHlo.nary ![main_arg0, main_arg1, main_arg2, main_arg3, main_arg4] main_v0 (fun u => (concatenate S5456x2 0 [⟨S4096x2, (u 0 : (⟨S4096x2, .f32⟩ : BufTy).Contents (Elt F))⟩, ⟨S1024x2, (u 1 : (⟨S1024x2, .f32⟩ : BufTy).Contents (Elt F))⟩, ⟨S256x2, (u 2 : (⟨S256x2, .f32⟩ : BufTy).Contents (Elt F))⟩, ⟨S64x2, (u 3 : (⟨S64x2, .f32⟩ : BufTy).Contents (Elt F))⟩, ⟨S16x2, (u 4 : (⟨S16x2, .f32⟩ : BufTy).Contents (Elt F))⟩] concatenates_S4096x2_S1024x2_S256x2_S64x2_S16x2_S5456x2_d0 : (⟨S5456x2, .f32⟩ : BufTy).Contents (Elt F))),
  StableHlo.unary main_v0 main_v1 ((transpose S2x5456 [1, 0] · transposes_S5456x2_S2x5456_1_0) : (⟨S5456x2, .f32⟩ : BufTy).Contents (Elt F) → (⟨S2x5456, .f32⟩ : BufTy).Contents (Elt F)),
  StableHlo.binary main_v1 main_cst main_v2 ((fun a b => concatenate S3x5456 0 [⟨S2x5456, a⟩, ⟨S1x5456, b⟩] concatenates_S2x5456_S1x5456_S3x5456_d0) : (⟨S2x5456, .f32⟩ : BufTy).Contents (Elt F) → (⟨S1x5456, .f32⟩ : BufTy).Contents (Elt F) → (⟨S3x5456, .f32⟩ : BufTy).Contents (Elt F)),
  StableHlo.unary main_arg9 main_v3 ((extui 8 · natLt_1_8) : (⟨S5456x200, .i1⟩ : BufTy).Contents (Elt F) → (⟨S5456x200, .i8⟩ : BufTy).Contents (Elt F)),
  StableHlo.reshape main_arg8 main_v4 (rfl : (.i32 : EltTy) = .i32) shapeCasts_S200_S200x1]

def ops₂ : List (HloOp τ sig (Elt F)) := [
  StableHlo.unary main_v5_1 main_v6 ((extractStridedSlice S1x256 ![0, 0] · slices_S8x256_S1x256_0_0) : (⟨S8x256, .i32⟩ : BufTy).Contents (Elt F) → (⟨S1x256, .i32⟩ : BufTy).Contents (Elt F)),
  StableHlo.reshape main_v6 main_v7 (rfl : (.i32 : EltTy) = .i32) shapeCasts_S1x256_S256]

def ops₃ : List (HloOp τ sig (Elt F)) := [
  StableHlo.reshape main_v8 main_v9 (rfl : (.i32 : EltTy) = .i32) shapeCasts_S3200_S16x200,
  StableHlo.unary main_arg5 main_v10 ((transpose S4x200 [1, 0] · transposes_S200x4_S4x200_1_0) : (⟨S200x4, .f32⟩ : BufTy).Contents (Elt F) → (⟨S4x200, .f32⟩ : BufTy).Contents (Elt F)),
  StableHlo.reshape main_arg8 main_v11 (rfl : (.i32 : EltTy) = .i32) shapeCasts_S200_S1x200]

def ops₄ : List (HloOp τ sig (Elt F)) := [
  StableHlo.nullary main_c (constantI S_ 32 0#32),
  StableHlo.unary main_c main_v13 (broadcastInDim S5456x200 ![] bcast_S_S5456x200 : (⟨S_, .i32⟩ : BufTy).Contents (Elt F) → (⟨S5456x200, .i32⟩ : BufTy).Contents (Elt F)),
  StableHlo.binary main_v12_1 main_v13 main_v14 (cmpi .ne : (⟨S5456x200, .i32⟩ : BufTy).Contents (Elt F) → (⟨S5456x200, .i32⟩ : BufTy).Contents (Elt F) → (⟨S5456x200, .i1⟩ : BufTy).Contents (Elt F)),
  StableHlo.unary main_v14 main_v15 (id : (⟨S5456x200, .i1⟩ : BufTy).Contents (Elt F) → (⟨S5456x200, .i1⟩ : BufTy).Contents (Elt F))]

theorem ops_sub : ∀ op ∈ (ops₁ ++ ops₂ ++ ops₃ ++ ops₄ : List (HloOp τ sig (Elt F))), op.bufs ⊆ ucRefs τ sig ∧ op.fresh = ∅ := by
  intro op hop
  simp only [ops₁, ops₂, ops₃, ops₄, List.cons_append, List.nil_append, List.mem_cons, List.not_mem_nil, or_false] at hop
  rcases hop with rfl | rfl | rfl | rfl | rfl | rfl | rfl | rfl | rfl | rfl | rfl | rfl | rfl | rfl | rfl | rfl
  all_goals refine ⟨?_, rfl⟩
  all_goals first
    | (rw [StableHlo.nullary_bufs]; decide) | (rw [StableHlo.unary_bufs]; decide) | (rw [StableHlo.binary_bufs]; decide)
    | (rw [StableHlo.reshape_bufs]; decide) | (change insert (Proc.devRef .tc main_v0) (Finset.univ.image fun i => Proc.devRef .tc (![main_arg0, main_arg1, main_arg2, main_arg3, main_arg4] i)) ⊆ _; decide)

/-- @main as the host operations around its three calls. -/
theorem main_eq (d : Dev nD) : main (F := F) d = (do
    StableHlo.seq ops₁
    Prog.lift (.customCall (SparseCore.inner (Pipeline.entry 0)) ())
    StableHlo.seq ops₂
    sc.run d 0
    StableHlo.seq ops₃
    Prog.lift (.customCall (SparseCore.inner (Pipeline.entry 1)) ())
    StableHlo.seq ops₄
    pure ⟨⟩) := by
  simp only [main, ops₁, ops₂, ops₃, ops₄, StableHlo.seq, bind_assoc, pure_bind]

variable (m : (ℓ : Loc nD τ sig) → Buf (Elt F) ℓ) (ρ : Dev nD → PrngReg)

/-- What a device's TensorCore owes before and after the SparseCore call, and how far its waits may then go. -/
abbrev Ob (n : ℕ) (d : Dev nD) : CellTallies nD τ sig (HIx 1) := (K (F := F)).Otc d n
abbrev Bd (n : ℕ) (d : Dev nD) : Set (SemLoc sig × HIx 1) := {x | (K (F := F)).lev (T d, x.1) x.2 ≤ 8 * n}

theorem Ob_none (n : ℕ) (d : Dev nD) (g : GSem nD τ sig) : Ob (F := F) n d g none = 0 := by
  by_contra h
  have := (K (F := F)).lev_of_Otc_pos (Nat.pos_of_ne_zero h)
  rw [SparseCore.Cfg.lev_none] at this
  omega

theorem waits_low (n : ℕ) (p : Fin 2) (d : Dev nD) : (Pipeline.pin (pcfgs (F := F)) adm p).waitPairs (none : HIx 1) ⊆ Bd (F := F) n d := by
  rintro x ⟨w, s, rfl⟩
  exact Nat.zero_le _

/-- The buffers at the start; before the first call; after it; before the SparseCore call; after it; before the last call;
    after it; at the end. -/
def U₀ (d : Dev nD) : Valuation τ sig (Elt F) := fun b => m (d, b)
def U₁ (d : Dev nD) : Valuation τ sig (Elt F) := StableHlo.after ops₁ (U₀ m d)
def U₂ (d : Dev nD) : Valuation τ sig (Elt F) := afterRegion (dats (U₁ m) (Ob (F := F) 0) (Bd (F := F) 0) 0 d) (U₁ m d)
def U₃ (d : Dev nD) : Valuation τ sig (Elt F) := StableHlo.after ops₂ (U₂ m d)
def wv (d : Dev nD) : Buf (Elt F) (wLoc d) := U₃ m d (Proc.devRef .tc main_v5_0)
def fv (d : Dev nD) : Buf (Elt F) (fLoc d) := U₃ m d (Proc.devRef .tc main_v7)
def ov (d : Dev nD) : Buf (Elt F) (oLoc d) := U₃ m d (Proc.devRef .tc main_v8)
def U₄ (d : Dev nD) : Valuation τ sig (Elt F) := Function.update (U₃ m d) (Proc.devRef .tc main_v8) (outVal (wv m d) (fv m d) (ov m d) : Buf (Elt F) (oLoc d))
def U₅ (d : Dev nD) : Valuation τ sig (Elt F) := StableHlo.after ops₃ (U₄ m d)
def U₆ (d : Dev nD) : Valuation τ sig (Elt F) := afterRegion (dats (U₅ m) (Ob (F := F) 1) (Bd (F := F) 1) 1 d) (U₅ m d)
def U₇ (d : Dev nD) : Valuation τ sig (Elt F) := StableHlo.after ops₄ (U₆ m d)

/-! ## What the SparseCore call's threads are handed, and hand back -/

/-- A tile's part at call: its share of the weights and of the flags, its places of the output at `o`. -/
abbrev part (d : Dev nD) (o : Buf (Elt F) (oLoc d)) (c : Fin 2) (s : Fin 16) : sProp 𝕄 :=
  iprop((wLoc d ↦{tq (wid c s)} wv m d) ∗ (fLoc d ↦{tq (wid c s)} fv m d) ∗ (oLoc d ↦[oSet (wid c s)]{fullShare} o))

/-- The output as the tiles leave it. -/
abbrev ov' (d : Dev nD) : Buf (Elt F) (oLoc d) := outVal (wv m d) (fv m d) (ov m d)

def P : (K (F := F)).Pay (nD := nD) (Val := Elt F) (Name := ℕ) (U := UU) where
  st := fun q d c => match q with | 0 => bigSep Finset.univ fun s : Fin 16 => part m d (ov m d) (Fin.cast nCore_zero c) s
  dn := fun q d c => match q with | 0 => bigSep Finset.univ fun s : Fin 16 => part m d (ov' m d) (Fin.cast nCore_zero c) s
  go := fun q d c i => match q with | 0 => part m d (ov m d) (Fin.cast nCore_zero c) (Fin.cast nSub_zero i)
  td := fun q d c i => match q with | 0 => part m d (ov' m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => part m d (ov m d) (Fin.cast nCore_zero c) s))
  dn q d c := match q with
    | 0 => (inferInstance : BI.Storable (upEmb : UEmb _ 𝕄) (bigSep Finset.univ fun s : Fin 16 => part m d (ov' m d) (Fin.cast nCore_zero c) s))
  go q d c i := match q with
    | 0 => (inferInstance : BI.Storable (upEmb : UEmb _ 𝕄) (part m d (ov m d) (Fin.cast nCore_zero c) (Fin.cast nSub_zero i)))
  td q d c i := match q with
    | 0 => (inferInstance : BI.Storable (upEmb : UEmb _ 𝕄) (part m d (ov' m d) (Fin.cast nCore_zero c) (Fin.cast nSub_zero i)))

def coordsV (c : Fin (grid1.bound 0)) (s : Fin (grid1.bound 1)) : grid1.Coords := fun | 0 => c | 1 => s | ⟨_ + 2, h⟩ => absurd h (Nat.not_lt.2 (Nat.le_add_left _ _))

theorem defs₀_vector (c : Fin τ.nSC) (s : Fin τ.nSub) : defs₀ (F := F) (.scVector c s) 1 ()
    = SparseCore.onTile hcore1 hsub1 (fun c s => cc1__body_b (F := F) (coordsV c s) wM (Memref.isWhole_whole _) fM (Memref.isWhole_whole _) oM (Memref.isWhole_whole _) flM (Memref.isWhole_whole _) rowM (Memref.isWhole_whole _) placeM (Memref.isWhole_whole _) payM (Memref.isWhole_whole _) cc1_scratch4 cc1_scoped0 cc1_scoped1 cc1_scoped2 cc1_scoped3 cc1_scoped4 cc1_scoped5 cc1_scoped6 cc1_scoped7) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono .rfl (sep_mono .rfl (sep_mono .rfl ?_))
  iintro ⟨%W', %h, HO⟩
  iexists W'
  isplitr
  · ipureintro; exact fun p hp => (h p hp).imp_right Or.inl
  iexact HO

set_option maxRecDepth 16384 in
/-- Every tile's task, from its part to its part written. -/
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_wp d (coordsV ⟨_, hci.1⟩ ⟨_, hci.2⟩) O W facts hO (tq (wid (Fin.cast nCore_zero c) (Fin.cast nSub_zero i))) (wv m d) (fv m d) (ov m d)).trans
    (wp_mono frame _ _ fun _ => weaken_waits)

/-- A SparseCore's part is its tiles' parts. -/
theorem vecSplit : (K (F := F)).VecSplit' (P m) 0 := by
  intro d c
  change (bigSep Finset.univ fun s : Fin 16 => part m d (ov m d) (Fin.cast nCore_zero c) s)
    ⊢ |={Set.univ}=> iprop((bigSep Finset.univ fun i : Fin 16 => part m d (ov m d) (Fin.cast nCore_zero c) i)
      ∗ ((bigSep Finset.univ fun i : Fin 16 => part m d (ov' m d) (Fin.cast nCore_zero c) i)
        -∗ bigSep Finset.univ fun i : Fin 16 => part m d (ov' m d) (Fin.cast nCore_zero c) i))
  iintro H
  imodintro
  isplitl [H]; · iexact H
  iintro H
  iexact H

end Cert.Proof

end
-- ==== Proof.Run.lean ====
/-
  The program's run assembled: the SparseCore call's operands dealt to the tiles, @main followed call by call, and the
  final memory read off.
-/
module

public import proofs.«01_k».proof.Proof.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.Pipeline (arrRef arrRefs scopedRest BodyObligationLoose ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

/-! ## The operands dealt to the tiles -/

/-- The tiles' numbers are those below 32, each once. -/
def widEquiv : Fin 2 × Fin 16 ≃ Fin 32 where
  toFun x := wid x.1 x.2
  invFun t := (⟨t.val % 2, Nat.mod_lt _ (by decide)⟩, ⟨t.val / 2, by omega⟩)
  left_inv x := by
    obtain ⟨⟨a, ha⟩, ⟨b, hb⟩⟩ := x
    simp only [wid, Prod.mk.injEq, Fin.mk.injEq]
    omega
  right_inv t := by
    apply Fin.ext
    simp only [wid]
    omega

/-- What every tile number has is what every SparseCore's every tile has. -/
theorem bigSep_wid (Φ : Fin 32 → sProp 𝕄) :
    bigSep Finset.univ Φ = bigSep Finset.univ fun c : Fin 2 => bigSep Finset.univ fun s : Fin 16 => Φ (wid c s) := by
  rw [BI.bigSep_univ_equiv widEquiv (Φ := Φ), BI.bigSep_univ_prod]
  rfl

/-- What every number below 32 has, over the numbers or over their type. -/
theorem bigSep_below (Φ : ℕ → sProp 𝕄) : bigSep (Finset.range 32) Φ = bigSep (Finset.univ : Finset (Fin 32)) fun i => Φ i.val := by
  rw [show Finset.range 32 = Finset.univ.map (Fin.valEmbedding (n := 32)) by decide, BI.bigSep_map]
  rfl

theorem regroup (A B C E G : sProp 𝕄) : iprop((A ∗ B) ∗ (C ∗ E) ∗ G) = iprop((A ∗ C) ∗ B ∗ E ∗ G) := by
  have h₁ : iprop((A ∗ B) ∗ (C ∗ E) ∗ G) ⊢ iprop((A ∗ C) ∗ B ∗ E ∗ G) := by
    iintro ⟨⟨A, B⟩, ⟨C, E⟩, G⟩
    isplitl [A C]
    · isplitl [A] <;> iassumption
    isplitl [B]; · iexact B
    isplitl [E] <;> iassumption
  have h₂ : iprop((A ∗ C) ∗ B ∗ E ∗ G) ⊢ iprop((A ∗ B) ∗ (C ∗ E) ∗ G) := by
    iintro ⟨⟨A, C⟩, B, E, G⟩
    isplitl [A B]
    · isplitl [A] <;> iassumption
    isplitl [C E]
    · isplitl [C] <;> iassumption
    iexact G
  exact BI.Entails.antisymm h₁ h₂

theorem deal_read {ℓ : Loc nD τ sig} (f : Buf (Elt F) ℓ) :
    (ℓ ↦{fullShare} f : sProp 𝕄) = iprop((ℓ ↦{Transfers.shareDrop fullShare 32} f)
      ∗ bigSep Finset.univ fun c : Fin 2 => bigSep Finset.univ fun s : Fin 16 => ℓ ↦{tq (wid c s)} f) := by
  rw [← bigSep_wid fun t => (ℓ ↦{tq t} f : sProp 𝕄), ← bigSep_below fun i => (ℓ ↦{Transfers.shareTokN fullShare i} f : sProp 𝕄)]
  exact BI.Entails.antisymm (Transfers.pointsTo_toks_range fullShare 32).1 (Transfers.pointsTo_toks_range fullShare 32).2

theorem oSet_disjoint : ∀ t ∈ (Finset.univ : Finset (Fin 32)), ∀ t' ∈ (Finset.univ : Finset (Fin 32)), t ≠ t' → Disjoint (oSet t) (oSet t') := by
  intro t _ t' _ h
  rw [Finset.disjoint_left]
  intro k hk hk'
  exact h (Fin.ext ((Finset.mem_filter.mp hk).2.symm.trans (Finset.mem_filter.mp hk').2))

theorem oSet_cover : (Finset.univ : Finset (Fin 32)).biUnion oSet = Finset.univ := by
  ext k
  simp only [Finset.mem_biUnion, Finset.mem_univ, true_and, iff_true]
  exact ⟨⟨((k 0).val % 200) % 32, Nat.mod_lt _ (by decide)⟩, Finset.mem_filter.mpr ⟨Finset.mem_univ _, rfl⟩⟩

theorem deal_write (d : Dev nD) (o : Buf (Elt F) (oLoc d)) :
    (oLoc d ↦{fullShare} o : sProp 𝕄)
      = bigSep Finset.univ fun c : Fin 2 => bigSep Finset.univ fun s : Fin 16 => oLoc d ↦[oSet (wid c s)]{fullShare} o := by
  rw [← bigSep_wid fun t => (oLoc d ↦[oSet t]{fullShare} o : sProp 𝕄), ← pointsTo_biUnion Finset.univ (ℓ := oLoc d) oSet oSet_disjoint]
  exact congrArg (fun S => (oLoc d ↦[S]{fullShare} o : sProp 𝕄)) oSet_cover.symm

variable (m : (ℓ : Loc nD τ sig) → Buf (Elt F) ℓ) (ρ : Dev nD → PrngReg)

/-- Every tile's part, out of the three operands whole, a remainder of each read one kept aside. -/
theorem deal (d : Dev nD) (o : Buf (Elt F) (oLoc d)) :
    (iprop((wLoc d ↦{fullShare} wv m d) ∗ (fLoc d ↦{fullShare} fv m d) ∗ (oLoc d ↦{fullShare} o)) : sProp 𝕄)
      = iprop(((wLoc d ↦{Transfers.shareDrop fullShare 32} wv m d) ∗ (fLoc d ↦{Transfers.shareDrop fullShare 32} fv m d))
        ∗ bigSep Finset.univ fun c : Fin 2 => bigSep Finset.univ fun s : Fin 16 => part m d o c s) := by
  rw [deal_read (wv m d), deal_read (fv m d), deal_write d o]
  simp only [part, bigSep_sep']
  exact regroup _ _ _ _ _

/-- The SparseCore call's three operands among the device's buffers. -/
def scRefs : Finset (DevRef τ sig) := {Proc.devRef .tc main_v5_0, Proc.devRef .tc main_v7, Proc.devRef .tc main_v8}
theorem scRefs_sub : scRefs ⊆ ucRefs τ sig := by unfold scRefs; decide

theorem held_sc (d : Dev nD) (W : Valuation τ sig (Elt F)) :
    (StableHlo.held (T d) (ucRefs τ sig) W : sProp 𝕄)
      = iprop(((wLoc d ↦{fullShare} (W (Proc.devRef .tc main_v5_0) : Buf (Elt F) (wLoc d)))
          ∗ (fLoc d ↦{fullShare} (W (Proc.devRef .tc main_v7) : Buf (Elt F) (fLoc d)))
          ∗ (oLoc d ↦{fullShare} (W (Proc.devRef .tc main_v8) : Buf (Elt F) (oLoc d))))
        ∗ StableHlo.held (T d) (ucRefs τ sig \ scRefs) W) := by
  rw [StableHlo.held_sub_split (T d) scRefs_sub W]
  congr 1
  unfold StableHlo.held scRefs
  rw [SparseCore.bigSep_insert' (by decide), SparseCore.bigSep_insert' (by decide), bigSep_singleton]

theorem U₄_w (d : Dev nD) : U₄ m d (Proc.devRef .tc main_v5_0) = wv m d := Function.update_of_ne (by decide) _ _
theorem U₄_f (d : Dev nD) : U₄ m d (Proc.devRef .tc main_v7) = fv m d := Function.update_of_ne (by decide) _ _
theorem U₄_o (d : Dev nD) : U₄ m d (Proc.devRef .tc main_v8) = ov' m d := Function.update_self _ _ _
theorem held_rest (d : Dev nD) : (StableHlo.held (T d) (ucRefs τ sig \ scRefs) (U₃ m d) : sProp 𝕄) = StableHlo.held (T d) (ucRefs τ sig \ scRefs) (U₄ m d) :=
  StableHlo.held_congr (T d) fun b hb => (Function.update_of_ne (fun h => (Finset.mem_sdiff.mp hb).2 (by subst h; decide)) _ _).symm

/-- The SparseCore call on device `d`: from the buffers at `U₃` to the buffers at `U₄`. -/
theorem sc_wp (κ : GSem nD τ sig → ℕ) (d : Dev nD) (Φ : PUnit → sProp 𝕄) :
    iprop((K (F := F)).ctx EH (P m) κ ∗ (K (F := F)).tcSt EH d 0 ∗ StableHlo.held (T d) (ucRefs τ sig) (U₃ m d)
        ∗ (((K (F := F)).tcSt EH d 1 ∗ StableHlo.held (T d) (ucRefs τ sig) (U₄ m d)) -∗ Φ ⟨⟩))
      ⊢ wp frame (wpE ((K (F := F)).defs (D (F := F))) 𝒱 (T d) none) Set.univ (sc.run d 0) Φ := by
  rw [held_sc d (U₃ m d), held_sc d (U₄ m d), U₄_w, U₄_f, U₄_o, held_rest,
    show (U₃ m d (Proc.devRef .tc main_v5_0) : Buf (Elt F) (wLoc d)) = wv m d from rfl,
    show (U₃ m d (Proc.devRef .tc main_v7) : Buf (Elt F) (fLoc d)) = fv m d from rfl,
    show (U₃ m d (Proc.devRef .tc main_v8) : Buf (Elt F) (oLoc d)) = ov m d from rfl, deal m d (ov m d), deal m d (ov' m d)]
  iintro ⟨#Hctx, Hst, ⟨⟨Hrem, Hparts⟩, Hrest⟩, Hk⟩
  iapply ((K (F := F)).wp_run (D (F := F)) 𝒱 (EH := EH) (P := P m) κ d 0)
  isplitr; · iexact Hctx
  isplitl [Hst]; · iexact Hst
  isplitl [Hparts]; · iexact Hparts
  iintro ⟨Hst, Hdn⟩
  iapply Hk
  isplitl [Hst]; · iexact Hst
  isplitl [Hrem Hdn]
  · isplitl [Hrem]; · iexact Hrem
    iexact Hdn
  iexact Hrest

/-! ## A TensorCore call and a run of host operations, in the launch theorem's terms -/

/-- Call `p` on device `d`, the thread being at call counter `n`. -/
theorem tc_wp (κ : GSem nD τ sig → ℕ) (n : ℕ) (p : Fin 2) (V : Dev nD → Valuation τ sig (Elt F)) (d : Dev nD) (Φ : PUnit → sProp 𝕄) :
    iprop((K (F := F)).ctx EH (P m) κ ∗ (K (F := F)).tcSt EH d n ∗ boundary (T d) ∗ StableHlo.held (T d) (ucRefs τ sig) (V d)
        ∗ Pipeline.cellsGhost (Pipeline.pin (pcfgs (F := F)) adm) EP p d ∗ Pipeline.toksInit (Pipeline.pin (pcfgs (F := F)) adm) EP p d
        ∗ (((K (F := F)).tcSt EH d n ∗ boundary (T d)
            ∗ StableHlo.held (T d) (ucRefs τ sig) (afterRegion (dats V (Ob (F := F) n) (Bd (F := F) n) p d) (V d))) -∗ Φ ⟨⟩))
      ⊢ wp frame (wpE ((K (F := F)).defs (D (F := F))) 𝒱 (T d) none) Set.univ (Prog.lift (.customCall (SparseCore.inner (Pipeline.entry p)) ())) Φ := by
  unfold SparseCore.Cfg.tcSt
  iintro ⟨#Hctx, ⟨HO, Hst⟩, Hb, HV, Hg, Ht, Hk⟩
  iapply (call_wp V (Ob (F := F) n) (Bd (F := F) n) (Ob_none n) (waits_low n) p d Φ)
  isplitl [Hst Hk]
  · iintro ⟨Hb, HV, HO⟩
    iapply Hk
    isplitl [HO Hst]
    · isplitl [HO]; · iexact HO
      iexact Hst
    isplitl [Hb]; · iexact Hb
    iexact HV
  isplitl [Hb]; · iexact Hb
  isplitl [HV HO]
  · isplitl [HV]; · iexact HV
    iexact HO
  isplitr
  · iapply ((K (F := F)).ctx_levAts κ); iexact Hctx
  isplitl [Hg] <;> iassumption

theorem ops₁_ok : ∀ op ∈ (ops₁ : List (HloOp τ sig (Elt F))), op.bufs ⊆ ucRefs τ sig ∧ op.fresh = ∅ := fun op h => ops_sub op (by simp [h])
theorem ops₂_ok : ∀ op ∈ (ops₂ : List (HloOp τ sig (Elt F))), op.bufs ⊆ ucRefs τ sig ∧ op.fresh = ∅ := fun op h => ops_sub op (by simp [h])
theorem ops₃_ok : ∀ op ∈ (ops₃ : List (HloOp τ sig (Elt F))), op.bufs ⊆ ucRefs τ sig ∧ op.fresh = ∅ := fun op h => ops_sub op (by simp [h])
theorem ops₄_ok : ∀ op ∈ (ops₄ : List (HloOp τ sig (Elt F))), op.bufs ⊆ ucRefs τ sig ∧ op.fresh = ∅ := fun op h => ops_sub op (by simp [h])

/-- A run of host operations on device `d`. -/
theorem host_wp (ops : List (HloOp τ sig (Elt F))) (h : ∀ op ∈ ops, op.bufs ⊆ ucRefs τ sig ∧ op.fresh = ∅) (V : Valuation τ sig (Elt F)) (d : Dev nD)
    (Φ : PUnit → sProp 𝕄) :
    iprop(boundary (T d) ∗ StableHlo.held (T d) (ucRefs τ sig) V
        ∗ ((boundary (T d) ∗ StableHlo.held (T d) (ucRefs τ sig) (StableHlo.after ops V)) -∗ Φ ⟨⟩))
      ⊢ wp frame (wpE ((K (F := F)).defs (D (F := F))) 𝒱 (T d) none) Set.univ (StableHlo.seq ops) Φ := by
  have hs := StableHlo.wp_seq (defs := (K (F := F)).defs (D (F := F))) 𝒱 none Set.univ d (ucRefs τ sig) (fun _ => pure PUnit.unit) (K := Φ)
    ops (fun op ho => (h op ho).1) (fun op ho => (h op ho).2) V
  rw [bind_pure] at hs
  iintro ⟨Hb, HV, Hk⟩
  iapply hs $$ [Hb HV]
  · isplitl [Hb] <;> iassumption
  iintro H
  rw [wp_pure]
  imodintro
  iapply Hk
  iexact H

/-! ## The ghost state at the start -/

/-- The staging cells' names are distinct. -/
theorem cells_inj : Function.Injective (Pipeline.cellOf (nD := nD) (τ := τ) (Pipeline.pin (pcfgs (F := F)) adm)) := (kit (F := F) 0).cellOf_inj adm

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What a device is given for its two TensorCore calls. -/
abbrev G (d : Dev nD) : sProp 𝕄 := iprop((bigSep Finset.univ fun p : Fin 2 => Pipeline.cellsGhost (Pipeline.pin (pcfgs (F := F)) adm) EP p d)
  ∗ bigSep Finset.univ fun p : Fin 2 => Pipeline.toksInit (Pipeline.pin (pcfgs (F := F)) adm) EP p d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), (1 : Counters)))) $$ Hu
  icases H with ⟨HH, HP⟩
  ihave H := (own_pair_emb (embR : Emb (UP × Counters) 𝕄)
    (initOf (Pipeline.cells (Pipeline.pin (pcfgs (F := F)) adm) cells_inj) (Pipeline.launchToks (Pipeline.pin (pcfgs (F := F)) adm) cells_inj)) (1 : Counters)) $$ HP
  icases H with ⟨HP, -⟩
  ihave HP := (Entails.of_eq (show (BI.own (((Emb.inl : Emb UP (UP × Counters)).trans (embR : Emb (UP × Counters) 𝕄)) (initOf (Pipeline.cells (Pipeline.pin (pcfgs (F := F)) adm) cells_inj) (Pipeline.launchToks (Pipeline.pin (pcfgs (F := F)) adm) cells_inj))) : sProp 𝕄)
    = BI.own ((EP : Emb UP 𝕄) (initOf (Pipeline.cells (Pipeline.pin (pcfgs (F := F)) adm) cells_inj) (Pipeline.launchToks (Pipeline.pin (pcfgs (F := F)) adm) cells_inj))) from rfl)) $$ HP
  imod (Pipeline.fund_ghost (Pipeline.pin (pcfgs (F := F)) adm) EP cells_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## @main -/

/-- The device's buffers when @main is done. -/
abbrev FIN (d : Dev nD) : sProp 𝕄 := StableHlo.held (T d) (ucRefs τ sig) (U₇ m d)

theorem bigSep_two (Φ : Fin 2 → sProp 𝕄) : bigSep Finset.univ Φ = iprop(Φ 0 ∗ Φ 1) := BI.bigSep_fin_two Φ

theorem start_held (d : Dev nD) : (unscopedBufs d (fun b => m ((SparseCore.T d).loc b)) : sProp 𝕄) = StableHlo.held (SparseCore.T d) (ucRefs τ sig) (U₀ m d) :=
  Pipeline.unscopedBufs_held d (U₀ m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [bigSep_two, bigSep_two, start_held, main_eq]
  simp only [wp_bind, wp_pure]
  iintro ⟨#Hctx, Hst, ⟨Hb, HV, Hts, -⟩, ⟨Hg₀, Hg₁⟩, ⟨Ht₀, Ht₁⟩⟩
  iapply (host_wp ops₁ ops₁_ok (U₀ m d) d)
  isplitl [Hb]; · iexact Hb
  isplitl [HV]; · iexact HV
  iintro ⟨Hb, HV⟩
  iapply (tc_wp m κ 0 0 (U₁ m) d)
  isplitr; · iexact Hctx
  isplitl [Hst]; · iexact Hst
  isplitl [Hb]; · iexact Hb
  isplitl [HV]; · iexact HV
  isplitl [Hg₀]; · iexact Hg₀
  isplitl [Ht₀]; · iexact Ht₀
  iintro ⟨Hst, Hb, HV⟩
  iapply (host_wp ops₂ ops₂_ok (U₂ m d) d)
  isplitl [Hb]; · iexact Hb
  isplitl [HV]; · iexact HV
  iintro ⟨Hb, HV⟩
  iapply (sc_wp m κ d)
  isplitr; · iexact Hctx
  isplitl [Hst]; · iexact Hst
  isplitl [HV]; · iexact HV
  iintro ⟨Hst, HV⟩
  iapply (host_wp ops₃ ops₃_ok (U₄ m d) d)
  isplitl [Hb]; · iexact Hb
  isplitl [HV]; · iexact HV
  iintro ⟨Hb, HV⟩
  iapply (tc_wp m κ 1 1 (U₅ m) d)
  isplitr; · iexact Hctx
  isplitl [Hst]; · iexact Hst
  isplitl [Hb]; · iexact Hb
  isplitl [HV]; · iexact HV
  isplitl [Hg₁]; · iexact Hg₁
  isplitl [Ht₁]; · iexact Ht₁
  iintro ⟨Hst, Hb, HV⟩
  iapply (host_wp ops₄ ops₄_ok (U₆ m d) d)
  isplitl [Hb]; · iexact Hb
  isplitl [HV]; · iexact HV
  iintro ⟨Hb, HV⟩
  imodintro
  isplitl [Hst]; · iexact Hst
  isplitl [HV]; · iexact HV
  isplitl [Hb] <;> iassumption

/-! ## The final memory -/

/-- What the final memory of device `d` shows: every buffer the program names at its final contents. -/
def fq (d : Dev nD) (s' : Phys nD τ sig (Elt F)) : Prop := ∀ b ∈ ucRefs τ sig, s'.mem.mem (d, b) = U₇ m d b

theorem hfin (d : Dev nD) (s' : Phys nD τ sig (Elt F)) : iprop(FIN m d ∗ SI s') ⊢ (⌜fq m d s'⌝ : sProp 𝕄) := by
  have h : ∀ b : {b // b ∈ ucRefs τ sig}, iprop(FIN m d ∗ SI s') ⊢ (⌜s'.mem.mem (d, b.1) = U₇ m d b.1⌝ : sProp 𝕄) := by
    intro b
    unfold FIN StableHlo.held
    rw [SparseCore.bigSep_erase' b.2]
    iintro ⟨⟨Hb, -⟩, HSI⟩
    ihave H := (SI_pointsTo_agree (st := s') (ℓ := (d, b.1)) (I := Finset.univ) (q := fullShare) (f := U₇ m d b.1)) $$ [HSI Hb]
    · isplitl [HSI] <;> iassumption
    icases H with %h
    ipureintro
    exact funext fun i => h i (Finset.mem_univ i)
  have h' : iprop(FIN m d ∗ SI s') ⊢ (⌜∀ b : {b // b ∈ ucRefs τ sig}, s'.mem.mem (d, b.1) = U₇ m d b.1⌝ : sProp 𝕄) :=
    (forall_intro h).trans pure_forall.2
  exact h'.trans (Laws.pure_mono fun h b hb => h ⟨b, hb⟩)

def QC : PUnit × MemSt nD τ sig (Elt F) → Prop := fun r => (∀ d : Dev nD, ∀ b ∈ ucRefs τ sig, r.2.mem (d, b) = U₇ m d b) ∧ r.2.sem = fun _ => 0

/-- The program run from memory `m` ends with every buffer at its final contents and every semaphore at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof

end
-- ==== Proof.Same.lean ====
/-
  The kernel and its ideal form are one program text: each body, the host program and the dispatch tables agree over any float values.
-/
module

public import proofs.«01_k».proof.Proof.Gen.Kernel
public import proofs.«01_k».proof.Proof.Gen.KernelIdeal

@[expose] public section

noncomputable section

namespace Cert.Proof.Same

open Idealize.ShloMosaic

variable {F : FTy → Type} [FloatOps F] [∀ e, Nonempty (Elt F e)]

/-- The first TensorCore body. -/
theorem bodyA : @Cert.Kernel.cc0__body_a F _ _ = @Cert.KernelIdeal.cc0__body_a F _ _ := rfl

set_option maxHeartbeats 10000000 in
/-- The SparseCore body. -/
theorem bodyB : @Cert.Kernel.cc1__body_b F _ _ = @Cert.KernelIdeal.cc1__body_b F _ _ := by
  unfold Cert.Kernel.cc1__body_b Cert.KernelIdeal.cc1__body_b
  rfl

/-- The last TensorCore body. -/
theorem bodyC : @Cert.Kernel.cc2__body_c F _ _ = @Cert.KernelIdeal.cc2__body_c F _ _ := rfl

set_option maxHeartbeats 10000000 in
/-- The table of the bodies. -/
theorem table : Cert.Kernel.defs₀ (F := F) = Cert.KernelIdeal.defs₀ (F := F) := by
  unfold Cert.Kernel.defs₀ Cert.KernelIdeal.defs₀
  rw [bodyA, bodyB, bodyC]
  funext p l x
  match p with
  | .tc => fin_cases l <;> rfl
  | .scScalar c => fin_cases l <;> rfl
  | .scVector c s => fin_cases l <;> rfl

theorem literal₀ : @Cert.Kernel.lit0 = @Cert.KernelIdeal.lit0 := rfl
theorem literal₁ : @Cert.Kernel.lit1 = @Cert.KernelIdeal.lit1 := rfl

/-- The host program. -/
theorem host : Cert.Kernel.main (F := F) = Cert.KernelIdeal.main (F := F) := by
  unfold Cert.Kernel.main Cert.KernelIdeal.main
  rw [literal₀, literal₁]
  rfl

/-- The whole table of labels. -/
theorem labels : Cert.Kernel.defs (F := F) = Cert.KernelIdeal.defs (F := F) := by
  unfold Cert.Kernel.defs Cert.KernelIdeal.defs
  rw [table]
  rfl

/-- What each processor runs. -/
theorem programs : Cert.Kernel.threads (F := F) = Cert.KernelIdeal.threads (F := F) := by
  unfold Cert.Kernel.threads Cert.KernelIdeal.threads
  rw [host]
  rfl

end Cert.Proof.Same

end
-- ==== Proof.Frames.lean ====
/-
  The arguments' arrays at the end of the program, and the frames of the kernel and of its ideal form.
-/
module

public import proofs.«01_k».proof.Proof.Run
public import proofs.«01_k».proof.Proof.Same
public import proofs.«01_k».proof.Defs
public import proofs.«01_k».proof.Proof.Gen.Kernel
public import proofs.«01_k».proof.Proof.Gen.ReferenceIdeal.Run

@[expose] public section

noncomputable section

namespace Cert.Proof

open Cert.KernelIdeal Cert.KernelIdeal.Gen
open Idealize.ShloMosaic
open Idealize.ShloMosaic.Pipeline (arrRef ucRefs afterRegion)
open Idealize.SL.Sem

variable {F : FTy → Type} [FloatOps F] [∀ e, Nonempty (Elt F e)]
variable (m : (ℓ : Loc nD τ sig) → Buf (Elt F) ℓ)

theorem U₁_keep (d : Dev nD) (r : Ref sig .tc) (h : r ∉ [main_cst, main_cst_0, main_v0, main_v1, main_v2, main_v3, main_v4]) :
    U₁ m d (Proc.devRef .tc r) = U₀ m d (Proc.devRef .tc r) :=
  StableHlo.after_of_writes_sub _ _ (StableHlo.forall_writes_sub_of_map rfl) h

theorem U₃_keep (d : Dev nD) (r : Ref sig .tc) (h : r ∉ [main_v6, main_v7]) :
    U₃ m d (Proc.devRef .tc r) = U₂ m d (Proc.devRef .tc r) :=
  StableHlo.after_of_writes_sub _ _ (StableHlo.forall_writes_sub_of_map rfl) h

theorem U₄_keep (d : Dev nD) (r : Ref sig .tc) (h : r ≠ main_v8) :
    U₄ m d (Proc.devRef .tc r) = U₃ m d (Proc.devRef .tc r) :=
  Function.update_of_ne (fun e => h (Proc.devRef_injective _ e)) _ _

theorem U₅_keep (d : Dev nD) (r : Ref sig .tc) (h : r ∉ [main_v9, main_v10, main_v11]) :
    U₅ m d (Proc.devRef .tc r) = U₄ m d (Proc.devRef .tc r) :=
  StableHlo.after_of_writes_sub _ _ (StableHlo.forall_writes_sub_of_map rfl) h

theorem U₇_keep (d : Dev nD) (r : Ref sig .tc) (h : r ∉ [main_c, main_v13, main_v14, main_v15]) :
    U₇ m d (Proc.devRef .tc r) = U₆ m d (Proc.devRef .tc r) :=
  StableHlo.after_of_writes_sub _ _ (StableHlo.forall_writes_sub_of_map rfl) h

/-- The first call changes its three results alone. -/
theorem U₂_keep (d : Dev nD) (r : Ref sig .tc) (h : r ∉ [main_v5_0, main_v5_1, main_v5_2]) :
    U₂ m d (Proc.devRef .tc r) = U₁ m d (Proc.devRef .tc r) := by
  refine Pipeline.afterRegion_keeps _ _ (kit (F := F) 0).win.arr_inj (dats_entry (U₁ m) _ _ 0 d) r fun w hw => ?_
  subst hw
  revert h
  fin_cases w
  all_goals first
    | (intro _; rfl)
    | (intro h; exact absurd (show main_v5_0 ∈ [main_v5_0, main_v5_1, main_v5_2] by decide) h)
    | (intro h; exact absurd (show main_v5_1 ∈ [main_v5_0, main_v5_1, main_v5_2] by decide) h)
    | (intro h; exact absurd (show main_v5_2 ∈ [main_v5_0, main_v5_1, main_v5_2] by decide) h)

/-- The last call changes its two results alone. -/
theorem U₆_keep (d : Dev nD) (r : Ref sig .tc) (h : r ∉ [main_v12_0, main_v12_1]) :
    U₆ m d (Proc.devRef .tc r) = U₅ m d (Proc.devRef .tc r) := by
  refine Pipeline.afterRegion_keeps _ _ (kit (F := F) 1).win.arr_inj (dats_entry (U₅ m) _ _ 1 d) r fun w hw => ?_
  subst hw
  revert h
  fin_cases w
  all_goals first
    | (intro _; rfl)
    | (intro h; exact absurd (show main_v12_0 ∈ [main_v12_0, main_v12_1] by decide) h)
    | (intro h; exact absurd (show main_v12_1 ∈ [main_v12_0, main_v12_1] by decide) h)

/-- A buffer that nothing of the program writes ends as it began. -/
theorem U₇_arg (d : Dev nD) (r : Ref sig .tc) (h : r ∉ [main_cst, main_cst_0, main_v0, main_v1, main_v2, main_v3, main_v4,
      main_v5_0, main_v5_1, main_v5_2, main_v6, main_v7, main_v8, main_v9, main_v10, main_v11, main_v12_0, main_v12_1, main_c, main_v13, main_v14, main_v15]) :
    U₇ m d (Proc.devRef .tc r) = m (d, Proc.devRef .tc r) := by
  simp only [List.mem_cons, List.not_mem_nil, or_false, not_or] at h
  rw [U₇_keep m d r (by simp [h]), U₆_keep m d r (by simp [h]), U₅_keep m d r (by simp [h]), U₄_keep m d r (by simp [h]),
    U₃_keep m d r (by simp [h]), U₂_keep m d r (by simp [h]), U₁_keep m d r (by simp [h])]
  rfl

/-- What the end of a run says of the ten arguments. -/
theorem args_of (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  have key (x : Ref sig .tc) (hx : Proc.devRef (τ := τ) .tc x ∈ ucRefs τ sig) (hn : x ∉ _) :
      r.2.mem ((c.tc : Thread nD τ).loc x) = m ((c.tc : Thread nD τ).loc x) := (h.1 c _ hx).trans (U₇_arg m c x hn)
  exact ⟨key _ (by decide) (by decide), key _ (by decide) (by decide), key _ (by decide) (by decide), key _ (by decide) (by decide),
    key _ (by decide) (by decide), key _ (by decide) (by decide), key _ (by decide) (by decide), key _ (by decide) (by decide),
    key _ (by decide) (by decide), key _ (by decide) (by decide)⟩

/-- The run keeps the arguments and leaves every semaphore at zero, over any float values. -/
theorem frame_run (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run (Cert.KernelIdeal.defs (F := F)) _ _).mono (fun r h => ⟨fun c => args_of m r h c, h.2⟩) (run_main (F := F) m ρ)

/-- The ideal kernel runs to its end, keeps its arguments and leaves every semaphore at zero. -/
theorem frame_ideal : Cert.quiescent_KernelIdeal := fun m ρ _ => frame_run (F := Ideal) m ρ

/-- So does the kernel over the machine's own floats. -/
theorem frame_kernel : Cert.quiescent_Kernel := by
  intro m ρ _
  rw [Same.labels, Same.programs]
  exact frame_run (F := Bits) m ρ

/-- The reference runs to its end and keeps its arguments; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Arrays.lean ====
/-
  What the two TensorCore calls leave in their results' arrays.
-/
module

public import proofs.«01_k».proof.Proof.Frames
public import Idealize.ShloMosaic.Lib.Pipeline.ValueKit

@[expose] public section

noncomputable section

namespace Cert.Proof.Arrays

open Idealize.ShloMosaic hiding ix1 ix2 ix3
open Idealize.ShloMosaic.ValueIdx
open Idealize.ShloMosaic.Pipeline (arrRef)
open Cert.KernelIdeal Cert.KernelIdeal.Gen Cert.Proof

variable {F : FTy → Type} [FloatOps F] [∀ e, Nonempty (Elt F e)]
variable (m : (ℓ : Loc nD τ sig) → Buf (Elt F) ℓ)

/-! ## The first call: every window is its array -/

theorem blkA_0 (U : Valuation τ sig (Elt F)) (t : Fin cfg0.N) : blkA U 0 t = U (Proc.devRef .tc main_v2) := by
  funext y
  refine congrArg (U (Proc.devRef .tc main_v2)) (funext fun a => Fin.ext ?_)
  blk_simp
  exact (congrArg (· + (y a).val) (Nat.zero_mul _)).trans (Nat.zero_add _)

theorem blkA_1 (U : Valuation τ sig (Elt F)) (t : Fin cfg0.N) : blkA U 1 t = U (Proc.devRef .tc main_arg5) := by
  funext y
  refine congrArg (U (Proc.devRef .tc main_arg5)) (funext fun a => Fin.ext ?_)
  blk_simp
  exact (congrArg (· + (y a).val) (Nat.zero_mul _)).trans (Nat.zero_add _)

theorem blkA_2 (U : Valuation τ sig (Elt F)) (t : Fin cfg0.N) : blkA U 2 t = U (Proc.devRef .tc main_arg6) := by
  funext y
  refine congrArg (U (Proc.devRef .tc main_arg6)) (funext fun a => Fin.ext ?_)
  blk_simp
  exact (congrArg (· + (y a).val) (Nat.zero_mul _)).trans (Nat.zero_add _)

theorem blkA_3 (U : Valuation τ sig (Elt F)) (t : Fin cfg0.N) : blkA U 3 t = U (Proc.devRef .tc main_arg7) := by
  funext y
  refine congrArg (U (Proc.devRef .tc main_arg7)) (funext fun a => Fin.ext ?_)
  blk_simp
  exact (congrArg (· + (y a).val) (Nat.zero_mul _)).trans (Nat.zero_add _)

theorem blkA_4 (U : Valuation τ sig (Elt F)) (t : Fin cfg0.N) : blkA U 4 t = U (Proc.devRef .tc main_v4) := by
  funext y
  refine congrArg (U (Proc.devRef .tc main_v4)) (funext fun a => Fin.ext ?_)
  blk_simp
  exact (congrArg (· + (y a).val) (Nat.zero_mul _)).trans (Nat.zero_add _)

theorem blkA_5 (U : Valuation τ sig (Elt F)) (t : Fin cfg0.N) : blkA U 5 t = U (Proc.devRef .tc main_v3) := by
  funext y
  refine congrArg (U (Proc.devRef .tc main_v3)) (funext fun a => Fin.ext ?_)
  blk_simp
  exact (congrArg (· + (y a).val) (Nat.zero_mul _)).trans (Nat.zero_add _)

/-- The weights' array after the first call. -/
theorem U₂_weights (d : Dev nD) : U₂ m d (Proc.devRef .tc main_v5_0)
    = wtA (U₁ m d (Proc.devRef .tc main_v2)) (U₁ m d (Proc.devRef .tc main_arg5)) (U₁ m d (Proc.devRef .tc main_arg6)) (U₁ m d (Proc.devRef .tc main_arg7)) (U₁ m d (Proc.devRef .tc main_v4)) := by
  refine (Pipeline.afterRegion_arr (dats (U₁ m) (Ob (F := F) 0) (Bd (F := F) 0) 0 d) (U₁ m d) (kit (F := F) 0).win.arr_inj 6).trans ?_
  refine (datA (U₁ m d) (Ob (F := F) 0 d) (Bd (F := F) 0 d) d).arrAt_eq_of_covers 6 _ (by decide +kernel) fun t hf y => ?_
  blk_simp
  show wtA (blkA (U₁ m d) 0 t) (blkA (U₁ m d) 1 t) (blkA (U₁ m d) 2 t) (blkA (U₁ m d) 3 t) (blkA (U₁ m d) 4 t) y = _
  rw [blkA_0, blkA_1, blkA_2, blkA_3, blkA_4]
  refine congrArg (wtA _ _ _ _ _) (funext fun a => Fin.ext ?_)
  blk_simp
  exact ((congrArg (· + (y a).val) (Nat.zero_mul _)).trans (Nat.zero_add _)).symm

/-- The subcores' flags after the first call. -/
theorem U₂_words (d : Dev nD) : U₂ m d (Proc.devRef .tc main_v5_1) = k0_pay16 (F := F) (U₁ m d (Proc.devRef .tc main_v3)) := by
  refine (Pipeline.afterRegion_arr (dats (U₁ m) (Ob (F := F) 0) (Bd (F := F) 0) 0 d) (U₁ m d) (kit (F := F) 0).win.arr_inj 7).trans ?_
  refine (datA (U₁ m d) (Ob (F := F) 0 d) (Bd (F := F) 0 d) d).arrAt_eq_of_covers 7 _ (by decide +kernel) fun t hf y => ?_
  blk_simp
  show k0_pay16 (F := F) (blkA (U₁ m d) 5 t) y = _
  rw [blkA_5]
  refine congrArg (k0_pay16 (F := F) _) (funext fun a => Fin.ext ?_)
  blk_simp
  exact ((congrArg (· + (y a).val) (Nat.zero_mul _)).trans (Nat.zero_add _)).symm

/-- The second call's flags after the first. -/
theorem U₂_flags (d : Dev nD) : U₂ m d (Proc.devRef .tc main_v5_2) = k0_pay1 (F := F) (k0_pay15 (F := F) (U₁ m d (Proc.devRef .tc main_v3))) := by
  refine (Pipeline.afterRegion_arr (dats (U₁ m) (Ob (F := F) 0) (Bd (F := F) 0) 0 d) (U₁ m d) (kit (F := F) 0).win.arr_inj 8).trans ?_
  refine (datA (U₁ m d) (Ob (F := F) 0 d) (Bd (F := F) 0 d) d).arrAt_eq_of_covers 8 _ (by decide +kernel) fun t hf y => ?_
  blk_simp
  show k0_pay1 (F := F) (k0_pay15 (F := F) (blkA (U₁ m d) 5 t)) y = _
  rw [blkA_5]
  refine congrArg (k0_pay1 (F := F) _) (funext fun a => Fin.ext ?_)
  blk_simp
  exact ((congrArg (· + (y a).val) (Nat.zero_mul _)).trans (Nat.zero_add _)).symm

/-! ## The second call: two blocks of points -/

/-- Which block each window of the second call names. -/
theorem index2 (t : Fin cfg2.N) : (cfg2.grid.coords t 0).val = t.val ∧ win2_0.index t 0 = t.val ∧ win2_0.index t 1 = 0 ∧ win2_1.index t 0 = t.val ∧ win2_1.index t 1 = 0
    ∧ win2_7.index t 0 = t.val ∧ win2_7.index t 1 = 0 ∧ win2_9.index t 0 = t.val ∧ win2_9.index t 1 = 0 ∧ win2_10.index t 0 = t.val ∧ win2_10.index t 1 = 0 := by
  revert t; decide +kernel

theorem index2' (t : Fin cfg2.N) : (win2_2.index t 0 = 0 ∧ win2_2.index t 1 = 0) ∧ (win2_3.index t 0 = 0 ∧ win2_3.index t 1 = 0) ∧ (win2_4.index t 0 = 0 ∧ win2_4.index t 1 = 0)
    ∧ (win2_5.index t 0 = 0 ∧ win2_5.index t 1 = 0) ∧ (win2_6.index t 0 = 0 ∧ win2_6.index t 1 = 0) ∧ (win2_8.index t 0 = 0 ∧ win2_8.index t 1 = 0) := by
  revert t; decide +kernel

theorem blkC_0 (U : Valuation τ sig (Elt F)) (t : Fin cfg2.N) (p : Fin 2728) (a : Fin 2) (i : Fin 5456) (h : i.val = 2728 * t.val + p.val) :
    blkC U 0 t (ix2 p a) = U (Proc.devRef .tc main_v0) (ix2 i a) := by
  obtain ⟨h0, h1⟩ : win2_0.index t 0 = t.val ∧ win2_0.index t 1 = 0 := by
    have := index2 t; tauto
  refine congrArg (U (Proc.devRef .tc main_v0)) (funext fun b => Fin.ext ?_)
  match b with
  | ⟨0, _⟩ =>
    blk_simp
    show win2_0.index t 0 * 2728 + p.val = i.val
    omega
  | ⟨1, _⟩ =>
    blk_simp
    show win2_0.index t 1 * 2 + a.val = a.val
    omega

theorem blkC_1 (U : Valuation τ sig (Elt F)) (t : Fin cfg2.N) (p : Fin 2728) (a : Fin 1) (i : Fin 5456) (h : i.val = 2728 * t.val + p.val) :
    blkC U 1 t (ix2 p a) = U (Proc.devRef .tc main_cst_0) (ix2 i a) := by
  obtain ⟨h0, h1⟩ : win2_1.index t 0 = t.val ∧ win2_1.index t 1 = 0 := by
    have := index2 t; tauto
  refine congrArg (U (Proc.devRef .tc main_cst_0)) (funext fun b => Fin.ext ?_)
  match b with
  | ⟨0, _⟩ =>
    blk_simp
    show win2_1.index t 0 * 2728 + p.val = i.val
    omega
  | ⟨1, _⟩ =>
    blk_simp
    exact h1

theorem blkC_7 (U : Valuation τ sig (Elt F)) (t : Fin cfg2.N) (p : Fin 2728) (a : Fin 200) (i : Fin 5456) (h : i.val = 2728 * t.val + p.val) :
    blkC U 7 t (ix2 p a) = U (Proc.devRef .tc main_v3) (ix2 i a) := by
  obtain ⟨h0, h1⟩ : win2_7.index t 0 = t.val ∧ win2_7.index t 1 = 0 := by
    have := index2 t; tauto
  refine congrArg (U (Proc.devRef .tc main_v3)) (funext fun b => Fin.ext ?_)
  match b with
  | ⟨0, _⟩ =>
    blk_simp
    show win2_7.index t 0 * 2728 + p.val = i.val
    omega
  | ⟨1, _⟩ =>
    blk_simp
    show win2_7.index t 1 * 200 + a.val = a.val
    omega

theorem blkC_2 (U : Valuation τ sig (Elt F)) (t : Fin cfg2.N) : blkC U 2 t = U (Proc.devRef .tc main_v10) := by
  obtain ⟨h0, h1⟩ := (index2' t).1
  funext y
  refine congrArg (U (Proc.devRef .tc main_v10)) (funext fun b => Fin.ext ?_)
  match b with
  | ⟨0, _⟩ => blk_simp; exact (congrArg (· * _ + (y 0).val) h0).trans ((congrArg (· + (y 0).val) (Nat.zero_mul _)).trans (Nat.zero_add _))
  | ⟨1, _⟩ => blk_simp; exact (congrArg (· * _ + (y 1).val) h1).trans ((congrArg (· + (y 1).val) (Nat.zero_mul _)).trans (Nat.zero_add _))

theorem blkC_3 (U : Valuation τ sig (Elt F)) (t : Fin cfg2.N) : blkC U 3 t = U (Proc.devRef .tc main_arg6) := by
  obtain ⟨h0, h1⟩ := (index2' t).2.1
  funext y
  refine congrArg (U (Proc.devRef .tc main_arg6)) (funext fun b => Fin.ext ?_)
  match b with
  | ⟨0, _⟩ => blk_simp; exact (congrArg (· * _ + (y 0).val) h0).trans ((congrArg (· + (y 0).val) (Nat.zero_mul _)).trans (Nat.zero_add _))
  | ⟨1, _⟩ => blk_simp; exact (congrArg (· * _ + (y 1).val) h1).trans ((congrArg (· + (y 1).val) (Nat.zero_mul _)).trans (Nat.zero_add _))

theorem blkC_4 (U : Valuation τ sig (Elt F)) (t : Fin cfg2.N) : blkC U 4 t = U (Proc.devRef .tc main_arg7) := by
  obtain ⟨h0, h1⟩ := (index2' t).2.2.1
  funext y
  refine congrArg (U (Proc.devRef .tc main_arg7)) (funext fun b => Fin.ext ?_)
  match b with
  | ⟨0, _⟩ => blk_simp; exact (congrArg (· * _ + (y 0).val) h0).trans ((congrArg (· + (y 0).val) (Nat.zero_mul _)).trans (Nat.zero_add _))
  | ⟨1, _⟩ => blk_simp; exact (congrArg (· * _ + (y 1).val) h1).trans ((congrArg (· + (y 1).val) (Nat.zero_mul _)).trans (Nat.zero_add _))

theorem blkC_5 (U : Valuation τ sig (Elt F)) (t : Fin cfg2.N) : blkC U 5 t = U (Proc.devRef .tc main_v11) := by
  obtain ⟨h0, h1⟩ := (index2' t).2.2.2.1
  funext y
  refine congrArg (U (Proc.devRef .tc main_v11)) (funext fun b => Fin.ext ?_)
  match b with
  | ⟨0, _⟩ => blk_simp; exact h0
  | ⟨1, _⟩ => blk_simp; exact (congrArg (· * _ + (y 1).val) h1).trans ((congrArg (· + (y 1).val) (Nat.zero_mul _)).trans (Nat.zero_add _))

theorem blkC_6 (U : Valuation τ sig (Elt F)) (t : Fin cfg2.N) : blkC U 6 t = U (Proc.devRef .tc main_v5_2) := by
  obtain ⟨h0, h1⟩ := (index2' t).2.2.2.2.1
  funext y
  refine congrArg (U (Proc.devRef .tc main_v5_2)) (funext fun b => Fin.ext ?_)
  match b with
  | ⟨0, _⟩ => blk_simp; exact (congrArg (· * _ + (y 0).val) h0).trans ((congrArg (· + (y 0).val) (Nat.zero_mul _)).trans (Nat.zero_add _))
  | ⟨1, _⟩ => blk_simp; exact (congrArg (· * _ + (y 1).val) h1).trans ((congrArg (· + (y 1).val) (Nat.zero_mul _)).trans (Nat.zero_add _))

theorem blkC_8 (U : Valuation τ sig (Elt F)) (t : Fin cfg2.N) : blkC U 8 t = U (Proc.devRef .tc main_v9) := by
  obtain ⟨h0, h1⟩ := (index2' t).2.2.2.2.2
  funext y
  refine congrArg (U (Proc.devRef .tc main_v9)) (funext fun b => Fin.ext ?_)
  match b with
  | ⟨0, _⟩ => blk_simp; exact (congrArg (· * _ + (y 0).val) h0).trans ((congrArg (· + (y 0).val) (Nat.zero_mul _)).trans (Nat.zero_add _))
  | ⟨1, _⟩ => blk_simp; exact (congrArg (· * _ + (y 1).val) h1).trans ((congrArg (· + (y 1).val) (Nat.zero_mul _)).trans (Nat.zero_add _))

/-- The masked weights after the second call. -/
theorem U₆_out (d : Dev nD) (t : Fin cfg2.N) (p : Fin 2728) (g : Fin 200) (i : Fin 5456) (h : i.val = 2728 * t.val + p.val) :
    U₆ m d (Proc.devRef .tc main_v12_0) (ix2 i g) = outC (F := F) (BitVec.ofNat 32 t.val) (blkC (U₅ m d) 0 t) (blkC (U₅ m d) 1 t) (blkC (U₅ m d) 2 t) (blkC (U₅ m d) 3 t) (blkC (U₅ m d) 4 t) (blkC (U₅ m d) 5 t) (blkC (U₅ m d) 6 t) (blkC (U₅ m d) 7 t) (blkC (U₅ m d) 8 t) (ix2 p g) := by
  refine (congrFun (Pipeline.afterRegion_arr (dats (U₅ m) (Ob (F := F) 1) (Bd (F := F) 1) 1 d) (U₅ m d) (kit (F := F) 1).win.arr_inj 9) (ix2 i g)).trans ?_
  refine (datC (U₅ m d) (Ob (F := F) 1 d) (Bd (F := F) 1 d) d).arrAt_forall_of_covers 9
    (fun j v => ∀ (t : Fin cfg2.N) (p : Fin 2728) (g : Fin 200), (j 0).val = 2728 * t.val + p.val → (j 1).val = g.val →
      v = outC (F := F) (BitVec.ofNat 32 t.val) (blkC (U₅ m d) 0 t) (blkC (U₅ m d) 1 t) (blkC (U₅ m d) 2 t) (blkC (U₅ m d) 3 t) (blkC (U₅ m d) 4 t) (blkC (U₅ m d) 5 t) (blkC (U₅ m d) 6 t) (blkC (U₅ m d) 7 t) (blkC (U₅ m d) 8 t) (ix2 p g)) (by decide +kernel) (fun t' hf y => ?_) (ix2 i g) (Memref.isWhole_whole _) t p g h rfl
  intro t p g h0 h1
  blk_simp
  have hx := index2 t'
  obtain ⟨hc, k0, k1⟩ : (cfg2.grid.coords t' 0).val = t'.val ∧ win2_9.index t' 0 = t'.val ∧ win2_9.index t' 1 = 0 := by tauto
  have e0 : (((win2_9.blk t').view.emb y) 0).val = win2_9.index t' 0 * 2728 + (y 0).val := by blk_simp
  have e1 : (((win2_9.blk t').view.emb y) 1).val = win2_9.index t' 1 * 200 + (y 1).val := by blk_simp
  have h0' : (((win2_9.blk t').view.emb y) 0).val = 2728 * t.val + p.val := h0
  have h1' : (((win2_9.blk t').view.emb y) 1).val = g.val := h1
  have l0 : (y 0).val < 2728 := (y 0).isLt
  have l1 := p.isLt
  have ht : t = t' := Fin.ext (by omega)
  subst ht
  have hy : y = ix2 p g := by
    funext b
    match b with
    | ⟨0, _⟩ => exact Fin.ext (show (y 0).val = p.val by omega)
    | ⟨1, _⟩ => exact Fin.ext (show (y 1).val = g.val by omega)
  rw [hy, ← hc]
  rfl

/-- The mask after the second call. -/
theorem U₆_mask (d : Dev nD) (t : Fin cfg2.N) (p : Fin 2728) (g : Fin 200) (i : Fin 5456) (h : i.val = 2728 * t.val + p.val) :
    U₆ m d (Proc.devRef .tc main_v12_1) (ix2 i g) = maskC (F := F) (BitVec.ofNat 32 t.val) (blkC (U₅ m d) 6 t) (blkC (U₅ m d) 7 t) (blkC (U₅ m d) 8 t) (ix2 p g) := by
  refine (congrFun (Pipeline.afterRegion_arr (dats (U₅ m) (Ob (F := F) 1) (Bd (F := F) 1) 1 d) (U₅ m d) (kit (F := F) 1).win.arr_inj 10) (ix2 i g)).trans ?_
  refine (datC (U₅ m d) (Ob (F := F) 1 d) (Bd (F := F) 1 d) d).arrAt_forall_of_covers 10
    (fun j v => ∀ (t : Fin cfg2.N) (p : Fin 2728) (g : Fin 200), (j 0).val = 2728 * t.val + p.val → (j 1).val = g.val →
      v = maskC (F := F) (BitVec.ofNat 32 t.val) (blkC (U₅ m d) 6 t) (blkC (U₅ m d) 7 t) (blkC (U₅ m d) 8 t) (ix2 p g)) (by decide +kernel) (fun t' hf y => ?_) (ix2 i g) (Memref.isWhole_whole _) t p g h rfl
  intro t p g h0 h1
  blk_simp
  have hx := index2 t'
  obtain ⟨hc, k0, k1⟩ : (cfg2.grid.coords t' 0).val = t'.val ∧ win2_10.index t' 0 = t'.val ∧ win2_10.index t' 1 = 0 := by tauto
  have e0 : (((win2_10.blk t').view.emb y) 0).val = win2_10.index t' 0 * 2728 + (y 0).val := by blk_simp
  have e1 : (((win2_10.blk t').view.emb y) 1).val = win2_10.index t' 1 * 200 + (y 1).val := by blk_simp
  have h0' : (((win2_10.blk t').view.emb y) 0).val = 2728 * t.val + p.val := h0
  have h1' : (((win2_10.blk t').view.emb y) 1).val = g.val := h1
  have l0 : (y 0).val < 2728 := (y 0).isLt
  have l1 := p.isLt
  have ht : t = t' := Fin.ext (by omega)
  subst ht
  have hy : y = ix2 p g := by
    funext b
    match b with
    | ⟨0, _⟩ => exact Fin.ext (show (y 0).val = p.val by omega)
    | ⟨1, _⟩ => exact Fin.ext (show (y 1).val = g.val by omega)
  rw [hy, ← hc]
  rfl

end Cert.Proof.Arrays

end
-- ==== Proof.Inputs.lean ====
/-
  What the host operations around the three calls hand from one to the next, as arrays.
-/
module

public import proofs.«01_k».proof.Proof.Arrays
public import Idealize.ShloMosaic.Lib.StableHlo.RunRead

@[expose] public section

noncomputable section

namespace Cert.Proof.Inputs

open Idealize.ShloMosaic hiding ix1 ix2 ix3
open Idealize.ShloMosaic.ValueIdx
open Cert.KernelIdeal Cert.KernelIdeal.Gen Cert.Proof

variable {F : FTy → Type} [FloatOps F] [∀ e, Nonempty (Elt F e)]
variable (m : (ℓ : Loc nD τ sig) → Buf (Elt F) ℓ) (d : Dev nD)

/-- All points, one under another. -/
theorem U₁_points : U₁ m d (Proc.devRef .tc main_v0) = concatenate S5456x2 0 [⟨S4096x2, U₀ m d (Proc.devRef .tc main_arg0)⟩, ⟨S1024x2, U₀ m d (Proc.devRef .tc main_arg1)⟩, ⟨S256x2, U₀ m d (Proc.devRef .tc main_arg2)⟩, ⟨S64x2, U₀ m d (Proc.devRef .tc main_arg3)⟩, ⟨S16x2, U₀ m d (Proc.devRef .tc main_arg4)⟩] concatenates_S4096x2_S1024x2_S256x2_S64x2_S16x2_S5456x2_d0 := by
  unfold U₁ ops₁
  after_results_simp
  rfl

theorem U₁_rcp : U₁ m d (Proc.devRef .tc main_cst_0) = fun i => FloatOps.ofBits .f32 (lit1 (S5456x1.rowMajor i)) := by
  unfold U₁ ops₁
  after_results_simp
  rfl

theorem U₁_turned : U₁ m d (Proc.devRef .tc main_v2) = concatenate S3x5456 0 [⟨S2x5456, transpose S2x5456 [1, 0] (U₁ m d (Proc.devRef .tc main_v0)) transposes_S5456x2_S2x5456_1_0⟩, ⟨S1x5456, fun i => FloatOps.ofBits .f32 (lit0 (S1x5456.rowMajor i))⟩] concatenates_S2x5456_S1x5456_S3x5456_d0 := by
  rw [U₁_points]
  unfold U₁ ops₁
  after_results_simp
  rfl

theorem U₁_mask : U₁ m d (Proc.devRef .tc main_v3) = extui 8 (U₀ m d (Proc.devRef .tc main_arg9)) natLt_1_8 := by
  unfold U₁ ops₁
  after_results_simp

theorem U₁_labels : U₁ m d (Proc.devRef .tc main_v4) = shapeCast S200x1 (U₀ m d (Proc.devRef .tc main_arg8)) shapeCasts_S200_S200x1 := by
  unfold U₁ ops₁
  after_results_simp
  rfl

theorem U₃_words : U₃ m d (Proc.devRef .tc main_v7) = shapeCast S256 (extractStridedSlice S1x256 ![0, 0] (U₂ m d (Proc.devRef .tc main_v5_1)) slices_S8x256_S1x256_0_0) shapeCasts_S1x256_S256 := by
  unfold U₃ ops₂
  after_results_simp
  rfl

theorem U₅_chosen : U₅ m d (Proc.devRef .tc main_v9) = shapeCast S16x200 (U₄ m d (Proc.devRef .tc main_v8)) shapeCasts_S3200_S16x200 := by
  unfold U₅ ops₃
  after_results_simp
  rfl

theorem U₅_boxes : U₅ m d (Proc.devRef .tc main_v10) = transpose S4x200 [1, 0] (U₄ m d (Proc.devRef .tc main_arg5)) transposes_S200x4_S4x200_1_0 := by
  unfold U₅ ops₃
  after_results_simp

theorem U₅_labels : U₅ m d (Proc.devRef .tc main_v11) = shapeCast S1x200 (U₄ m d (Proc.devRef .tc main_arg8)) shapeCasts_S200_S1x200 := by
  unfold U₅ ops₃
  after_results_simp
  rfl

theorem U₇_mask : U₇ m d (Proc.devRef .tc main_v15) = cmpi .ne (U₆ m d (Proc.devRef .tc main_v12_1)) (broadcastInDim S5456x200 ![] bcast_S_S5456x200 (constantI S_ 32 0#32)) := by
  unfold U₇ ops₄
  after_results_simp
  rfl

end Cert.Proof.Inputs

end
-- ==== Proof.Score.lean ====
/-
  One score as a number: the Gaussian of one coordinate, in the three spellings the two TensorCore calls and the
  reference use, and why they agree.
-/
module

public import Idealize.ShloMosaic.PureOps.Ideal.Laws

@[expose] public section

noncomputable section

namespace Cert.Proof.Score

open Idealize.ShloMosaic

/-- One half. -/
def half : EReal := ((1 / 2 : ℝ) : EReal)

theorem half_pos : (0 : EReal) < half := by
  unfold half; exact_mod_cast (by norm_num : (0 : ℝ) < 1 / 2)

theorem lit_half : (Ideal.ofBits .f32 0x3F000000#32 : EReal) = half := by
  unfold half
  simp [Ideal.ofBits, Ideal.ieee, -EReal.coe_mul, -EReal.coe_neg]; norm_num

theorem lit_one : (Ideal.ofBits .f32 0x3F800000#32 : EReal) = 1 := by
  rw [show (1 : EReal) = ((1 : ℝ) : EReal) from rfl]
  simp [Ideal.ofBits, Ideal.ieee, -EReal.coe_mul, -EReal.coe_neg]; norm_num

theorem lit_two : (Ideal.ofBits .f32 0x40000000#32 : EReal) = ((2 : ℝ) : EReal) := by
  simp [Ideal.ofBits, Ideal.ieee, -EReal.coe_mul, -EReal.coe_neg]; norm_num

/-- How far the point lies from the middle of the box, in strides, past the mean. -/
def dist (p c r m : EReal) : EReal := (p - c) * r - m

/-- The exponent of one coordinate. -/
def expo (d s : EReal) : EReal := d * d * Ideal.div half (s * s)

/-- The score of a point for a box: the product of the two coordinates' Gaussians. -/
def score (d0 d1 s0 s1 : EReal) : EReal := Ideal.exp (-expo d0 s0) * Ideal.exp (-expo d1 s1)

theorem mul_self_nonneg' (d : EReal) : 0 ≤ d * d := by
  rcases le_total 0 d with h | h
  · exact mul_nonneg h h
  · have h' : 0 ≤ -d := by rwa [EReal.le_neg, neg_zero]
    have := mul_nonneg h' h'
    rwa [EReal.neg_mul, mul_comm, EReal.neg_mul, neg_neg] at this

theorem div_nonneg' {y : EReal} (hy : 0 ≤ y) : 0 ≤ Ideal.div half y := by
  unfold Ideal.div
  split_ifs with h h'
  · exact le_top
  · exact absurd half_pos h'
  · exact mul_nonneg half_pos.le (EReal.inv_nonneg_of_nonneg hy)

theorem expo_nonneg (d s : EReal) : 0 ≤ expo d s :=
  mul_nonneg (mul_self_nonneg' d) (div_nonneg' (mul_self_nonneg' s))

theorem exp_nonneg (x : EReal) : 0 ≤ Ideal.exp x := by
  induction x with
  | bot => exact le_refl _
  | top => exact le_top
  | coe r => exact EReal.coe_nonneg.2 (Real.exp_pos r).le

theorem score_nonneg (d0 d1 s0 s1 : EReal) : 0 ≤ score d0 d1 s0 s1 := mul_nonneg (exp_nonneg _) (exp_nonneg _)

/-- The first call's spelling of one coordinate. -/
theorem first_call (d s : EReal) : Ideal.exp ((0 - d * d) * Ideal.div half (s * s)) = Ideal.exp (-expo d s) := by
  rw [zero_sub, EReal.neg_mul]; rfl

/-- The exponential of a sum of two nonpositive numbers is the product of the exponentials. -/
theorem exp_neg_add {a b : EReal} (ha : 0 ≤ a) (hb : 0 ≤ b) : Ideal.exp (-(a + b)) = Ideal.exp (-a) * Ideal.exp (-b) := by
  have bot : Ideal.exp ⊥ = 0 := rfl
  induction a with
  | bot => exact absurd ha (by simp)
  | top =>
    rw [EReal.top_add_of_ne_bot (ne_of_gt (lt_of_lt_of_le EReal.bot_lt_zero hb)), EReal.neg_top, bot, zero_mul]
  | coe a =>
    induction b with
    | bot => exact absurd hb (by simp)
    | top => rw [EReal.coe_add_top, EReal.neg_top, bot, mul_zero]
    | coe b =>
      show ((Real.exp (-(a + b)) : ℝ) : EReal) = ((Real.exp (-a) : ℝ) : EReal) * ((Real.exp (-b) : ℝ) : EReal)
      rw [← EReal.coe_mul, ← Real.exp_add, neg_add]

/-- The second call's spelling of the score. -/
theorem second_call (d0 d1 s0 s1 : EReal) :
    Ideal.exp (0 - (d0 * d0 * Ideal.div half (s0 * s0) + d1 * d1 * Ideal.div half (s1 * s1))) = score d0 d1 s0 s1 := by
  rw [zero_sub]; exact exp_neg_add (expo_nonneg d0 s0) (expo_nonneg d1 s1)

theorem self_ne_zero {s : EReal} (h : s ≠ 0) : s * s ≠ 0 := by
  rw [Ne, mul_self_eq_zero]; exact h

/-- The reference's spelling of one coordinate, for a deviation that is not zero. -/
theorem reference (d : EReal) {s : EReal} (h : s ≠ 0) :
    Ideal.exp (Ideal.div (-(d * d)) (((2 : ℝ) : EReal) * (s * s))) = Ideal.exp (-expo d s) := by
  have h2 : ((2 : ℝ) : EReal) ≠ 0 := by exact_mod_cast (by norm_num : (2 : ℝ) ≠ 0)
  have hs := self_ne_zero h
  have e : Ideal.div (-(d * d)) (((2 : ℝ) : EReal) * (s * s)) = -(d * d) * (half * (s * s)⁻¹) := by
    unfold Ideal.div
    rw [if_neg (mul_ne_zero h2 hs), EReal.mul_inv, ← EReal.coe_inv]
    unfold half
    norm_num
  rw [e, EReal.neg_mul]
  unfold expo Ideal.div
  rw [if_neg hs]

/-- Halving is dividing by two. -/
theorem halve (x : EReal) : Ideal.div x ((2 : ℝ) : EReal) = x * half := by
  have h2 : ((2 : ℝ) : EReal) ≠ 0 := by exact_mod_cast (by norm_num : (2 : ℝ) ≠ 0)
  unfold Ideal.div half
  rw [if_neg h2, ← EReal.coe_inv]
  norm_num

/-- Dividing by a nonzero number is multiplying by its reciprocal. -/
theorem div_real (x : EReal) {r : ℝ} (h : r ≠ 0) : Ideal.div x (r : EReal) = x * ((r⁻¹ : ℝ) : EReal) := by
  have h2 : (r : EReal) ≠ 0 := by exact_mod_cast h
  unfold Ideal.div
  rw [if_neg h2, ← EReal.coe_inv]

end Cert.Proof.Score

end
-- ==== Proof.Level.lean ====
/-
  One level of the pyramid as the reference computes it: the score of each of its points for each box, at one element;
  and the five levels put one after the other.
-/
module

public import proofs.«01_k».proof.Proof.Score
public import Idealize.ShloMosaic.Lib.ValueIdx
public import Idealize.ShloMosaic.Lib.Pipeline.Value
public import Idealize.ShloMosaic.PureOps.Ideal.Laws

@[expose] public section

noncomputable section

namespace Cert.Proof.Level

open Idealize.ShloMosaic Idealize.ShloMosaic.ValueIdx Cert.Proof.Score

/-- A point's coordinate, spread over the boxes. -/
theorem spread_points {N : ℕ} {α : Type} (p : (⟨2, ![N, 2]⟩ : Shape).Idx → α)
    (h : (⟨2, ![N, 2]⟩ : Shape).BroadcastsInDim ⟨3, ![N, 1, 2]⟩ ![0, 2])
    (h' : (⟨3, ![N, 1, 2]⟩ : Shape).BroadcastsInDim ⟨3, ![N, 200, 2]⟩ ![0, 1, 2]) (i : Fin N) (g : Fin 200) (a : Fin 2) :
    broadcastInDim ⟨3, ![N, 200, 2]⟩ ![0, 1, 2] h' (broadcastInDim ⟨3, ![N, 1, 2]⟩ ![0, 2] h p) (ix3 i g a) = p (ix2 i a) := by
  refine congrArg p (funext fun b => Fin.ext ?_)
  match b with
  | ⟨0, _⟩ =>
    simp only [broadcastInDim]
    split_ifs with h1 h2
    · have e : N = 1 := h1
      show 0 = i.val
      omega
    · exact absurd (show N = 1 from h2) h1
    · rfl
  | ⟨1, _⟩ => rfl

/-- A table over boxes and coordinates, spread over the points. -/
theorem spread_boxes {N : ℕ} {α : Type} (c : (⟨3, ![1, 200, 2]⟩ : Shape).Idx → α)
    (h : (⟨3, ![1, 200, 2]⟩ : Shape).BroadcastsInDim ⟨3, ![N, 200, 2]⟩ ![0, 1, 2]) (i : Fin N) (g : Fin 200) (a : Fin 2) :
    broadcastInDim ⟨3, ![N, 200, 2]⟩ ![0, 1, 2] h c (ix3 i g a) = c (ix3 0 g a) := by
  refine congrArg c (funext fun b => Fin.ext ?_)
  match b with
  | ⟨0, _⟩ => rfl
  | ⟨1, _⟩ => rfl
  | ⟨2, _⟩ => rfl

/-- One coordinate's slice of a table, its last axis dropped. -/
theorem slice_last {N : ℕ} {α : Type} (x : (⟨3, ![N, 200, 2]⟩ : Shape).Idx → α) (a : Fin 2)
    (h : (⟨3, ![N, 200, 2]⟩ : Shape).Slices ![0, 0, a.val] ⟨3, ![N, 200, 1]⟩)
    (h' : (⟨3, ![N, 200, 1]⟩ : Shape).ShapeCasts ⟨2, ![N, 200]⟩) (i : Fin N) (g : Fin 200) :
    shapeCast ⟨2, ![N, 200]⟩ (extractStridedSlice ⟨3, ![N, 200, 1]⟩ ![0, 0, a.val] x h) h' (ix2 i g) = x (ix3 i g a) := by
  refine (shapeCast_apply _ h' (ix2 i g) (ix3 i g 0) ?_).trans ?_
  · rw [Shape.rowMajor_val_two, Shape.rowMajor_val_three]
    show (i.val * 200 + g.val) * 1 + 0 = i.val * 200 + g.val
    omega
  · refine congrArg x (funext fun b => Fin.ext ?_)
    match b with
    | ⟨0, _⟩ => exact Nat.zero_add _
    | ⟨1, _⟩ => exact Nat.zero_add _
    | ⟨2, _⟩ => exact Nat.add_zero _

/-- The distances of one level: (point − middle of box) over stride, less the mean. -/
def away {N : ℕ} (p : FVec Ideal ⟨2, ![N, 2]⟩ .f32) (c m : FVec Ideal ⟨3, ![1, 200, 2]⟩ .f32) (b : BitVec 32)
    (h1 : (⟨2, ![N, 2]⟩ : Shape).BroadcastsInDim ⟨3, ![N, 1, 2]⟩ ![0, 2])
    (h2 : (⟨3, ![N, 1, 2]⟩ : Shape).BroadcastsInDim ⟨3, ![N, 200, 2]⟩ ![0, 1, 2])
    (h3 : (⟨3, ![1, 200, 2]⟩ : Shape).BroadcastsInDim ⟨3, ![N, 200, 2]⟩ ![0, 1, 2])
    (h4 : (⟨0, ![]⟩ : Shape).BroadcastsInDim ⟨3, ![N, 200, 2]⟩ ![]) : FVec Ideal ⟨3, ![N, 200, 2]⟩ .f32 :=
  subf (Host.divf (subf (broadcastInDim ⟨3, ![N, 200, 2]⟩ ![0, 1, 2] h2 (broadcastInDim ⟨3, ![N, 1, 2]⟩ ![0, 2] h1 p)) (broadcastInDim ⟨3, ![N, 200, 2]⟩ ![0, 1, 2] h3 c)) (broadcastInDim ⟨3, ![N, 200, 2]⟩ ![] h4 (constant ⟨0, ![]⟩ .f32 b))) (broadcastInDim ⟨3, ![N, 200, 2]⟩ ![0, 1, 2] h3 m)

/-- The Gaussians of one level. -/
def bell {N : ℕ} (d : FVec Ideal ⟨3, ![N, 200, 2]⟩ .f32) (s : FVec Ideal ⟨3, ![1, 200, 2]⟩ .f32)
    (h3 : (⟨3, ![1, 200, 2]⟩ : Shape).BroadcastsInDim ⟨3, ![N, 200, 2]⟩ ![0, 1, 2])
    (h5 : (⟨0, ![]⟩ : Shape).BroadcastsInDim ⟨3, ![1, 200, 2]⟩ ![]) : FVec Ideal ⟨3, ![N, 200, 2]⟩ .f32 :=
  Host.exp (Host.divf (Host.negf (mulf d d)) (broadcastInDim ⟨3, ![N, 200, 2]⟩ ![0, 1, 2] h3 (mulf (broadcastInDim ⟨3, ![1, 200, 2]⟩ ![] h5 (constant ⟨0, ![]⟩ .f32 0x40000000#32)) (mulf s s))))

/-- The product of the two coordinates' Gaussians. -/
def both {N : ℕ} (e : FVec Ideal ⟨3, ![N, 200, 2]⟩ .f32)
    (h6 : (⟨3, ![N, 200, 2]⟩ : Shape).Slices ![0, 0, 0] ⟨3, ![N, 200, 1]⟩)
    (h7 : (⟨3, ![N, 200, 2]⟩ : Shape).Slices ![0, 0, 1] ⟨3, ![N, 200, 1]⟩)
    (h8 : (⟨3, ![N, 200, 1]⟩ : Shape).ShapeCasts ⟨2, ![N, 200]⟩) : FVec Ideal ⟨2, ![N, 200]⟩ .f32 :=
  mulf (shapeCast ⟨2, ![N, 200]⟩ (extractStridedSlice ⟨3, ![N, 200, 1]⟩ ![0, 0, 0] e h6) h8) (shapeCast ⟨2, ![N, 200]⟩ (extractStridedSlice ⟨3, ![N, 200, 1]⟩ ![0, 0, 1] e h7) h8)

theorem away_apply {N : ℕ} (p : FVec Ideal ⟨2, ![N, 2]⟩ .f32) (c m : FVec Ideal ⟨3, ![1, 200, 2]⟩ .f32) (b : BitVec 32) {r : ℝ}
    (hb : (Ideal.ofBits .f32 b : EReal) = (r : EReal)) (hr : r ≠ 0) h1 h2 h3 h4 (i : Fin N) (g : Fin 200) (a : Fin 2) :
    away p c m b h1 h2 h3 h4 (ix3 i g a)
      = dist (p (ix2 i a)) (c (ix3 0 g a)) ((r⁻¹ : ℝ) : EReal) (m (ix3 0 g a)) := by
  have e1 := spread_points p h1 h2 i g a
  have e2 := spread_boxes c h3 i g a
  have e3 := spread_boxes m h3 i g a
  show Ideal.div (broadcastInDim (s := ⟨3, ![N, 1, 2]⟩) ⟨3, ![N, 200, 2]⟩ ![0, 1, 2] h2 (broadcastInDim (s := ⟨2, ![N, 2]⟩) ⟨3, ![N, 1, 2]⟩ ![0, 2] h1 p) (ix3 i g a)
        - broadcastInDim (s := ⟨3, ![1, 200, 2]⟩) ⟨3, ![N, 200, 2]⟩ ![0, 1, 2] h3 c (ix3 i g a)) (Ideal.ofBits .f32 b)
      - broadcastInDim (s := ⟨3, ![1, 200, 2]⟩) ⟨3, ![N, 200, 2]⟩ ![0, 1, 2] h3 m (ix3 i g a) = _
  rw [e1, e2, e3, hb, div_real _ hr]
  rfl

theorem bell_apply {N : ℕ} (d : FVec Ideal ⟨3, ![N, 200, 2]⟩ .f32) (s : FVec Ideal ⟨3, ![1, 200, 2]⟩ .f32) h3 h5
    (i : Fin N) (g : Fin 200) (a : Fin 2) (hs : s (ix3 0 g a) ≠ (0 : EReal)) :
    bell d s h3 h5 (ix3 i g a) = Ideal.exp (-expo (d (ix3 i g a)) (s (ix3 0 g a))) := by
  have e : ∀ y : FVec Ideal ⟨3, ![1, 200, 2]⟩ .f32, broadcastInDim ⟨3, ![N, 200, 2]⟩ ![0, 1, 2] h3 y (ix3 i g a) = y (ix3 0 g a) :=
    fun y => spread_boxes y h3 i g a
  show Ideal.exp (Ideal.div (-(d (ix3 i g a) * d (ix3 i g a))) (broadcastInDim (s := ⟨3, ![1, 200, 2]⟩) ⟨3, ![N, 200, 2]⟩ ![0, 1, 2] h3 _ (ix3 i g a))) = _
  rw [e]
  show Ideal.exp (Ideal.div (-(d (ix3 i g a) * d (ix3 i g a))) ((Ideal.ofBits .f32 0x40000000#32 : EReal) * (s (ix3 0 g a) * s (ix3 0 g a)))) = _
  rw [lit_two]
  exact reference _ hs

theorem both_apply {N : ℕ} (e : FVec Ideal ⟨3, ![N, 200, 2]⟩ .f32) h6 h7 h8 (i : Fin N) (g : Fin 200) :
    both e h6 h7 h8 (ix2 i g) = (e (ix3 i g 0) * e (ix3 i g 1) : EReal) := by
  have e0 := slice_last e 0 h6 h8 i g
  have e1 := slice_last e 1 h7 h8 i g
  rw [← e0, ← e1]
  rfl

/-- One level's score of a point for a box. -/
theorem level_apply {N : ℕ} (p : FVec Ideal ⟨2, ![N, 2]⟩ .f32) (c m s : FVec Ideal ⟨3, ![1, 200, 2]⟩ .f32) (b : BitVec 32) {r : ℝ}
    (hb : (Ideal.ofBits .f32 b : EReal) = (r : EReal)) (hr : r ≠ 0) h1 h2 h3 h4 h5 h6 h7 h8 (i : Fin N) (g : Fin 200)
    (hs : ∀ a, s (ix3 0 g a) ≠ (0 : EReal)) :
    both (bell (away p c m b h1 h2 h3 h4) s h3 h5) h6 h7 h8 (ix2 i g)
      = score (dist (p (ix2 i 0)) (c (ix3 0 g 0)) ((r⁻¹ : ℝ) : EReal) (m (ix3 0 g 0)))
          (dist (p (ix2 i 1)) (c (ix3 0 g 1)) ((r⁻¹ : ℝ) : EReal) (m (ix3 0 g 1))) (s (ix3 0 g 0)) (s (ix3 0 g 1)) := by
  rw [both_apply, bell_apply _ _ _ _ _ _ _ (hs 0), bell_apply _ _ _ _ _ _ _ (hs 1), away_apply p c m b hb hr, away_apply p c m b hb hr]
  rfl

/-- Row `i` of the five levels put one after the other. -/
def row {α : Type} {C : ℕ} (x0 : (⟨2, ![4096, C]⟩ : Shape).Idx → α) (x1 : (⟨2, ![1024, C]⟩ : Shape).Idx → α)
    (x2 : (⟨2, ![256, C]⟩ : Shape).Idx → α) (x3 : (⟨2, ![64, C]⟩ : Shape).Idx → α) (x4 : (⟨2, ![16, C]⟩ : Shape).Idx → α)
    (i : Fin 5456) (c : Fin C) : α :=
  if h0 : i.val < 4096 then x0 (ix2 ⟨i.val, h0⟩ c)
  else if h1 : i.val < 5120 then x1 (ix2 ⟨i.val - 4096, by omega⟩ c)
  else if h2 : i.val < 5376 then x2 (ix2 ⟨i.val - 5120, by omega⟩ c)
  else if h3 : i.val < 5440 then x3 (ix2 ⟨i.val - 5376, by omega⟩ c)
  else x4 (ix2 ⟨i.val - 5440, by omega⟩ c)

theorem concatenate_row {α : Type} {C : ℕ} (x0 : (⟨2, ![4096, C]⟩ : Shape).Idx → α) (x1 : (⟨2, ![1024, C]⟩ : Shape).Idx → α)
    (x2 : (⟨2, ![256, C]⟩ : Shape).Idx → α) (x3 : (⟨2, ![64, C]⟩ : Shape).Idx → α) (x4 : (⟨2, ![16, C]⟩ : Shape).Idx → α)
    (h : Shape.Concatenates [⟨2, ![4096, C]⟩, ⟨2, ![1024, C]⟩, ⟨2, ![256, C]⟩, ⟨2, ![64, C]⟩, ⟨2, ![16, C]⟩] ⟨2, ![5456, C]⟩ 0)
    (i : Fin 5456) (c : Fin C) :
    concatenate ⟨2, ![5456, C]⟩ 0 [⟨⟨2, ![4096, C]⟩, x0⟩, ⟨⟨2, ![1024, C]⟩, x1⟩, ⟨⟨2, ![256, C]⟩, x2⟩, ⟨⟨2, ![64, C]⟩, x3⟩, ⟨⟨2, ![16, C]⟩, x4⟩] h (ix2 i c)
      = row x0 x1 x2 x3 x4 i c := by
  have other : ∀ {N : ℕ} (k : Fin N) (b : Fin 2), b.cast rfl ≠ (0 : Fin 2) → ((ix2 k c : (⟨2, ![N, C]⟩ : Shape).Idx) b).val = ((ix2 i c : (⟨2, ![5456, C]⟩ : Shape).Idx) (b.cast rfl)).val := by
    intro N k b hb
    match b with
    | ⟨0, _⟩ => exact absurd rfl hb
    | ⟨1, _⟩ => rfl
  unfold row
  split_ifs with h0 h1 h2 h3
  · exact concatenate_apply_piece 0 _ _ (ix2 i c) 0 (by simp) _ x0 rfl rfl 0 rfl _ (other _) (Nat.zero_add _)
  · exact concatenate_apply_piece 0 _ _ (ix2 i c) 1 (by simp) _ x1 rfl rfl 4096 rfl _ (other _) (by show 4096 + (i.val - 4096) = i.val; omega)
  · exact concatenate_apply_piece 0 _ _ (ix2 i c) 2 (by simp) _ x2 rfl rfl 5120 rfl _ (other _) (by show 5120 + (i.val - 5120) = i.val; omega)
  · exact concatenate_apply_piece 0 _ _ (ix2 i c) 3 (by simp) _ x3 rfl rfl 5376 rfl _ (other _) (by show 5376 + (i.val - 5376) = i.val; omega)
  · exact concatenate_apply_piece 0 _ _ (ix2 i c) 4 (by simp) _ x4 rfl rfl 5440 rfl _ (other _) (by show 5440 + (i.val - 5440) = i.val; omega)

/-- The reciprocal of the stride at point `i`. -/
def rcp (i : Fin 5456) : ℝ :=
  if i.val < 4096 then 8⁻¹ else if i.val < 5120 then 16⁻¹ else if i.val < 5376 then 32⁻¹ else if i.val < 5440 then 64⁻¹ else 128⁻¹

end Cert.Proof.Level

end
-- ==== Proof.Strides.lean ====
/-
  The two tables of reciprocal strides that the kernel holds as constants.
-/
module

public import proofs.«01_k».proof.Proof.Level
public import proofs.«01_k».proof.KernelIdeal

@[expose] public section

noncomputable section

namespace Cert.Proof.Strides

open Idealize.ShloMosaic
open Cert.KernelIdeal Cert.Proof.Level

/-- The reciprocal stride of a point, as a word. -/
def word (i : ℕ) : BitVec 32 :=
  if i < 4096 then 0x3E000000#32 else if i < 5120 then 0x3D800000#32 else if i < 5376 then 0x3D000000#32 else if i < 5440 then 0x3C800000#32 else 0x3C000000#32

set_option maxRecDepth 100000 in
theorem lit0_word : ∀ i : Fin 5456, lit0 i = word i.val := by decide +kernel

set_option maxRecDepth 100000 in
theorem lit1_word : ∀ i : Fin 5456, lit1 i = word i.val := by decide +kernel

/-- As a number it is the reciprocal stride. -/
theorem word_value (i : Fin 5456) : (Ideal.ofBits .f32 (word i.val) : EReal) = (rcp i : EReal) := by
  unfold word rcp
  split_ifs <;>
  · simp [Ideal.ofBits, Ideal.ieee, -EReal.coe_mul, -EReal.coe_neg]; norm_num

end Cert.Proof.Strides

end
-- ==== Proof.Operands.lean ====
/-
  What the kernel's calls are handed, element by element, from the arguments.
-/
module

public import proofs.«01_k».proof.Proof.Inputs
public import proofs.«01_k».proof.Proof.Strides
public import Idealize.ShloMosaic.Lib.StableHlo.Predicate

@[expose] public section

noncomputable section

namespace Cert.Proof.Operands

open Idealize.ShloMosaic hiding ix1 ix2 ix3
open Idealize.ShloMosaic.ValueIdx
open Cert.KernelIdeal Cert.KernelIdeal.Gen Cert.Proof Cert.Proof.Level Cert.Proof.Strides

variable (m : (ℓ : Loc nD τ sig) → Buf (Elt Ideal) ℓ) (d : Dev nD)

/-- Coordinate `c` of point `i`, from the arguments. -/
def pt (i : Fin 5456) (c : Fin 2) : EReal :=
  row (C := 2) (U₀ m d (Proc.devRef .tc main_arg0)) (U₀ m d (Proc.devRef .tc main_arg1)) (U₀ m d (Proc.devRef .tc main_arg2))
    (U₀ m d (Proc.devRef .tc main_arg3)) (U₀ m d (Proc.devRef .tc main_arg4)) i c

theorem points (i : Fin 5456) (c : Fin 2) : U₁ m d (Proc.devRef .tc main_v0) (ix2 i c) = pt m d i c := by
  rw [Inputs.U₁_points]
  exact concatenate_row _ _ _ _ _ _ i c

theorem steps (i : Fin 5456) : U₁ m d (Proc.devRef .tc main_cst_0) (ix2 i (0 : Fin 1)) = (rcp i : EReal) := by
  rw [Inputs.U₁_rcp]
  have e : S5456x1.rowMajor (ix2 i (0 : Fin 1)) = i := by
    refine Fin.ext ?_
    rw [Shape.rowMajor_val_two]
    show i.val * 1 + 0 = i.val
    omega
  show (Ideal.ofBits .f32 (lit1 (S5456x1.rowMajor (ix2 i (0 : Fin 1)))) : EReal) = _
  rw [e, lit1_word, word_value]

theorem turned_point (i : Fin 5456) (c : Fin 2) :
    U₁ m d (Proc.devRef .tc main_v2) (ix2 ⟨c.val, by omega⟩ i) = pt m d i c := by
  rw [Inputs.U₁_turned, ← points]
  refine (concatenate_pair_apply_left (t := S3x5456) (s₁ := S2x5456) (s₂ := S1x5456) 0 _ _ _ (ix2 ⟨c.val, by omega⟩ i) rfl (ix2 c i) (fun b => ?_)).trans ?_
  · match b with
    | ⟨0, _⟩ => rfl
    | ⟨1, _⟩ => rfl
  · refine congrArg (U₁ m d (Proc.devRef .tc main_v0)) (funext fun b => ?_)
    match b with
    | ⟨0, _⟩ => rfl
    | ⟨1, _⟩ => rfl

theorem turned_step (i : Fin 5456) : U₁ m d (Proc.devRef .tc main_v2) (ix2 (2 : Fin 3) i) = (rcp i : EReal) := by
  rw [Inputs.U₁_turned]
  refine (concatenate_pair_apply_right (t := S3x5456) (s₁ := S2x5456) (s₂ := S1x5456) 0 _ _ _ (ix2 (2 : Fin 3) i) rfl rfl (ix2 (0 : Fin 1) i) (fun b hb => ?_) rfl).trans ?_
  · match b with
    | ⟨0, _⟩ => exact absurd rfl hb
    | ⟨1, _⟩ => rfl
  · have e : S1x5456.rowMajor (ix2 (0 : Fin 1) i) = i := by
      refine Fin.ext ?_
      rw [Shape.rowMajor_val_two]
      show 0 * 5456 + i.val = i.val
      omega
    show (Ideal.ofBits .f32 (lit0 (S1x5456.rowMajor (ix2 (0 : Fin 1) i))) : EReal) = _
    rw [e, lit0_word, word_value]

theorem labels_down (g : Fin 200) : U₁ m d (Proc.devRef .tc main_v4) (ix2 g (0 : Fin 1)) = U₀ m d (Proc.devRef .tc main_arg8) (ix1 g) := by
  rw [Inputs.U₁_labels]
  refine shapeCast_apply _ shapeCasts_S200_S200x1 (ix2 g 0) (ix1 g) ?_
  rw [Shape.rowMajor_val_two, Shape.rowMajor_val_one]
  show g.val = g.val * 1 + 0
  omega

/-- An argument is as given when the last call runs. -/
theorem given₄ (r : Ref sig .tc) (h : r ∉ [main_cst, main_cst_0, main_v0, main_v1, main_v2, main_v3, main_v4,
      main_v5_0, main_v5_1, main_v5_2, main_v6, main_v7, main_v8]) :
    U₄ m d (Proc.devRef .tc r) = U₀ m d (Proc.devRef .tc r) := by
  simp only [List.mem_cons, List.not_mem_nil, or_false, not_or] at h
  rw [U₄_keep m d r (by simp [h]), U₃_keep m d r (by simp [h]), U₂_keep m d r (by simp [h]), U₁_keep m d r (by simp [h])]

/-- What the first host operations compute is still there when the last call runs. -/
theorem given₅ (r : Ref sig .tc) (h : r ∉ [main_v5_0, main_v5_1, main_v5_2, main_v6, main_v7, main_v8, main_v9, main_v10, main_v11]) :
    U₅ m d (Proc.devRef .tc r) = U₁ m d (Proc.devRef .tc r) := by
  simp only [List.mem_cons, List.not_mem_nil, or_false, not_or] at h
  rw [U₅_keep m d r (by simp [h]), U₄_keep m d r (by simp [h]), U₃_keep m d r (by simp [h]), U₂_keep m d r (by simp [h])]

theorem boxes_across (k : Fin 4) (g : Fin 200) : U₅ m d (Proc.devRef .tc main_v10) (ix2 k g) = U₀ m d (Proc.devRef .tc main_arg5) (ix2 g k) := by
  rw [Inputs.U₅_boxes, given₄ m d main_arg5 (by decide)]
  refine congrArg (U₀ m d (Proc.devRef .tc main_arg5)) (funext fun b => ?_)
  match b with
  | ⟨0, _⟩ => rfl
  | ⟨1, _⟩ => rfl

theorem labels_across (g : Fin 200) : U₅ m d (Proc.devRef .tc main_v11) (ix2 (0 : Fin 1) g) = U₀ m d (Proc.devRef .tc main_arg8) (ix1 g) := by
  rw [Inputs.U₅_labels, given₄ m d main_arg8 (by decide)]
  refine shapeCast_apply _ shapeCasts_S200_S1x200 (ix2 0 g) (ix1 g) ?_
  rw [Shape.rowMajor_val_two, Shape.rowMajor_val_one]
  show g.val = 0 * 200 + g.val
  omega

/-- The row of flags that the SparseCore reads. -/
theorem flag_word (g : Fin 200) : fv m d (ix1 (⟨g.val, by omega⟩ : Fin 256)) = U₂ m d (Proc.devRef .tc main_v5_1) (ix2 (0 : Fin 8) (⟨g.val, by omega⟩ : Fin 256)) := by
  unfold fv
  rw [Inputs.U₃_words]
  refine (shapeCast_apply _ shapeCasts_S1x256_S256 (ix1 (⟨g.val, by omega⟩ : Fin 256)) (ix2 (0 : Fin 1) (⟨g.val, by omega⟩ : Fin 256)) ?_).trans ?_
  · rw [Shape.rowMajor_val_two, Shape.rowMajor_val_one]
    show 0 * 256 + g.val = g.val
    omega
  · refine congrArg (U₂ m d (Proc.devRef .tc main_v5_1)) (funext fun b => Fin.ext ?_)
    match b with
    | ⟨0, _⟩ => rfl
    | ⟨1, _⟩ => exact Nat.zero_add _

/-- The places that the last call reads are those the SparseCore wrote. -/
theorem chosen_place (k : Fin 16) (g : Fin 200) : U₅ m d (Proc.devRef .tc main_v9) (ix2 k g)
    = outVal (F := Ideal) (wv m d) (fv m d) (ov m d) (ix1 (⟨200 * k.val + g.val, by omega⟩ : Fin 3200)) := by
  rw [Inputs.U₅_chosen]
  refine (shapeCast_apply _ shapeCasts_S3200_S16x200 (ix2 k g) (ix1 (⟨200 * k.val + g.val, by omega⟩ : Fin 3200)) ?_).trans ?_
  · rw [Shape.rowMajor_val_two, Shape.rowMajor_val_one]
    show 200 * k.val + g.val = k.val * 200 + g.val
    omega
  · unfold U₄
    rw [Function.update_self]

end Cert.Proof.Operands

end
-- ==== Proof.Reading.lean ====
/-
  Reading the layout operations of the two TensorCore calls at one index: a block of a table, a row or a column repeated,
  a sum down a column, and a sum that a one-hot column makes a choice of one entry.
-/
module

public import proofs.«01_k».proof.Proof.Score
public import Idealize.ShloMosaic.Lib.ValueLayout
public import Idealize.ShloMosaic.Lib.Pointwise.Contract
public import Idealize.ShloMosaic.Lib.Pipeline.Value
public import Idealize.ShloMosaic.Lib.StableHlo.Predicate

@[expose] public section

noncomputable section

namespace Cert.Proof.Reading

open Idealize.ShloMosaic hiding ix1 ix2 ix3
open Idealize.ShloMosaic.ValueIdx Cert.Proof.Score

/-- A one-column table repeated along its rows. -/
theorem bcol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-row table repeated down its columns. -/
theorem brow {α : Type} {a b : ℕ} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 (0 : Fin 1) c) :=
  broadcastTo_1b_ab_apply v h p c

/-- A block of a table, loaded. -/
theorem ld2 {Val : EltTy → Type} {e : EltTy} {A B C D : ℕ} (x : (⟨2, ![A, B]⟩ : Shape).Idx → Val e) (a b : ℕ)
    (inb : ∀ k, (![a, b] : Fin 2 → ℕ) k + (⟨2, ![C, D]⟩ : Shape).size k ≤ (⟨2, ![A, B]⟩ : Shape).size k) (p : Fin C) (q : Fin D) (p' : Fin A) (q' : Fin B)
    (hp : p'.val = a + p.val) (hq : q'.val = b + q.val) :
    View.ld x (Rect.unit (s := ⟨2, ![A, B]⟩) ![a, b] (⟨2, ![C, D]⟩ : Shape).size inb) (ix2 p q) = x (ix2 p' q') := by
  refine (congrFun (View.ld_unit x ![a, b] (⟨2, ![C, D]⟩ : Shape).size inb) (ix2 p q)).trans ?_
  refine extractStridedSlice_apply _ _ _ _ _ fun k => ?_
  match k with
  | ⟨0, _⟩ => exact hp
  | ⟨1, _⟩ => exact hq

/-- A sum down the columns of a table. -/
theorem colsum {K n : ℕ} (src : FVec Ideal ⟨2, ![K, n]⟩ .f32) (h : (⟨2, ![K, n]⟩ : Shape).Reduces [0] ⟨1, ![n]⟩) (g : Fin n) :
    multiReduction .add [0] ⟨1, ![n]⟩ src 0x00000000#32 h (.inl rfl) rfl (ix1 g) = (∑ k : Fin K, src (ix2 k g) : EReal) := by
  refine (Ideal.multiReduction_add_single src 0x00000000#32 h (.inl rfl) rfl (ix1 g)).trans ?_
  refine Finset.sum_congr rfl fun k _ => congrArg src (funext fun b => Fin.ext ?_)
  rw [Shape.Reduces.lift_val]
  match b with
  | ⟨0, _⟩ => rfl
  | ⟨1, _⟩ => rfl

/-- A one-hot sum is the one entry. -/
theorem pick {K : ℕ} (n : ℕ) (hn : n < K) (w : Fin K → EReal) (f : Fin K → EReal)
    (hw : ∀ k, w k = if k.val = n then 1 else 0) : ∑ k : Fin K, w k * f k = f ⟨n, hn⟩ := by
  rw [Finset.sum_eq_single ⟨n, hn⟩]
  · rw [hw, if_pos rfl, one_mul]
  · intro k _ hk
    rw [hw, if_neg (fun e => hk (Fin.ext e)), zero_mul]
  · intro h; exact absurd (Finset.mem_univ _) h

/-- One where two words agree, else zero. -/
theorem hot (k : ℕ) (hk : k < 2 ^ 32) (w : BitVec 32) :
    Scalar.select (IntOp.cmpi .eq (BitVec.ofNat 32 k) w) (Ideal.ofBits .f32 0x3F800000#32 : EReal) (Ideal.ofBits .f32 0x00000000#32 : EReal) = if k = w.toNat then 1 else 0 := by
  rw [lit_one, Ideal.ofBits_zero_f32]
  have e : (BitVec.ofNat 32 k = w) ↔ k = w.toNat := by
    rw [← BitVec.toNat_inj, BitVec.toNat_ofNat, Nat.mod_eq_of_lt hk]
  by_cases h : k = w.toNat
  · rw [if_pos h, e.2 h]
    have : IntOp.cmpi .eq w w = 1#1 := StableHlo.Predicate.cmpi_eq_iff.2 rfl
    rw [this]; rfl
  · rw [if_neg h]
    have : IntOp.cmpi .eq (BitVec.ofNat 32 k) w = 0#1 := by
      refine (BitVec.eq_zero_or_eq_one _).resolve_right fun h1 => h (e.1 (StableHlo.Predicate.cmpi_eq_iff.1 h1))
    rw [this]; rfl

end Cert.Proof.Reading

end
-- ==== Proof.Marks.lean ====
/-
  The inside-mask in the two TensorCore calls: the flags the first call writes for the boxes that hold no point, and the
  mask and the masked weights the second call writes.
-/
module

public import proofs.«01_k».proof.Proof.Reading
public import proofs.«01_k».proof.Proof.TcC

@[expose] public section

noncomputable section

namespace Cert.Proof.Marks

open Idealize.ShloMosaic hiding ix1 ix2 ix3
open Idealize.ShloMosaic.ValueIdx Cert.Proof.Score Cert.Proof.Reading
open Cert.KernelIdeal Cert.KernelIdeal.Gen

/-- One for a set bit, else zero. -/
def one (b : BitVec 1) : EReal := if b = 1#1 then 1 else 0

/-- A bit, widened to a byte and read as a number. -/
theorem byte (b : BitVec 1) : (FloatOps.sitofp (F := Ideal) .f32 (b.setWidth 8) : EReal) = one b := by
  show (((b.setWidth 8).toInt : ℝ) : EReal) = one b
  unfold one
  rcases BitVec.eq_zero_or_eq_one b with rfl | rfl
  · rw [if_neg (by decide), show ((0#1 : BitVec 1).setWidth 8).toInt = 0 by decide, Int.cast_zero, EReal.coe_zero]
  · rw [if_pos rfl, show ((1#1 : BitVec 1).setWidth 8).toInt = 1 by decide, Int.cast_one, EReal.coe_one]

theorem one_nonneg (b : BitVec 1) : 0 ≤ one b := by
  unfold one; split_ifs
  · exact zero_le_one
  · exact le_refl _

/-- How many points lie in a box. -/
theorem count_apply (x : IVec S5456x200 8) (g : Fin 200) :
    k0_pay15 (F := Ideal) x (ix2 0 g) = (∑ i : Fin 5456, FloatOps.sitofp (F := Ideal) .f32 (x (ix2 i g)) : EReal) := by
  unfold k0_pay15
  rw [shapeCast_self]
  refine (shapeCast_a_1a_apply _ shapeCasts_S200_S1x200 0 g).trans ?_
  exact colsum _ reduces_S5456x200_S200 g

/-- The count is zero exactly when no point lies in the box. -/
theorem count_zero (mask : IVec S5456x200 1) (h : 1 < 8) (g : Fin 200) :
    (k0_pay15 (F := Ideal) (extui 8 mask h) (ix2 0 g) : EReal) = 0 ↔ ∀ i : Fin 5456, mask (ix2 i g) = 0#1 := by
  rw [count_apply]
  have e : ∀ i : Fin 5456, (FloatOps.sitofp (F := Ideal) .f32 (extui 8 mask h (ix2 i g)) : EReal) = one (mask (ix2 i g)) := fun i => byte _
  rw [Finset.sum_congr rfl fun i _ => e i, Finset.sum_eq_zero_iff_of_nonneg fun i _ => one_nonneg _]
  constructor
  · intro hz i
    refine (BitVec.eq_zero_or_eq_one _).resolve_right fun h1 => ?_
    have := hz i (Finset.mem_univ _)
    unfold one at this
    rw [if_pos h1] at this
    exact one_ne_zero this
  · intro hz i _
    unfold one
    rw [hz i, if_neg (by decide)]

theorem choose {α : Type} (x : EReal) (a b : α) : Scalar.select (BitVec.ofBool (decide (x = Ideal.ofBits .f32 0x00000000#32))) a b = if x = 0 then a else b := by
  rw [Ideal.ofBits_zero_f32]
  by_cases h : x = 0
  · rw [if_pos h, decide_eq_true h]; rfl
  · rw [if_neg h, decide_eq_false h]; rfl

/-- The flag of a box for the second call. -/
theorem flag_apply (x : FVec Ideal S1x200 .f32) (r : Fin 8) (g : Fin 200) :
    k0_pay1 (F := Ideal) x (ix2 r g) = (if x (ix2 0 g) = (0 : EReal) then 1 else 0 : EReal) := by
  unfold k0_pay1
  rw [shapeCast_self]
  refine (brow _ broadcasts_S1x200_S8x200 r g).trans ?_
  refine Eq.trans ?_ (choose (x (ix2 0 g)) (1 : EReal) 0)
  rw [← lit_one]
  conv_rhs => rw [show (0 : EReal) = Ideal.ofBits .f32 0x00000000#32 from Ideal.ofBits_zero_f32.symm]
  rfl

/-- The flag of a box for the subcores. -/
theorem word_apply (x : IVec S5456x200 8) (r : Fin 8) (g : Fin 200) :
    k0_pay16 (F := Ideal) x (ix2 r ⟨g.val, by have := g.isLt; omega⟩) = if (k0_pay15 (F := Ideal) x (ix2 0 g) : EReal) = 0 then 1#32 else 0#32 := by
  unfold k0_pay16
  generalize k0_pay15 (F := Ideal) x = c
  rw [shapeCast_self]
  refine (brow _ broadcasts_S1x256_S8x256 r _).trans ?_
  refine (concatenate_pair_apply_left (t := S1x256) (s₁ := S1x200) (s₂ := S1x56) 1 _ _ _ (ix2 (0 : Fin 1) (⟨g.val, by have := g.isLt; omega⟩ : Fin 256)) rfl (ix2 (0 : Fin 1) g) (fun b => ?_)).trans ?_
  · match b with
    | ⟨0, _⟩ => rfl
    | ⟨1, _⟩ => rfl
  · exact choose (c (ix2 0 g)) 1#32 0#32

theorem or_one {a b : BitVec 1} : IntOp.ori a b = 1#1 ↔ a = 1#1 ∨ b = 1#1 := by
  revert a b; decide

/-- The row of a point of the block. -/
theorem point_apply (t : Fin 2) (p : Fin 2728) (g : Fin 200) :
    k2_pay14 (BitVec.ofNat 32 t.val) (ix2 p g) = BitVec.ofNat 32 (2728 * t.val + p.val) := by
  show BitVec.ofNat 32 (0 * 2728 + p.val) + BitVec.ofNat 32 t.val * 2728#32 = _
  apply BitVec.eq_of_toNat_eq
  simp only [BitVec.toNat_add, BitVec.toNat_mul, BitVec.toNat_ofNat]
  have := t.isLt; have := p.isLt
  omega

/-- A row of chosen points, compared with the rows of the block. -/
theorem hit_apply (t : Fin 2) (x8 : IVec S16x200 32) (k : Fin 16) (h : ∀ a, (![k.val, 0] : Fin 2 → ℕ) a + S1x200.size a ≤ S16x200.size a)
    (p : Fin 2728) (g : Fin 200) :
    cmpi .eq (k2_pay14 (BitVec.ofNat 32 t.val)) (broadcastTo S2728x200 (shapeCast S1x200 (ixRow (F := Ideal) x8 k.val h) shapeCasts_S1x200_S1x200) broadcasts_S1x200_S2728x200) (ix2 p g) = 1#1
      ↔ x8 (ix2 k g) = BitVec.ofNat 32 (2728 * t.val + p.val) := by
  have hb : broadcastTo S2728x200 (shapeCast S1x200 (ixRow (F := Ideal) x8 k.val h) shapeCasts_S1x200_S1x200) broadcasts_S1x200_S2728x200 (ix2 p g) = x8 (ix2 k g) := by
    rw [shapeCast_self]
    refine (brow _ broadcasts_S1x200_S2728x200 p g).trans ?_
    exact ld2 (Val := Elt Ideal) (e := .i32) x8 k.val 0 h (0 : Fin 1) g k g rfl (Nat.zero_add _).symm
  show IntOp.cmpi .eq (k2_pay14 (BitVec.ofNat 32 t.val) (ix2 p g)) (broadcastTo S2728x200 (shapeCast S1x200 (ixRow (F := Ideal) x8 k.val h) shapeCasts_S1x200_S1x200) broadcasts_S1x200_S2728x200 (ix2 p g)) = 1#1 ↔ _
  rw [hb, point_apply, StableHlo.Predicate.cmpi_eq_iff]
  exact eq_comm

/-- What multiplies the weight at one point of the block and one box. -/
def keep (a : BitVec 32) (x6 : FVec Ideal S8x200 .f32) (x7 : IVec S2728x200 8) (x8 : IVec S16x200 32) : FVec Ideal S2728x200 .f32 :=
  k2_pay1 (k2_pay12 (F := Ideal) x7) (k2_pay13 (F := Ideal) (View.ld (Val := Elt Ideal) (e' := .f32) x6 (Rect.unit (s := S8x200) ![0, 0] S1x200.size inb_S8x200_S1x200_0_0))) (k2_pay14 a)
    (hitC (F := Ideal) a x8) (k2_pay16 (F := Ideal) (ixRow (F := Ideal) x8 7 inb_S16x200_S1x200_7_0)) (ixRow (F := Ideal) x8 8 inb_S16x200_S1x200_8_0)

theorem pick_bit (b : BitVec 1) (P : Prop) [Decidable P] (h : b = 1#1 ↔ P) :
    Scalar.select b (Ideal.ofBits .f32 0x3F800000#32 : EReal) (Ideal.ofBits .f32 0x00000000#32 : EReal) = if P then 1 else 0 := by
  rw [lit_one, Ideal.ofBits_zero_f32]
  by_cases hp : P
  · rw [if_pos hp, h.2 hp]; rfl
  · rw [if_neg hp, (BitVec.eq_zero_or_eq_one b).resolve_right fun e => hp (h.1 e)]; rfl

/-- It is the inside-mask, and for a flagged box also the nine chosen points. -/
theorem keep_apply (t : Fin 2) (x6 : FVec Ideal S8x200 .f32) (x7 : IVec S2728x200 8) (x8 : IVec S16x200 32) (p : Fin 2728) (g : Fin 200) :
    keep (BitVec.ofNat 32 t.val) x6 x7 x8 (ix2 p g)
      = (FloatOps.sitofp (F := Ideal) .f32 (x7 (ix2 p g)) + x6 (ix2 0 g) * (if ∃ k : Fin 16, k.val < 9 ∧ x8 (ix2 k g) = BitVec.ofNat 32 (2728 * t.val + p.val) then 1 else 0) : EReal) := by
  have h0 := hit_apply t x8 0 inb_S16x200_S1x200_0_0 p g
  have h1 := hit_apply t x8 1 inb_S16x200_S1x200_1_0 p g
  have h2 := hit_apply t x8 2 inb_S16x200_S1x200_2_0 p g
  have h3 := hit_apply t x8 3 inb_S16x200_S1x200_3_0 p g
  have h4 := hit_apply t x8 4 inb_S16x200_S1x200_4_0 p g
  have h5 := hit_apply t x8 5 inb_S16x200_S1x200_5_0 p g
  have h6 := hit_apply t x8 6 inb_S16x200_S1x200_6_0 p g
  have h7 := hit_apply t x8 7 inb_S16x200_S1x200_7_0 p g
  have h8 := hit_apply t x8 8 inb_S16x200_S1x200_8_0 p g
  have any := or_one.trans (or_congr (or_one.trans (or_congr (or_one.trans (or_congr (or_one.trans (or_congr (or_one.trans (or_congr (or_one.trans (or_congr (or_one.trans (or_congr (or_one.trans (or_congr h0 h1)) h2)) h3)) h4)) h5)) h6)) h7)) h8)
  have all : (((((((((x8 (ix2 0 g) = BitVec.ofNat 32 (2728 * t.val + p.val) ∨ x8 (ix2 1 g) = BitVec.ofNat 32 (2728 * t.val + p.val)) ∨ x8 (ix2 2 g) = BitVec.ofNat 32 (2728 * t.val + p.val)) ∨ x8 (ix2 3 g) = BitVec.ofNat 32 (2728 * t.val + p.val)) ∨ x8 (ix2 4 g) = BitVec.ofNat 32 (2728 * t.val + p.val)) ∨ x8 (ix2 5 g) = BitVec.ofNat 32 (2728 * t.val + p.val)) ∨ x8 (ix2 6 g) = BitVec.ofNat 32 (2728 * t.val + p.val)) ∨ x8 (ix2 7 g) = BitVec.ofNat 32 (2728 * t.val + p.val)) ∨ x8 (ix2 8 g) = BitVec.ofNat 32 (2728 * t.val + p.val)))
      ↔ ∃ k : Fin 16, k.val < 9 ∧ x8 (ix2 k g) = BitVec.ofNat 32 (2728 * t.val + p.val) := by
    generalize BitVec.ofNat 32 (2728 * t.val + p.val) = w
    constructor
    · rintro ((((((((h | h) | h) | h) | h) | h) | h) | h) | h)
      exacts [⟨0, by decide, h⟩, ⟨1, by decide, h⟩, ⟨2, by decide, h⟩, ⟨3, by decide, h⟩, ⟨4, by decide, h⟩, ⟨5, by decide, h⟩, ⟨6, by decide, h⟩, ⟨7, by decide, h⟩, ⟨8, by decide, h⟩]
    · rintro ⟨⟨k, hk⟩, hk9, h⟩
      have hk9 : k < 9 := hk9
      interval_cases k
      · exact .inl (.inl (.inl (.inl (.inl (.inl (.inl (.inl h)))))))
      · exact .inl (.inl (.inl (.inl (.inl (.inl (.inl (.inr h)))))))
      · exact .inl (.inl (.inl (.inl (.inl (.inl (.inr h))))))
      · exact .inl (.inl (.inl (.inl (.inl (.inr h)))))
      · exact .inl (.inl (.inl (.inl (.inr h))))
      · exact .inl (.inl (.inl (.inr h)))
      · exact .inl (.inl (.inr h))
      · exact .inl (.inr h)
      · exact .inr h
  rw [← pick_bit _ _ (any.trans all)]
  have r : broadcastTo S2728x200 (k2_pay13 (F := Ideal) (View.ld (Val := Elt Ideal) (e' := .f32) x6 (Rect.unit (s := S8x200) ![0, 0] S1x200.size inb_S8x200_S1x200_0_0))) broadcasts_S1x200_S2728x200 (ix2 p g) = x6 (ix2 0 g) := by
    unfold k2_pay13
    rw [shapeCast_self]
    refine (brow _ broadcasts_S1x200_S2728x200 p g).trans ?_
    exact ld2 (Val := Elt Ideal) (e := .f32) x6 0 0 inb_S8x200_S1x200_0_0 (0 : Fin 1) g 0 g rfl (Nat.zero_add _).symm
  rw [← r]
  unfold keep k2_pay12
  rw [shapeCast_self]
  rfl

/-- The masked weight is the weight times it. -/
theorem outC_apply (a : BitVec 32) (x0 : FVec Ideal S2728x2 .f32) (x1 : FVec Ideal S2728x1 .f32) (x2 : FVec Ideal S4x200 .f32) (x3 x4 : FVec Ideal S80x2 .f32)
    (x5 : IVec S1x200 32) (x6 : FVec Ideal S8x200 .f32) (x7 : IVec S2728x200 8) (x8 : IVec S16x200 32) (j : S2728x200.Idx) :
    outC (F := Ideal) a x0 x1 x2 x3 x4 x5 x6 x7 x8 j = (wC (F := Ideal) x0 x1 x2 x3 x4 x5 j * keep a x6 x7 x8 j : EReal) := rfl

/-- The mask is set where it is more than one half. -/
theorem maskC_apply (a : BitVec 32) (x6 : FVec Ideal S8x200 .f32) (x7 : IVec S2728x200 8) (x8 : IVec S16x200 32) (j : S2728x200.Idx) :
    maskC (F := Ideal) a x6 x7 x8 j = (BitVec.ofBool (decide (half < (keep a x6 x7 x8 j : EReal)))).setWidth 32 := by
  rw [← lit_half]; rfl

end Cert.Proof.Marks

end
-- ==== Proof.WeightA.lean ====
/-
  The weights of the first TensorCore call: at every box and point they are the one score.
-/
module

public import proofs.«01_k».proof.Proof.Reading
public import proofs.«01_k».proof.Proof.TcA

@[expose] public section

noncomputable section

namespace Cert.Proof.WeightA

open Idealize.ShloMosaic hiding ix1 ix2 ix3
open Idealize.ShloMosaic.ValueIdx Cert.Proof.Score Cert.Proof.Reading
open Cert.KernelIdeal Cert.KernelIdeal.Gen

/-- The one-hot rows of the classes. -/
theorem hot_apply (lab : IVec S200x1 32) (g : Fin 200) (k : Fin 80) :
    k0_pay7 (F := Ideal) lab (ix2 g k) = (if k.val = (lab (ix2 g 0)).toNat then 1 else 0 : EReal) := by
  have hb : broadcastTo S200x80 (shapeCast S200x1 lab shapeCasts_S200x1_S200x1) broadcasts_S200x1_S200x80 (ix2 g k) = lab (ix2 g 0) := by
    rw [shapeCast_self]; exact bcol lab broadcasts_S200x1_S200x80 g k
  have hi : iota .tc S200x80 32 [1] iota_S200x80_d1_w32 (ix2 g k) = BitVec.ofNat 32 k.val := by
    show BitVec.ofNat 32 (0 * 80 + k.val) = _
    rw [Nat.zero_mul, Nat.zero_add]
  rw [← hot k.val (by have := k.isLt; omega), ← hb, ← hi]
  rfl

/-- The product of the one-hot rows and a table: the row of the class. -/
theorem product (w : FVec Ideal S200x80 .f32) (t : FVec Ideal S80x2 .f32) (n : ℕ) (hn : n < 80) (g : Fin 200) (a : Fin 2)
    (hw : ∀ k : Fin 80, w (ix2 g k) = (if k.val = n then 1 else 0 : EReal)) :
    matmul dot_S200x80_S80x2_S200x2_1_0_0_1_n_n none w t (constant S200x2 .f32 0x00000000#32) (ix2 g a) = t (ix2 ⟨n, hn⟩ a) := by
  refine (Ideal.matmul_constant_zero_apply dot_S200x80_S80x2_S200x2_1_0_0_1_n_n none w t (ix2 g a)).trans ?_
  rw [DotDims.sum_contr₁ (d := dot_S200x80_S80x2_S200x2_1_0_0_1_n_n) (a := 1) rfl (K := 80) rfl]
  rw [← pick n hn (fun k => w (ix2 g k)) (fun k => t (ix2 k a)) hw]
  refine Finset.sum_congr rfl fun k _ => congrArg₂ (· * ·) (congrArg w (funext fun b => ?_)) (congrArg t (funext fun b => ?_))
  · match b with
    | ⟨0, _⟩ => rfl
    | ⟨1, _⟩ => rfl
  · match b with
    | ⟨0, _⟩ => rfl
    | ⟨1, _⟩ => rfl

theorem slice0 (x : FVec Ideal S200x2 .f32) (g : Fin 200) : extractStridedSlice S200x1 ![0, 0] x slices_S200x2_o0_0_S200x1 (ix2 g 0) = x (ix2 g 0) :=
  extractStridedSlice_apply _ _ _ _ _ fun k => by
    match k with
    | ⟨0, _⟩ => exact (Nat.zero_add _).symm
    | ⟨1, _⟩ => rfl

theorem slice1 (x : FVec Ideal S200x2 .f32) (g : Fin 200) : extractStridedSlice S200x1 ![0, 1] x slices_S200x2_o0_1_S200x1 (ix2 g 0) = x (ix2 g 1) :=
  extractStridedSlice_apply _ _ _ _ _ fun k => by
    match k with
    | ⟨0, _⟩ => exact (Nat.zero_add _).symm
    | ⟨1, _⟩ => rfl

/-- The formula of the first call, from its rows and columns. -/
theorem formula (v1 v3 v5 : FVec Ideal S1x5456 .f32) (v10 v15 v28 v29 v31 v30 : FVec Ideal S200x1 .f32) (g : Fin 200) (i : Fin 5456) :
    k0_pay14 v1 v3 v5 v10 v15 v28 v29 v31 (mulf v30 v30) (Scalar.ofBits .f32 0x3F000000#32) (ix2 g i)
      = score (dist (v1 (ix2 0 i)) (v10 (ix2 g 0)) (v5 (ix2 0 i)) (v28 (ix2 g 0))) (dist (v3 (ix2 0 i)) (v15 (ix2 g 0)) (v5 (ix2 0 i)) (v29 (ix2 g 0)))
          (v30 (ix2 g 0)) (v31 (ix2 g 0)) := by
  have r : ∀ v : FVec Ideal S1x5456 .f32, broadcastTo S200x5456 v broadcasts_S1x5456_S200x5456 (ix2 g i) = v (ix2 0 i) := fun v => brow v _ g i
  have c : ∀ v : FVec Ideal S200x1 .f32, broadcastTo S200x5456 v broadcasts_S200x1_S200x5456 (ix2 g i) = v (ix2 g 0) := fun v => bcol v _ g i
  unfold score
  rw [← first_call, ← first_call, ← lit_half, ← Ideal.ofBits_zero_f32]
  unfold Score.dist
  rw [← r v1, ← r v3, ← r v5, ← c v10, ← c v15, ← c v28, ← c v29]
  have d0 := c (divf (broadcast S200x1 (Scalar.ofBits (F := Ideal) .f32 0x3F000000#32)) (mulf v30 v30))
  have d1 := c (divf (broadcast S200x1 (Scalar.ofBits (F := Ideal) .f32 0x3F000000#32)) (mulf v31 v31))
  have d0' : broadcastTo S200x5456 (divf (broadcast S200x1 (Scalar.ofBits (F := Ideal) .f32 0x3F000000#32)) (mulf v30 v30)) broadcasts_S200x1_S200x5456 (ix2 g i) = Ideal.div (Ideal.ofBits .f32 0x3F000000#32) (v30 (ix2 g 0) * v30 (ix2 g 0)) := d0
  have d1' : broadcastTo S200x5456 (divf (broadcast S200x1 (Scalar.ofBits (F := Ideal) .f32 0x3F000000#32)) (mulf v31 v31)) broadcasts_S200x1_S200x5456 (ix2 g i) = Ideal.div (Ideal.ofBits .f32 0x3F000000#32) (v31 (ix2 g 0) * v31 (ix2 g 0)) := d1
  rw [← d0', ← d1']
  rfl

/-- The weight the first call writes for box `g` and point `i`. -/
theorem wtA_apply (x0 : FVec Ideal S3x5456 .f32) (x1 : FVec Ideal S200x4 .f32) (x2 x3 : FVec Ideal S80x2 .f32) (x4 : IVec S200x1 32)
    (g : Fin 200) (i : Fin 5456) (n : ℕ) (hn : n < 80) (hl : (x4 (ix2 g 0)).toNat = n) :
    wtA (F := Ideal) x0 x1 x2 x3 x4 (ix2 g i)
      = score (dist (x0 (ix2 0 i)) ((x1 (ix2 g 0) + x1 (ix2 g 2)) * half) (x0 (ix2 2 i)) (x2 (ix2 ⟨n, hn⟩ 0)))
          (dist (x0 (ix2 1 i)) ((x1 (ix2 g 1) + x1 (ix2 g 3)) * half) (x0 (ix2 2 i)) (x2 (ix2 ⟨n, hn⟩ 1)))
          (x3 (ix2 ⟨n, hn⟩ 0)) (x3 (ix2 ⟨n, hn⟩ 1)) := by
  have hw : ∀ k : Fin 80, k0_pay7 (F := Ideal) x4 (ix2 g k) = (if k.val = n then 1 else 0 : EReal) := by
    intro k; rw [hot_apply, hl]
  have p0 := product _ x2 n hn g 0 hw
  have p1 := product _ x2 n hn g 1 hw
  have q0 := product _ x3 n hn g 0 hw
  have q1 := product _ x3 n hn g 1 hw
  have m0 : k0_pay10 (F := Ideal) x4 x2 (ix2 g 0) = x2 (ix2 ⟨n, hn⟩ 0) := (slice0 _ g).trans p0
  have m1 : k0_pay11 (F := Ideal) x4 x2 (ix2 g 0) = x2 (ix2 ⟨n, hn⟩ 1) := (slice1 _ g).trans p1
  have s1 : k0_pay12 (F := Ideal) x4 x3 (ix2 g 0) = x3 (ix2 ⟨n, hn⟩ 1) := (slice1 _ g).trans q1
  have s0 : extractStridedSlice S200x1 ![0, 0] (k0_pay9 (F := Ideal) x4 x3) slices_S200x2_o0_0_S200x1 (ix2 g 0) = x3 (ix2 ⟨n, hn⟩ 0) := (slice0 _ g).trans q0
  have l0 := ld2 (Val := Elt Ideal) (e := .f32) x0 0 0 inb_S3x5456_S1x5456_0_0 (0 : Fin 1) i 0 i rfl (Nat.zero_add _).symm
  have l1 := ld2 (Val := Elt Ideal) (e := .f32) x0 1 0 inb_S3x5456_S1x5456_1_0 (0 : Fin 1) i 1 i rfl (Nat.zero_add _).symm
  have l2 := ld2 (Val := Elt Ideal) (e := .f32) x0 2 0 inb_S3x5456_S1x5456_2_0 (0 : Fin 1) i 2 i rfl (Nat.zero_add _).symm
  have b0 := ld2 (Val := Elt Ideal) (e := .f32) x1 0 0 inb_S200x4_S200x1_0_0 g (0 : Fin 1) g 0 (Nat.zero_add _).symm rfl
  have b1 := ld2 (Val := Elt Ideal) (e := .f32) x1 0 1 inb_S200x4_S200x1_0_1 g (0 : Fin 1) g 1 (Nat.zero_add _).symm rfl
  have b2 := ld2 (Val := Elt Ideal) (e := .f32) x1 0 2 inb_S200x4_S200x1_0_2 g (0 : Fin 1) g 2 (Nat.zero_add _).symm rfl
  have b3 := ld2 (Val := Elt Ideal) (e := .f32) x1 0 3 inb_S200x4_S200x1_0_3 g (0 : Fin 1) g 3 (Nat.zero_add _).symm rfl
  rw [← m0, ← m1, ← s0, ← s1, ← l0, ← l1, ← l2, ← b0, ← b1, ← b2, ← b3, ← lit_half]
  unfold wtA k0_pay2 k0_pay3 k0_pay4
  rw [shapeCast_self, shapeCast_self, shapeCast_self]
  exact formula _ _ _ _ _ _ _ _ _ g i

end Cert.Proof.WeightA

end
-- ==== Proof.WeightC.lean ====
/-
  The second TensorCore call at one point of its block and one box: the weight is the one score, and the mask and the
  masked weight are read off the inside-mask, the flag and the nine rows of chosen points.
-/
module

public import proofs.«01_k».proof.Proof.Reading
public import proofs.«01_k».proof.Proof.TcC

@[expose] public section

noncomputable section

namespace Cert.Proof.WeightC

open Idealize.ShloMosaic hiding ix1 ix2 ix3
open Idealize.ShloMosaic.ValueIdx Cert.Proof.Score Cert.Proof.Reading
open Cert.KernelIdeal Cert.KernelIdeal.Gen

/-- The one-hot columns of the classes. -/
theorem hot_apply (lab : IVec S1x200 32) (g : Fin 200) (k : Fin 80) :
    k2_pay8 (F := Ideal) lab (ix2 k g) = (if k.val = (lab (ix2 0 g)).toNat then 1 else 0 : EReal) := by
  have hb : broadcastTo S80x200 (shapeCast S1x200 lab shapeCasts_S1x200_S1x200) broadcasts_S1x200_S80x200 (ix2 k g) = lab (ix2 0 g) := by
    rw [shapeCast_self]; exact brow lab broadcasts_S1x200_S80x200 k g
  have hi : iota .tc S80x200 32 [0] iota_S80x200_d0_w32 (ix2 k g) = BitVec.ofNat 32 k.val := by
    show BitVec.ofNat 32 (0 * 80 + k.val) = _
    rw [Nat.zero_mul, Nat.zero_add]
  rw [← hot k.val (by have := k.isLt; omega), ← hb, ← hi]
  rfl

/-- A one-hot sum of a column: the entry of the class. -/
theorem chosen_entry (w : FVec Ideal S80x200 .f32) (x : FVec Ideal S80x1 .f32) (n : ℕ) (hn : n < 80) (g : Fin 200)
    (hw : ∀ k : Fin 80, w (ix2 k g) = (if k.val = n then 1 else 0 : EReal)) :
    shapeCast S1x200 (multiReduction .add [0] S200 (mulf w (broadcastTo S80x200 x broadcasts_S80x1_S80x200)) 0x00000000#32 reduces_S80x200_S200 (.inl rfl) rfl) shapeCasts_S200_S1x200 (ix2 0 g)
      = x (ix2 ⟨n, hn⟩ 0) := by
  refine (shapeCast_a_1a_apply _ shapeCasts_S200_S1x200 0 g).trans ?_
  refine (colsum _ reduces_S80x200_S200 g).trans ?_
  rw [← pick n hn (fun k => w (ix2 k g)) (fun k => x (ix2 k 0)) hw]
  refine Finset.sum_congr rfl fun k _ => congrArg (w (ix2 k g) * ·) ?_
  exact bcol x broadcasts_S80x1_S80x200 k g

/-- The formula of the second call, from its columns and rows. -/
theorem formula (v1 v3 v4 : FVec Ideal S2728x1 .f32) (v11 v18 : FVec Ideal S1x200 .f32) (v26 : FVec Ideal S80x200 .f32) (v31 : FVec Ideal S1x200 .f32)
    (m1 s0 s1 : FVec Ideal S80x1 .f32) (n : ℕ) (hn : n < 80) (p : Fin 2728) (g : Fin 200)
    (hw : ∀ k : Fin 80, v26 (ix2 k g) = (if k.val = n then 1 else 0 : EReal)) :
    k2_pay11 v1 v3 v4 v11 v18 v26 v31 (k2_pay10 m1) s0 s1 (ix2 p g)
      = score (dist (v1 (ix2 p 0)) (v11 (ix2 0 g)) (v4 (ix2 p 0)) (v31 (ix2 0 g))) (dist (v3 (ix2 p 0)) (v18 (ix2 0 g)) (v4 (ix2 p 0)) (m1 (ix2 ⟨n, hn⟩ 0)))
          (s0 (ix2 ⟨n, hn⟩ 0)) (s1 (ix2 ⟨n, hn⟩ 0)) := by
  have r : ∀ v : FVec Ideal S1x200 .f32, broadcastTo S2728x200 v broadcasts_S1x200_S2728x200 (ix2 p g) = v (ix2 0 g) := fun v => brow v _ p g
  have c : ∀ v : FVec Ideal S2728x1 .f32, broadcastTo S2728x200 v broadcasts_S2728x1_S2728x200 (ix2 p g) = v (ix2 p 0) := fun v => bcol v _ p g
  have e1 := chosen_entry v26 m1 n hn g hw
  have f0 := chosen_entry v26 s0 n hn g hw
  have f1 := chosen_entry v26 s1 n hn g hw
  rw [← second_call, ← lit_half, ← Ideal.ofBits_zero_f32, ← e1, ← f0, ← f1]
  unfold Score.dist
  rw [← c v1, ← c v3, ← c v4, ← r v11, ← r v18, ← r v31]
  generalize hS0 : shapeCast S1x200 (multiReduction .add [0] S200 (mulf v26 (broadcastTo S80x200 s0 broadcasts_S80x1_S80x200)) 0x00000000#32 reduces_S80x200_S200 (.inl rfl) rfl) shapeCasts_S200_S1x200 = S0
  generalize hS1 : shapeCast S1x200 (multiReduction .add [0] S200 (mulf v26 (broadcastTo S80x200 s1 broadcasts_S80x1_S80x200)) 0x00000000#32 reduces_S80x200_S200 (.inl rfl) rfl) shapeCasts_S200_S1x200 = S1
  generalize hM : shapeCast S1x200 (multiReduction .add [0] S200 (mulf v26 (broadcastTo S80x200 m1 broadcasts_S80x1_S80x200)) 0x00000000#32 reduces_S80x200_S200 (.inl rfl) rfl) shapeCasts_S200_S1x200 = M
  have d0 : broadcastTo S2728x200 (divf (broadcast S1x200 (Scalar.ofBits (F := Ideal) .f32 0x3F000000#32)) (mulf S0 S0)) broadcasts_S1x200_S2728x200 (ix2 p g) = Ideal.div (Ideal.ofBits .f32 0x3F000000#32) (S0 (ix2 0 g) * S0 (ix2 0 g)) := r _
  have d1 : broadcastTo S2728x200 (divf (broadcast S1x200 (Scalar.ofBits (F := Ideal) .f32 0x3F000000#32)) (mulf S1 S1)) broadcasts_S1x200_S2728x200 (ix2 p g) = Ideal.div (Ideal.ofBits .f32 0x3F000000#32) (S1 (ix2 0 g) * S1 (ix2 0 g)) := r _
  rw [← d0, ← d1, ← r M]
  subst hS0 hS1 hM
  rfl

/-- The weight of one point of the block and one box. -/
theorem wC_apply (x0 : FVec Ideal S2728x2 .f32) (x1 : FVec Ideal S2728x1 .f32) (x2 : FVec Ideal S4x200 .f32) (x3 x4 : FVec Ideal S80x2 .f32)
    (x5 : IVec S1x200 32) (p : Fin 2728) (g : Fin 200) (n : ℕ) (hn : n < 80) (hl : (x5 (ix2 0 g)).toNat = n) :
    wC (F := Ideal) x0 x1 x2 x3 x4 x5 (ix2 p g)
      = score (dist (x0 (ix2 p 0)) ((x2 (ix2 0 g) + x2 (ix2 2 g)) * half) (x1 (ix2 p 0)) (x3 (ix2 ⟨n, hn⟩ 0)))
          (dist (x0 (ix2 p 1)) ((x2 (ix2 1 g) + x2 (ix2 3 g)) * half) (x1 (ix2 p 0)) (x3 (ix2 ⟨n, hn⟩ 1)))
          (x4 (ix2 ⟨n, hn⟩ 0)) (x4 (ix2 ⟨n, hn⟩ 1)) := by
  have hw : ∀ k : Fin 80, k2_pay8 (F := Ideal) x5 (ix2 k g) = (if k.val = n then 1 else 0 : EReal) := by
    intro k; rw [hot_apply, hl]
  have l0 := ld2 (Val := Elt Ideal) (e := .f32) x0 0 0 inb_S2728x2_S2728x1_0_0 p (0 : Fin 1) p 0 (Nat.zero_add _).symm rfl
  have l1 := ld2 (Val := Elt Ideal) (e := .f32) x0 0 1 inb_S2728x2_S2728x1_0_1 p (0 : Fin 1) p 1 (Nat.zero_add _).symm rfl
  have b0 := ld2 (Val := Elt Ideal) (e := .f32) x2 0 0 inb_S4x200_S1x200_0_0 (0 : Fin 1) g 0 g rfl (Nat.zero_add _).symm
  have b1 := ld2 (Val := Elt Ideal) (e := .f32) x2 1 0 inb_S4x200_S1x200_1_0 (0 : Fin 1) g 1 g rfl (Nat.zero_add _).symm
  have b2 := ld2 (Val := Elt Ideal) (e := .f32) x2 2 0 inb_S4x200_S1x200_2_0 (0 : Fin 1) g 2 g rfl (Nat.zero_add _).symm
  have b3 := ld2 (Val := Elt Ideal) (e := .f32) x2 3 0 inb_S4x200_S1x200_3_0 (0 : Fin 1) g 3 g rfl (Nat.zero_add _).symm
  have m0 := ld2 (Val := Elt Ideal) (e := .f32) x3 0 0 inb_S80x2_S80x1_0_0 (⟨n, hn⟩ : Fin 80) (0 : Fin 1) ⟨n, hn⟩ 0 (Nat.zero_add _).symm rfl
  have m1 := ld2 (Val := Elt Ideal) (e := .f32) x3 0 1 inb_S80x2_S80x1_0_1 (⟨n, hn⟩ : Fin 80) (0 : Fin 1) ⟨n, hn⟩ 1 (Nat.zero_add _).symm rfl
  have s0 := ld2 (Val := Elt Ideal) (e := .f32) x4 0 0 inb_S80x2_S80x1_0_0 (⟨n, hn⟩ : Fin 80) (0 : Fin 1) ⟨n, hn⟩ 0 (Nat.zero_add _).symm rfl
  have s1 := ld2 (Val := Elt Ideal) (e := .f32) x4 0 1 inb_S80x2_S80x1_0_1 (⟨n, hn⟩ : Fin 80) (0 : Fin 1) ⟨n, hn⟩ 1 (Nat.zero_add _).symm rfl
  have e0 := chosen_entry _ (View.ld (Val := Elt Ideal) (e' := .f32) x3 (Rect.unit (s := S80x2) ![0, 0] S80x1.size inb_S80x2_S80x1_0_0)) n hn g hw
  have e0' : k2_pay9 (F := Ideal) x5 (View.ld x3 (Rect.unit (s := S80x2) ![0, 0] S80x1.size inb_S80x2_S80x1_0_0)) (ix2 0 g) = x3 (ix2 ⟨n, hn⟩ 0) := e0.trans m0
  rw [← e0', ← m1, ← s0, ← s1, ← l0, ← l1, ← b0, ← b1, ← b2, ← b3, ← lit_half]
  unfold wC k2_pay4 k2_pay5 k2_pay6 k2_pay7
  rw [shapeCast_self, shapeCast_self, shapeCast_self, shapeCast_self, shapeCast_self, shapeCast_self]
  exact formula _ _ _ _ _ _ _ _ _ _ n hn p g hw

end Cert.Proof.WeightC

end
-- ==== Proof.Lanes.lean ====
/-
  The sixteen lanes of a vector: what the rotations read, and what the two four-step trees leave in every lane.
-/
module

public import proofs.«01_k».proof.Proof.Rounds
public import Idealize.ShloMosaic.Lib.Pipeline.Value
public import Idealize.ShloMosaic.PureOps.Ideal

@[expose] public section

noncomputable section

namespace Cert.Proof.Lanes

open Idealize.ShloMosaic Idealize.SL.Sem
open Cert.KernelIdeal Cert.KernelIdeal.Gen Cert.Proof.Rounds

/-- Lane `l` as an index. -/
def ix (l : Fin 16) : S16.Idx := fun a => ⟨l.val, by have h : a = 0 := Subsingleton.elim _ _; subst h; exact l.isLt⟩

theorem eq_ix (j : S16.Idx) : j = ix ⟨(j 0).val, (j 0).isLt⟩ := by
  funext a
  have h : a = 0 := Subsingleton.elim _ _
  subst h
  rfl

/-- The vector whose lane `l` holds `l`. -/
def ids : L16 := fun j => BitVec.ofNat 32 (j 0).val

/-- Lane `l xor s`. -/
def flip (s : Fin 16) (l : Fin 16) : Fin 16 := ⟨(l.val ^^^ s.val) % 16, Nat.mod_lt _ (by decide)⟩

/-- Sixteen lanes repeated eight times, read in the first copy. -/
theorem eight_apply {α : Type} (x : S16.Idx → α) (j : S128.Idx) (p : Fin 16) (hj : (j 0).val = p.val) :
    (concatenate S128 0 [⟨S16, x⟩, ⟨S16, x⟩, ⟨S16, x⟩, ⟨S16, x⟩, ⟨S16, x⟩, ⟨S16, x⟩, ⟨S16, x⟩, ⟨S16, x⟩] concatenates_S16_S16_S16_S16_S16_S16_S16_S16_S128_d0 : S128.Idx → α)
      j = x (ix p) := by
  refine concatenate_apply_piece (t := S128) 0 _ _ j 0 (by simp) S16 x rfl rfl 0 rfl (ix p) (fun b hb => ?_) ?_
  · exact absurd (Subsingleton.elim _ _) hb
  · rw [hj]; exact Nat.zero_add _

/-- The positions the rotation by `s` reads. -/
theorem xorIdx_apply (s l : Fin 16) (j : S128.Idx) (hj : (j 0).val = l.val) :
    (xorIdx ids (BitVec.ofNat 32 s.val) j).toNat = (flip s l).val := by
  unfold xorIdx
  rw [shapeCast_shapeCast]
  have e := eight_apply (xori ids (broadcast S16 (BitVec.ofNat 32 s.val))) j l hj
  show (Scalar.select (IntOp.cmpi .slt (concatenate _ _ _ _ j) _) (IntOp.addi (concatenate _ _ _ _ j) _) (concatenate _ _ _ _ j)).toNat = _
  rw [e]
  clear e
  show (Scalar.select (IntOp.cmpi .slt (IntOp.xori (BitVec.ofNat 32 l.val) (BitVec.ofNat 32 s.val)) 0#32)
    (IntOp.addi (IntOp.xori (BitVec.ofNat 32 l.val) (BitVec.ofNat 32 s.val)) 128#32)
    (IntOp.xori (BitVec.ofNat 32 l.val) (BitVec.ofNat 32 s.val))).toNat = _
  clear hj
  revert s l
  decide

/-- The rotation by `s` reads lane `l xor s`. -/
theorem perm_apply {α : Type} (x : S16.Idx → α) (s l : Fin 16) :
    extractStridedSlice S16 ![0] (dynamicGather 0 (concatenate S128 0 [⟨S16, x⟩, ⟨S16, x⟩, ⟨S16, x⟩, ⟨S16, x⟩, ⟨S16, x⟩, ⟨S16, x⟩, ⟨S16, x⟩, ⟨S16, x⟩] concatenates_S16_S16_S16_S16_S16_S16_S16_S16_S128_d0 : S128.Idx → α)
      (xorIdx ids (BitVec.ofNat 32 s.val))) slices_S128_o0_S16 (ix l) = x (ix (flip s l)) := by
  have hx := xorIdx_apply s l (fun a => ⟨(![0] : Fin 1 → ℕ) a + (ix l (a.cast rfl)).val, Nat.lt_of_lt_of_le (Nat.add_lt_add_left (ix l _).isLt _) (slices_S128_o0_S16.2 a)⟩) (Nat.zero_add _)
  unfold extractStridedSlice dynamicGather
  beta_reduce
  refine eight_apply x _ (flip s l) ?_
  show ((if (0 : Fin 1) = 0 then _ else _ : Fin 128)).val = _
  refine (congrArg Fin.val (if_pos rfl)).trans ?_
  have h := (flip s l).isLt
  refine (congrArg (· % 128) hx).trans ?_
  show (flip s l).val % 128 = _
  omega

theorem flip_flip (s q l : Fin 16) : flip (flip s q) l = flip q (flip s l) := by
  revert s q l; decide

theorem flip_zero (l : Fin 16) : flip 0 l = l := by
  revert l; decide

theorem flip_reach (l l' : Fin 16) : l' = flip (flip l l') l := by
  revert l l'; decide

/-! ## Trees -/

section Tree

variable {α : Type} (op : α → α → α) (R : α → α → Prop)

/-- One step of a tree: each lane joined with the lane `s` away. -/
def join (s : Fin 16) (x : Fin 16 → α) : Fin 16 → α := fun l => op (x l) (x (flip s l))

/-- The four steps: every lane is joined with every lane. -/
theorem tree (hl : ∀ a b, R (op a b) a) (hr : ∀ a b, R (op a b) b) (hc : ∀ a b, op a b = a ∨ op a b = b)
    (ht : ∀ a b c, R a b → R b c → R a c) (hrefl : ∀ a, R a a) (x : Fin 16 → α) (l : Fin 16) :
    (∀ l', R (join op 8 (join op 4 (join op 2 (join op 1 x))) l) (x l')) ∧ ∃ l', join op 8 (join op 4 (join op 2 (join op 1 x))) l = x l' := by
  have step : ∀ (s : Fin 16) (y : Fin 16 → α) (P : Finset (Fin 16)),
      (∀ l, (∀ p ∈ P, R (y l) (x (flip p l))) ∧ ∃ l', y l = x l') →
      ∀ l, (∀ p ∈ P ∪ P.image (flip s), R (join op s y l) (x (flip p l))) ∧ ∃ l', join op s y l = x l' := by
    intro s y P h l
    refine ⟨fun p hp => ?_, ?_⟩
    · rcases Finset.mem_union.mp hp with hp | hp
      · exact ht _ _ _ (hl _ _) ((h l).1 p hp)
      · obtain ⟨q, hq, rfl⟩ := Finset.mem_image.mp hp
        rw [flip_flip]
        exact ht _ _ _ (hr _ _) ((h (flip s l)).1 q hq)
    · rcases hc (y l) (y (flip s l)) with e | e
      · obtain ⟨l', h'⟩ := (h l).2
        exact ⟨l', e.trans h'⟩
      · obtain ⟨l', h'⟩ := (h (flip s l)).2
        exact ⟨l', e.trans h'⟩
  have h0 : ∀ l, (∀ p ∈ ({0} : Finset (Fin 16)), R (x l) (x (flip p l))) ∧ ∃ l', x l = x l' := fun l =>
    ⟨fun p hp => by
      rw [Finset.mem_singleton.mp hp]
      rw [flip_zero]; exact hrefl _, l, rfl⟩
  have h4 := step 8 _ _ (step 4 _ _ (step 2 _ _ (step 1 _ _ h0))) l
  refine ⟨fun l' => ?_, h4.2⟩
  rw [flip_reach l l']
  refine h4.1 _ ?_
  have hu : ((({0} ∪ Finset.image (flip 1) {0}) ∪ Finset.image (flip 2) ({0} ∪ Finset.image (flip 1) {0})) ∪
      Finset.image (flip 4) (({0} ∪ Finset.image (flip 1) {0}) ∪ Finset.image (flip 2) ({0} ∪ Finset.image (flip 1) {0}))) ∪
      Finset.image (flip 8) ((({0} ∪ Finset.image (flip 1) {0}) ∪ Finset.image (flip 2) ({0} ∪ Finset.image (flip 1) {0})) ∪
      Finset.image (flip 4) (({0} ∪ Finset.image (flip 1) {0}) ∪ Finset.image (flip 2) ({0} ∪ Finset.image (flip 1) {0})))
      = (Finset.univ : Finset (Fin 16)) := by decide
  rw [hu]
  exact Finset.mem_univ _

end Tree

/-- `laneMax` leaves in every lane a value that is some lane's and at least every lane's. -/
theorem laneMax_spec (x : V16 Ideal) (l : Fin 16) :
    (∀ l', (x (ix l') : EReal) ≤ laneMax ids x (ix l)) ∧ ∃ l', laneMax ids x (ix l) = x (ix l') := by
  have hs : ∀ (s : Fin 16) (b : BitVec 32) (y : V16 Ideal), b = BitVec.ofNat 32 s.val → (fun l => maxStep ids b y (ix l)) = join (max : EReal → EReal → EReal) s fun l => y (ix l) := by
    intro s b y hb; funext l
    rw [hb]
    show max (y (ix l)) (permF ids _ y (ix l)) = _
    rw [show permF ids (BitVec.ofNat 32 s.val) y (ix l) = y (ix (flip s l)) from perm_apply y s l]
    rfl
  have e : (fun l => laneMax ids x (ix l)) = join (max : EReal → EReal → EReal) 8 (join max 4 (join max 2 (join max 1 fun l => x (ix l)))) := by
    unfold laneMax
    rw [hs 8 8#32 _ (by decide), hs 4 4#32 _ (by decide), hs 2 2#32 _ (by decide), hs 1 1#32 _ (by decide)]
  have t := tree (max : EReal → EReal → EReal) (fun a b => b ≤ a) (fun a b => le_max_left a b) (fun a b => le_max_right a b)
    (fun a b => max_choice a b) (fun a b c h h' => le_trans h' h) (fun a => le_refl a) (fun l => x (ix l)) l
  rw [← e] at t
  exact t

/-- `laneMin` leaves in every lane a value that is some lane's and at most every lane's. -/
theorem laneMin_spec (x : L16) (l : Fin 16) :
    (∀ l', (laneMin ids x (ix l)).toInt ≤ (x (ix l')).toInt) ∧ ∃ l', laneMin ids x (ix l) = x (ix l') := by
  have hs : ∀ (s : Fin 16) (b : BitVec 32) (y : L16), b = BitVec.ofNat 32 s.val → (fun l => minStep ids b y (ix l)) = join IntOp.minsi s fun l => y (ix l) := by
    intro s b y hb; funext l
    rw [hb]
    unfold minStep permI join minsi
    exact congrArg (IntOp.minsi (y (ix l))) (perm_apply y s l)
  have e : (fun l => laneMin ids x (ix l)) = join IntOp.minsi 8 (join IntOp.minsi 4 (join IntOp.minsi 2 (join IntOp.minsi 1 fun l => x (ix l)))) := by
    unfold laneMin
    rw [hs 8 8#32 _ (by decide), hs 4 4#32 _ (by decide), hs 2 2#32 _ (by decide), hs 1 1#32 _ (by decide)]
  have hm : ∀ a b : BitVec 32, (IntOp.minsi a b).toInt ≤ a.toInt ∧ (IntOp.minsi a b).toInt ≤ b.toInt ∧ (IntOp.minsi a b = a ∨ IntOp.minsi a b = b) := by
    intro a b
    unfold IntOp.minsi
    by_cases h : a.slt b = true
    · rw [if_pos h]
      have h' := BitVec.slt_iff_toInt_lt.mp h
      exact ⟨le_refl _, le_of_lt h', Or.inl rfl⟩
    · rw [if_neg h]
      have h' : ¬ a.toInt < b.toInt := fun h'' => h (BitVec.slt_iff_toInt_lt.mpr h'')
      exact ⟨not_lt.mp h', le_refl _, Or.inr rfl⟩
  have t := tree IntOp.minsi (fun a b : BitVec 32 => a.toInt ≤ b.toInt) (fun a b => (hm a b).1) (fun a b => (hm a b).2.1)
    (fun a b => (hm a b).2.2) (fun a b c h h' => le_trans h h') (fun a => le_refl _) (fun l => x (ix l)) l
  rw [← e] at t
  exact t

end Cert.Proof.Lanes

end
-- ==== Proof.Insertion.lean ====
/-
  The insertion of a row into the nine running maxima of each lane: whenever a set of nine positions holds exactly the
  entries that are at least some bound, no position of the set is ever lost.
-/
module

public import proofs.«01_k».proof.Proof.Lanes
public import proofs.«01_k».proof.Proof.Row

@[expose] public section

noncomputable section

namespace Cert.Proof.Insertion

open Idealize.ShloMosaic Idealize.SL.Sem
open Cert.KernelIdeal Cert.KernelIdeal.Gen Cert.Proof.Rounds Cert.Proof.Row Cert.Proof.Lanes

/-- A value with its index. -/
abbrev Slot : Type := EReal × BitVec 32

/-- One entry inserted into a list of entries: what stays, and what is left over. -/
def ins : List Slot → Slot → List Slot × Slot
  | [], q => ([], q)
  | p :: ps, q => ((if p.1 < q.1 then q else p) :: (ins ps (if p.1 < q.1 then p else q)).1, (ins ps (if p.1 < q.1 then p else q)).2)

/-- Nothing is lost: the list kept and the entry left over are the list before and the entry that came. -/
theorem ins_perm : ∀ (ps : List Slot) (q : Slot), ((ins ps q).1 ++ [(ins ps q).2]).Perm (q :: ps)
  | [], q => List.Perm.refl _
  | p :: ps, q => by
    have ih := ins_perm ps (if p.1 < q.1 then p else q)
    show ((if p.1 < q.1 then q else p) :: ((ins ps _).1 ++ [(ins ps _).2])).Perm _
    by_cases h : p.1 < q.1
    · simp only [if_pos h] at ih ⊢
      exact (ih.cons q)
    · simp only [if_neg h] at ih ⊢
      exact (ih.cons p).trans (List.Perm.swap _ _ _)

theorem ins_length : ∀ (ps : List Slot) (q : Slot), (ins ps q).1.length = ps.length
  | [], q => rfl
  | p :: ps, q => congrArg (· + 1) (ins_length ps _)

theorem ins_le_new : ∀ (ps : List Slot) (q : Slot), (ins ps q).2.1 ≤ q.1
  | [], q => le_refl _
  | p :: ps, q => by
    refine (ins_le_new ps _).trans ?_
    by_cases h : p.1 < q.1
    · rw [if_pos h]; exact le_of_lt h
    · rw [if_neg h]

/-- The entry left over is at most every entry kept. -/
theorem ins_le : ∀ (ps : List Slot) (q : Slot), ∀ p ∈ (ins ps q).1, (ins ps q).2.1 ≤ p.1
  | [], q, p, hp => absurd hp (List.not_mem_nil)
  | p :: ps, q, x, hx => by
    rcases List.mem_cons.mp hx with rfl | hx
    · refine (ins_le_new ps _).trans ?_
      by_cases h : p.1 < q.1
      · rw [if_pos h, if_pos h]; exact le_of_lt h
      · rw [if_neg h, if_neg h]; exact not_lt.mp h
    · exact ins_le ps _ x hx

/-- The nine entries of lane `l`. -/
def slots (s : Kept Ideal) (l : Fin 16) : List Slot :=
  [(s.t.x0 (ix l), s.d.x0 (ix l)), (s.t.x1 (ix l), s.d.x1 (ix l)), (s.t.x2 (ix l), s.d.x2 (ix l)), (s.t.x3 (ix l), s.d.x3 (ix l)),
    (s.t.x4 (ix l), s.d.x4 (ix l)), (s.t.x5 (ix l), s.d.x5 (ix l)), (s.t.x6 (ix l), s.d.x6 (ix l)), (s.t.x7 (ix l), s.d.x7 (ix l)),
    (s.t.x8 (ix l), s.d.x8 (ix l))]

theorem select_gt {α : Type} (v t : EReal) (a b : α) : Scalar.select (Ideal.cmp .ogt v t) a b = if t < v then a else b := by
  show Scalar.select (BitVec.ofBool (decide (t < v))) a b = _
  by_cases h : t < v
  · rw [if_pos h, decide_eq_true h]; rfl
  · rw [if_neg h, decide_eq_false h]; rfl

theorem ins_cons (v t : V16 Ideal) (j d : L16) (x : S16.Idx) (ps : List Slot) :
    ins ((t x, d x) :: ps) (v x, j x)
      = ((hi v t x, hiI v t j d x) :: (ins ps (lo v t x, loI v t j d x)).1, (ins ps (lo v t x, loI v t j d x)).2) := by
  have h1 : hi v t x = if (t x : EReal) < v x then v x else t x := select_gt _ _ _ _
  have h2 : hiI v t j d x = if (t x : EReal) < v x then j x else d x := select_gt _ _ _ _
  have h3 : lo v t x = if (t x : EReal) < v x then t x else v x := select_gt _ _ _ _
  have h4 : loI v t j d x = if (t x : EReal) < v x then d x else j x := select_gt _ _ _ _
  rw [h1, h2, h3, h4, ins]
  by_cases h : (t x : EReal) < v x
  · simp only [if_pos h]
  · simp only [if_neg h]

/-- The insertion of a whole chunk into a list of vectors. -/
def insV : List (V16 Ideal × L16) → V16 Ideal → L16 → List (V16 Ideal × L16)
  | [], _, _ => []
  | p :: ps, v, j => (hi v p.1, hiI v p.1 j p.2) :: insV ps (lo v p.1) (loI v p.1 j p.2)

theorem insV_apply (x : S16.Idx) : ∀ (ps : List (V16 Ideal × L16)) (v : V16 Ideal) (j : L16),
    (insV ps v j).map (fun p => ((p.1 x, p.2 x) : Slot)) = (ins (ps.map fun p => ((p.1 x, p.2 x) : Slot)) (v x, j x)).1
  | [], v, j => rfl
  | p :: ps, v, j => by
    have ih := insV_apply x ps (lo v p.1) (loI v p.1 j p.2)
    rw [List.map_cons, ins_cons v p.1 j p.2 x, ← ih]
    rfl

/-- Inserting a chunk inserts, lane by lane, the chunk's entry. -/
theorem slots_insert (s : Kept Ideal) (v : V16 Ideal) (j : L16) (l : Fin 16) :
    slots (insert s v j) l = (ins (slots s l) (v (ix l), j (ix l))).1 :=
  insV_apply (ix l) [(s.t.x0, s.d.x0), (s.t.x1, s.d.x1), (s.t.x2, s.d.x2), (s.t.x3, s.d.x3), (s.t.x4, s.d.x4), (s.t.x5, s.d.x5),
    (s.t.x6, s.d.x6), (s.t.x7, s.d.x7), (s.t.x8, s.d.x8)] v j

/-! ## The invariant -/

/-- The index past every entry. -/
def bigw : BitVec 32 := 1073741824#32

/-- A set of nine positions that holds exactly the entries at least `θ`. -/
structure NineAbove (X : ℕ → EReal) (T : Finset ℕ) (θ : EReal) : Prop where
  lt : ∀ i ∈ T, i < 5456
  card : T.card = 9
  iff : ∀ i < 5456, (i ∈ T ↔ θ ≤ X i)
  pos : (0 : EReal) ≤ θ

/-- Position `i`'s entry. -/
def entry (X : ℕ → EReal) (i : ℕ) : Slot := (X i, BitVec.ofNat 32 i)

theorem ofNat_inj {i j : ℕ} (hi : i < 5456) (hj : j < 5456) (h : BitVec.ofNat 32 i = BitVec.ofNat 32 j) : i = j := by
  have h' := congrArg BitVec.toNat h
  rw [BitVec.toNat_ofNat, BitVec.toNat_ofNat] at h'
  omega

theorem ofNat_ne_big {i : ℕ} (hi : i < 5456) : BitVec.ofNat 32 i ≠ bigw := by
  intro h
  have h' := congrArg BitVec.toNat h
  rw [BitVec.toNat_ofNat] at h'
  have e : bigw.toNat = 1073741824 := rfl
  omega

/-- Lane `l` after `k` chunks: its entries are the row's (or the starting ones), each at most once, and those of `T` that came are all there. -/
structure Inv (X : ℕ → EReal) (T : Finset ℕ) (k l : ℕ) (L : List Slot) : Prop where
  real : ∀ p ∈ L, p = (-1, bigw) ∨ ∃ i, i < 16 * k ∧ i % 16 = l ∧ p = entry X i
  once : L.Pairwise fun p q => p.2 = q.2 → p.2 = bigw
  all : ∀ i ∈ T, i < 16 * k → i % 16 = l → entry X i ∈ L
  len : L.length = 9

theorem neg_one_lt {θ : EReal} (h : (0 : EReal) ≤ θ) : (-1 : EReal) < θ := by
  refine lt_of_lt_of_le ?_ h
  have : ((-1 : ℝ) : EReal) < ((0 : ℝ) : EReal) := EReal.coe_lt_coe_iff.mpr (by norm_num)
  simpa using this

theorem Inv.start (X : ℕ → EReal) (T : Finset ℕ) (l : ℕ) : Inv X T 0 l (List.replicate 9 (-1, bigw)) where
  real p hp := Or.inl (List.eq_of_mem_replicate hp)
  once := List.pairwise_replicate.mpr (Or.inr fun _ => rfl)
  all i _ hi := absurd hi (by omega)
  len := List.length_replicate

/-- One chunk keeps the invariant: were an entry of `T` left over, ten different entries would be at least the bound. -/
theorem Inv.step {X : ℕ → EReal} {T : Finset ℕ} {θ : EReal} (hT : NineAbove X T θ) {k l : ℕ} (hk : k < 341) (hl : l < 16) {L : List Slot}
    (h : Inv X T k l L) : Inv X T (k + 1) l (ins L (entry X (16 * k + l))).1 := by
  have hperm := ins_perm L (entry X (16 * k + l))
  have hle := ins_le L (entry X (16 * k + l))
  have hlen := ins_length L (entry X (16 * k + l))
  revert hperm hle hlen
  generalize (ins L (entry X (16 * k + l))).1 = N
  generalize (ins L (entry X (16 * k + l))).2 = z
  intro hperm hle hlen
  have hreal : ∀ p ∈ N ++ [z], p = (-1, bigw) ∨ ∃ i, i < 16 * (k + 1) ∧ i % 16 = l ∧ p = entry X i := by
    intro p hp
    rcases List.mem_cons.mp (hperm.mem_iff.mp hp) with rfl | hp
    · exact Or.inr ⟨16 * k + l, by omega, by omega, rfl⟩
    · rcases h.real p hp with e | ⟨i, hi, hi', e⟩
      · exact Or.inl e
      · exact Or.inr ⟨i, by omega, hi', e⟩
  have honce : (N ++ [z]).Pairwise fun p q => p.2 = q.2 → p.2 = bigw := by
    refine (hperm.pairwise_iff (fun {p q} hpq e => e.symm ▸ hpq e.symm)).mpr (List.pairwise_cons.mpr ⟨fun p hp e => ?_, h.once⟩)
    rcases h.real p hp with e' | ⟨i, hi, -, e'⟩
    · rw [e, e']
    · have := ofNat_inj (i := 16 * k + l) (j := i) (by omega) (by omega) (by rw [e'] at e; exact e)
      omega
  refine ⟨fun p hp => hreal p (List.mem_append_left _ hp), (List.pairwise_append.mp honce).1, fun i hi hik hil => ?_, hlen.trans h.len⟩
  have hm : entry X i ∈ N ++ [z] := by
    refine hperm.mem_iff.mpr ?_
    by_cases e : i = 16 * k + l
    · rw [e]; exact List.mem_cons_self
    · exact List.mem_cons_of_mem _ (h.all i hi (by omega) hil)
  rcases List.mem_append.mp hm with hm | hm
  · exact hm
  · exfalso
    have ez : entry X i = z := List.mem_singleton.mp hm
    have hz : θ ≤ z.1 := by rw [← ez]; exact (hT.iff i (hT.lt i hi)).mp hi
    have hin : ∀ p ∈ N ++ [z], ∃ i ∈ T, p = entry X i := by
      intro p hp
      have hge : θ ≤ p.1 := by
        rcases List.mem_append.mp hp with hp | hp
        · exact hz.trans (hle p hp)
        · rw [List.mem_singleton.mp hp]; exact hz
      rcases hreal p hp with e | ⟨j, hj, -, e⟩
      · rw [e] at hge
        exact absurd (neg_one_lt hT.pos) (not_lt.mpr hge)
      · refine ⟨j, (hT.iff j (by omega)).mpr ?_, e⟩
        rw [e] at hge; exact hge
    have hnd : ((N ++ [z]).map fun p => p.2.toNat).Nodup := by
      refine List.pairwise_map.mpr (honce.imp_of_mem fun {p q} hp hq hpq e => ?_)
      obtain ⟨j, hj, ej⟩ := hin p hp
      have := hpq (BitVec.eq_of_toNat_eq e)
      rw [ej] at this
      exact ofNat_ne_big (hT.lt j hj) this
    have hsub : ((N ++ [z]).map fun p => p.2.toNat).toFinset ⊆ T := by
      intro a ha
      obtain ⟨p, hp, rfl⟩ := List.mem_map.mp (List.mem_toFinset.mp ha)
      obtain ⟨j, hj, ej⟩ := hin p hp
      rw [ej]
      show (BitVec.ofNat 32 j).toNat ∈ T
      have := hT.lt j hj
      rw [BitVec.toNat_ofNat, Nat.mod_eq_of_lt (by omega)]; exact hj
    have hc := Finset.card_le_card hsub
    rw [List.toFinset_card_of_nodup hnd, List.length_map, List.length_append, hlen, h.len, hT.card] at hc
    exact absurd hc (by simp)

/-- Entry `n` of a row. -/
def at' (x : S5456.Idx → EReal) (n : ℕ) : EReal := x fun a => ⟨n % S5456.size a, Nat.mod_lt _ (by match a with | 0 => decide)⟩

theorem chunkIdx_apply (k : ℕ) (hk : k < 341) (l : Fin 16) : chunkIdx ids k (ix l) = BitVec.ofNat 32 (16 * k + l.val) := by
  apply BitVec.eq_of_toNat_eq
  have hl := l.isLt
  show (BitVec.ofNat 32 l.val + (0#32 + BitVec.ofNat 32 k * 1#32) * 16#32).toNat = _
  simp only [BitVec.toNat_add, BitVec.toNat_mul, BitVec.toNat_ofNat]
  omega

theorem lit_minusOne : (Ideal.ofBits .f32 0xBF800000#32 : EReal) = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The entries of lane `l` after `k` chunks. -/
theorem keptAfter_inv (x : S5456.Idx → EReal) {T : Finset ℕ} {θ : EReal} (hT : NineAbove (at' x) T θ) (l : Fin 16) :
    ∀ k ≤ 341, Inv (at' x) T k l.val (slots (keptAfter (F := Ideal) ids x k) l)
  | 0, _ => by
    have e : slots (keptAfter (F := Ideal) ids x 0) l = List.replicate 9 (-1, bigw) := by
      rw [← lit_minusOne]; rfl
    rw [e]; exact Inv.start _ _ _
  | k + 1, hk => by
    have ih := keptAfter_inv x hT l k (by omega)
    have e : slots (keptAfter (F := Ideal) ids x (k + 1)) l = (ins (slots (keptAfter ids x k) l) (entry (at' x) (16 * k + l.val))).1 := by
      show slots (insert _ _ _) l = _
      rw [slots_insert, chunkIdx_apply k (by omega) l]
      congr 2
      refine congrArg (fun v : EReal => (v, BitVec.ofNat 32 (16 * k + l.val))) ?_
      show x _ = x _
      congr 1
      funext a
      refine Fin.ext ?_
      show (k * 16 + l.val) % _ = (16 * k + l.val) % _
      rw [Nat.mul_comm]
    rw [e]
    exact ih.step hT (by omega) l.isLt

end Cert.Proof.Insertion

end
-- ==== Proof.Extraction.lean ====
/-
  The nine extraction rounds: over entries that hold all nine positions of a set of entries at least some bound, the
  rounds find exactly the set.
-/
module

public import proofs.«01_k».proof.Proof.Insertion

@[expose] public section

noncomputable section

namespace Cert.Proof.Extraction

open Idealize.ShloMosaic Idealize.SL.Sem
open Cert.KernelIdeal Cert.KernelIdeal.Gen Cert.Proof.Rounds Cert.Proof.Row Cert.Proof.Lanes Cert.Proof.Insertion

/-- A taken mark, a value and an index. -/
abbrev Ent : Type := BitVec 32 × EReal × BitVec 32

/-- The nine of vectors, as a list. -/
def vecs (k : Nine L16) (t : Nine (V16 Ideal)) (d : Nine L16) : List (L16 × V16 Ideal × L16) :=
  [(k.x0, t.x0, d.x0), (k.x1, t.x1, d.x1), (k.x2, t.x2, d.x2), (k.x3, t.x3, d.x3), (k.x4, t.x4, d.x4), (k.x5, t.x5, d.x5),
    (k.x6, t.x6, d.x6), (k.x7, t.x7, d.x7), (k.x8, t.x8, d.x8)]

/-- What a triple of vectors holds in lane `l`. -/
def lane (l : Fin 16) (p : L16 × V16 Ideal × L16) : Ent := (p.1 (ix l), p.2.1 (ix l), p.2.2 (ix l))

/-- The nine entries of lane `l`. -/
def ents (k : Nine L16) (t : Nine (V16 Ideal)) (d : Nine L16) (l : Fin 16) : List Ent := (vecs k t d).map (lane l)

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

theorem cmpi_eq_ofBool (x y : BitVec 32) : IntOp.cmpi .eq x y = BitVec.ofBool (decide (x = y)) := by
  show BitVec.ofBool (x == y) = _
  rw [Bool.beq_eq_decide_eq]

theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp only [hp, hq, decide_true, decide_false, and_true, and_false, if_true, if_false] <;> rfl

theorem lit_minusTwo : (Ideal.ofBits .f32 0xC0000000#32 : EReal) = -2 := by
  rw [show (-2 : EReal) = ((-(2 : ℝ) : ℝ) : EReal) by rw [EReal.coe_neg]; rfl]
  simp [Ideal.ofBits, Ideal.ieee, -EReal.coe_mul, -EReal.coe_neg]; norm_num

theorem mx_apply (m : V16 Ideal) (k : L16) (t : V16 Ideal) (x : S16.Idx) :
    mx m k t x = max (m x : EReal) (if k x = 0#32 then t x else -2) := by
  show max (m x : EReal) (Scalar.select (IntOp.cmpi .eq (k x) 0#32) (t x) (Ideal.ofBits .f32 0xC0000000#32)) = _
  rw [cmpi_eq_ofBool, select_ofBool, lit_minusTwo]

theorem mn_apply (v : V16 Ideal) (m k : L16) (t : V16 Ideal) (d : L16) (x : S16.Idx) :
    mn v m k t d x = IntOp.minsi (m x) (if k x = 0#32 ∧ (t x : EReal) = v x then d x else bigw) := by
  show IntOp.minsi (m x) (Scalar.select (IntOp.andi (IntOp.cmpi .eq (k x) 0#32) (BitVec.ofBool (decide ((t x : EReal) = v x)))) (d x) bigw) = _
  rw [cmpi_eq_ofBool, select_and]

theorem tk_apply (v : V16 Ideal) (d' k : L16) (t : V16 Ideal) (d : L16) (x : S16.Idx) :
    tk v d' k t d x = if (t x : EReal) = v x ∧ d x = d' x then 1#32 else k x := by
  show Scalar.select (IntOp.andi (BitVec.ofBool (decide ((t x : EReal) = v x))) (IntOp.cmpi .eq (d x) (d' x))) 1#32 (k x) = _
  rw [cmpi_eq_ofBool, select_and]

/-- The best of a list of entries, above a start. -/
theorem best_fold (x : S16.Idx) : ∀ (L : List (L16 × V16 Ideal × L16)) (a : V16 Ideal),
    let b := L.foldl (fun m p => mx m p.1 p.2.1) a
    (a x : EReal) ≤ b x ∧ (∀ p ∈ L, p.1 x = 0#32 → (p.2.1 x : EReal) ≤ b x)
      ∧ ((b x : EReal) = a x ∨ (b x : EReal) = -2 ∨ ∃ p ∈ L, p.1 x = 0#32 ∧ (p.2.1 x : EReal) = b x)
  | [], a => ⟨le_refl _, fun p hp => absurd hp List.not_mem_nil, Or.inl rfl⟩
  | q :: L, a => by
    obtain ⟨h1, h2, h3⟩ := best_fold x L (mx a q.1 q.2.1)
    have e := mx_apply a q.1 q.2.1 x
    refine ⟨le_trans ?_ h1, fun p hp hp0 => ?_, ?_⟩
    · rw [e]; exact le_max_left _ _
    · rcases List.mem_cons.mp hp with rfl | hp
      · refine le_trans ?_ h1
        rw [e, if_pos hp0]; exact le_max_right _ _
      · exact h2 p hp hp0
    · rcases h3 with h3 | h3 | ⟨p, hp, hp0, hpe⟩
      · rw [e] at h3
        rcases max_choice (a x : EReal) (if q.1 x = 0#32 then q.2.1 x else -2) with hm | hm
        · exact Or.inl (h3.trans hm)
        · by_cases hq : q.1 x = 0#32
          · rw [if_pos hq] at hm h3
            exact Or.inr (Or.inr ⟨q, List.mem_cons_self, hq, (h3.trans hm).symm⟩)
          · rw [if_neg hq] at hm h3
            exact Or.inr (Or.inl (h3.trans hm))
      · exact Or.inr (Or.inl h3)
      · exact Or.inr (Or.inr ⟨p, List.mem_cons_of_mem _ hp, hp0, hpe⟩)

theorem minsi_spec (a b : BitVec 32) :
    (IntOp.minsi a b).toInt ≤ a.toInt ∧ (IntOp.minsi a b).toInt ≤ b.toInt ∧ (IntOp.minsi a b = a ∨ IntOp.minsi a b = b) := by
  unfold IntOp.minsi
  by_cases h : a.slt b = true
  · rw [if_pos h]
    have h' := BitVec.slt_iff_toInt_lt.mp h
    exact ⟨le_refl _, le_of_lt h', Or.inl rfl⟩
  · rw [if_neg h]
    have h' : ¬ a.toInt < b.toInt := fun h'' => h (BitVec.slt_iff_toInt_lt.mpr h'')
    exact ⟨not_lt.mp h', le_refl _, Or.inr rfl⟩

/-- The least index of a list of entries holding `v`, below a start. -/
theorem least_fold (v : V16 Ideal) (x : S16.Idx) : ∀ (L : List (L16 × V16 Ideal × L16)) (a : L16),
    let b := L.foldl (fun m p => mn v m p.1 p.2.1 p.2.2) a
    (b x).toInt ≤ (a x).toInt ∧ (∀ p ∈ L, p.1 x = 0#32 → (p.2.1 x : EReal) = v x → (b x).toInt ≤ (p.2.2 x).toInt)
      ∧ (b x = a x ∨ b x = bigw ∨ ∃ p ∈ L, p.1 x = 0#32 ∧ (p.2.1 x : EReal) = v x ∧ p.2.2 x = b x)
  | [], a => ⟨le_refl _, fun p hp => absurd hp List.not_mem_nil, Or.inl rfl⟩
  | q :: L, a => by
    obtain ⟨h1, h2, h3⟩ := least_fold v x L (mn v a q.1 q.2.1 q.2.2)
    have e := mn_apply v a q.1 q.2.1 q.2.2 x
    have s := minsi_spec (a x) (if q.1 x = 0#32 ∧ (q.2.1 x : EReal) = v x then q.2.2 x else bigw)
    rw [← e] at s
    refine ⟨le_trans h1 s.1, fun p hp hp0 hpv => ?_, ?_⟩
    · rcases List.mem_cons.mp hp with rfl | hp
      · refine le_trans h1 ?_
        have := s.2.1
        rw [if_pos ⟨hp0, hpv⟩] at this; exact this
      · exact h2 p hp hp0 hpv
    · rcases h3 with h3 | h3 | ⟨p, hp, hp0, hpe⟩
      · rcases s.2.2 with hm | hm
        · exact Or.inl (h3.trans hm)
        · by_cases hq : q.1 x = 0#32 ∧ (q.2.1 x : EReal) = v x
          · rw [if_pos hq] at hm
            exact Or.inr (Or.inr ⟨q, List.mem_cons_self, hq.1, hq.2, (h3.trans hm).symm⟩)
          · rw [if_neg hq] at hm
            exact Or.inr (Or.inl (h3.trans hm))
      · exact Or.inr (Or.inl h3)
      · exact Or.inr (Or.inr ⟨p, List.mem_cons_of_mem _ hp, hp0, hpe⟩)

variable (k : Nine L16) (t : Nine (V16 Ideal)) (d : Nine L16)

theorem mem_ents {l : Fin 16} {e : Ent} (h : e ∈ ents k t d l) : ∃ p ∈ vecs k t d, lane l p = e := List.mem_map.mp h

/-- `best` is one value in every lane, at least every entry not taken, and one of them unless none exceeds −2. -/
theorem best_spec : ∃ m : EReal, (∀ l, (best ids t k (ix l) : EReal) = m)
    ∧ (∀ l, ∀ e ∈ ents k t d l, e.1 = 0#32 → e.2.1 ≤ m) ∧ (m = -2 ∨ ∃ l, ∃ e ∈ ents k t d l, e.1 = 0#32 ∧ e.2.1 = m) := by
  let b : V16 Ideal := (vecs k t d).foldl (fun m p => mx m p.1 p.2.1) minusTwo
  have hb : best ids t k = laneMax ids b := rfl
  have hf := fun l : Fin 16 => best_fold (ix l) (vecs k t d) minusTwo
  have hall : ∀ l l', (laneMax ids b (ix l) : EReal) = laneMax ids b (ix l') := fun l l' => by
    obtain ⟨h1, a1, e1⟩ := laneMax_spec b l
    obtain ⟨h2, a2, e2⟩ := laneMax_spec b l'
    exact le_antisymm (by rw [e1]; exact h2 a1) (by rw [e2]; exact h1 a2)
  obtain ⟨h0, a0, e0⟩ := laneMax_spec b 0
  refine ⟨laneMax ids b (ix 0), fun l => by rw [hb]; exact hall l 0, fun l e he h => ?_, ?_⟩
  · obtain ⟨p, hp, rfl⟩ := mem_ents k t d he
    exact le_trans ((hf l).2.1 p hp h) (h0 l)
  · rw [e0]
    rcases (hf a0).2.2 with h | h | ⟨p, hp, hp0, hpe⟩
    · left; refine h.trans ?_
      exact lit_minusTwo
    · exact Or.inl h
    · exact Or.inr ⟨a0, lane a0 p, List.mem_map_of_mem hp, hp0, hpe⟩

/-- `bestIdx` is one index in every lane, at most the index of every entry not taken with the value `m`, and one of them
    unless there is none. -/
theorem bestIdx_spec (v : V16 Ideal) (m : EReal) (hv : ∀ l, (v (ix l) : EReal) = m) : ∃ c : BitVec 32, (∀ l, bestIdx ids t d k v (ix l) = c)
    ∧ (∀ l, ∀ e ∈ ents k t d l, e.1 = 0#32 → e.2.1 = m → c.toInt ≤ e.2.2.toInt)
    ∧ (c = bigw ∨ ∃ l, ∃ e ∈ ents k t d l, e.1 = 0#32 ∧ e.2.1 = m ∧ e.2.2 = c) := by
  let b : L16 := (vecs k t d).foldl (fun m p => mn v m p.1 p.2.1 p.2.2) big
  have hb : bestIdx ids t d k v = laneMin ids b := rfl
  have hf := fun l : Fin 16 => least_fold v (ix l) (vecs k t d) big
  have hall : ∀ l l', laneMin ids b (ix l) = laneMin ids b (ix l') := fun l l' => by
    obtain ⟨h1, a1, e1⟩ := laneMin_spec b l
    obtain ⟨h2, a2, e2⟩ := laneMin_spec b l'
    exact BitVec.eq_of_toInt_eq (le_antisymm (by rw [e2]; exact h1 a2) (by rw [e1]; exact h2 a1))
  obtain ⟨h0, a0, e0⟩ := laneMin_spec b 0
  refine ⟨laneMin ids b (ix 0), fun l => by rw [hb]; exact hall l 0, fun l e he h hm => ?_, ?_⟩
  · obtain ⟨p, hp, rfl⟩ := mem_ents k t d he
    exact le_trans (h0 l) ((hf l).2.1 p hp h (hm.trans (hv l).symm))
  · rw [e0]
    rcases (hf a0).2.2 with h | h | ⟨p, hp, hp0, hpm, hpe⟩
    · exact Or.inl h
    · exact Or.inl h
    · exact Or.inr ⟨a0, lane a0 p, List.mem_map_of_mem hp, hp0, hpm.trans (hv a0), hpe⟩

/-- Taking marks exactly the entries with the round's value and index. -/
theorem ents_takeAll (v : V16 Ideal) (j : L16) (m : EReal) (c : BitVec 32) (l : Fin 16) (hv : (v (ix l) : EReal) = m) (hj : j (ix l) = c) :
    ents (takeAll t d k v j) t d l = (ents k t d l).map fun e => (if e.2.1 = m ∧ e.2.2 = c then 1#32 else e.1, e.2) := by
  have h : ∀ (k' : L16) (t' : V16 Ideal) (d' : L16), lane l (tk v j k' t' d', t', d')
      = (fun e : Ent => (if e.2.1 = m ∧ e.2.2 = c then 1#32 else e.1, e.2)) (lane l (k', t', d')) := fun k' t' d' => by
    show (tk v j k' t' d' (ix l), _) = _
    rw [tk_apply, hv, hj]
    rfl
  unfold ents vecs takeAll
  simp only [List.map_cons, List.map_nil, h]

/-! ## The rounds -/

/-- The entries are the row's, or the starting ones, and hold all of `T`. -/
structure Holds (X : ℕ → EReal) (T : Finset ℕ) : Prop where
  real : ∀ k l, ∀ e ∈ ents k t d l, e.2 = (-1, bigw) ∨ ∃ i, i < 5456 ∧ e.2 = entry X i
  all : ∀ k, ∀ i ∈ T, ∃ l, ∃ e ∈ ents k t d l, e.2 = entry X i

/-- After `r` rounds: a set of `r` positions of `T` is found, is what is taken, and is what the first `r` lanes hold. -/
def After (T : Finset ℕ) (r : ℕ) (s : St) : Prop := ∃ D : Finset ℕ, D ⊆ T ∧ D.card = r
  ∧ (∀ l, ∀ e ∈ ents s.k t d l, (e.1 ≠ 0#32 ↔ ∃ i ∈ D, e.2.2 = BitVec.ofNat 32 i))
  ∧ ∀ i, i ∈ D ↔ i < 5456 ∧ ∃ j : Fin 16, j.val < r ∧ s.pay (ix j) = BitVec.ofNat 32 i

theorem After.start (T : Finset ℕ) : After t d T 0 start := by
  refine ⟨∅, Finset.empty_subset _, rfl, fun l e he => ⟨fun h => ?_, fun ⟨i, hi, _⟩ => absurd hi (Finset.notMem_empty i)⟩,
    fun i => ⟨fun h => absurd h (Finset.notMem_empty i), fun ⟨_, j, hj, _⟩ => absurd hj (Nat.not_lt_zero _)⟩⟩
  exfalso
  apply h
  obtain ⟨p, hp, rfl⟩ := mem_ents _ t d he
  simp only [vecs, Rounds.start, List.mem_cons, List.not_mem_nil, or_false] at hp
  rcases hp with rfl | rfl | rfl | rfl | rfl | rfl | rfl | rfl | rfl <;> rfl

theorem neg_two_lt {θ : EReal} (h : (0 : EReal) ≤ θ) : (-2 : EReal) < θ := by
  refine lt_of_lt_of_le ?_ h
  rw [show (-2 : EReal) = ((-(2 : ℝ) : ℝ) : EReal) by rw [EReal.coe_neg]; rfl]
  exact EReal.coe_lt_coe_iff.mpr (by norm_num)

theorem After.step {X : ℕ → EReal} {T : Finset ℕ} {θ : EReal} (hT : NineAbove X T θ) (hh : Holds t d X T) {r : ℕ} (hr : r < 9) {s : St}
    (h : After t d T r s) : After t d T (r + 1) (round ids t d (BitVec.ofNat 32 r) s) := by
  obtain ⟨D, hDT, hDr, hDk, hDp⟩ := h
  obtain ⟨m, hm1, hm2, hm3⟩ := best_spec s.k t d
  obtain ⟨c, hc1, hc2, hc3⟩ := bestIdx_spec s.k t d (best ids t s.k) m hm1
  -- an entry not taken whose value is at least the bound is a position of `T` not yet found
  have hfree : ∀ l, ∀ e ∈ ents s.k t d l, e.1 = 0#32 → θ ≤ e.2.1 → ∃ i ∈ T, i ∉ D ∧ e.2 = entry X i := by
    intro l e he h0 hge
    rcases hh.real s.k l e he with e' | ⟨i, hi, e'⟩
    · rw [e'] at hge
      exact absurd (neg_one_lt hT.pos) (not_lt.mpr hge)
    · refine ⟨i, (hT.iff i hi).mpr (by rw [e'] at hge; exact hge), fun hD => ?_, e'⟩
      exact (hDk l e he).mpr ⟨i, hD, by rw [e']; rfl⟩ h0
  -- some position is left, so the best value is at least the bound
  obtain ⟨i₀, hi₀T, hi₀D⟩ : ∃ i ∈ T, i ∉ D := by
    by_contra hne
    have : T ⊆ D := fun i hi => by
      by_contra hD; exact hne ⟨i, hi, hD⟩
    have := Finset.card_le_card this
    rw [hT.card, hDr] at this; omega
  obtain ⟨l₀, e₀, he₀, hv₀⟩ := hh.all s.k i₀ hi₀T
  have hmge : θ ≤ m := by
    refine le_trans ?_ (hm2 l₀ e₀ he₀ ?_)
    · rw [hv₀]; exact (hT.iff i₀ (hT.lt i₀ hi₀T)).mp hi₀T
    · by_contra hne
      obtain ⟨i, hi, hii⟩ := (hDk l₀ e₀ he₀).mp hne
      rw [hv₀] at hii
      have := ofNat_inj (hT.lt i₀ hi₀T) (hT.lt i (hDT hi)) hii
      exact hi₀D (this ▸ hi)
  -- so it is attained, and so is the least index
  have hatt : ∃ l, ∃ e ∈ ents s.k t d l, e.1 = 0#32 ∧ e.2.1 = m := by
    rcases hm3 with hm | hm
    · exact absurd (neg_two_lt hT.pos) (not_lt.mpr (hm ▸ hmge))
    · exact hm
  obtain ⟨l₁, e₁, he₁, h10, h1m⟩ := hatt
  have hcatt : ∃ l, ∃ e ∈ ents s.k t d l, e.1 = 0#32 ∧ e.2.1 = m ∧ e.2.2 = c := by
    rcases hc3 with hc | hc
    · exfalso
      obtain ⟨i, hi, -, hie⟩ := hfree l₁ e₁ he₁ h10 (h1m ▸ hmge)
      have := hc2 l₁ e₁ he₁ h10 h1m
      have hlt := hT.lt i hi
      rw [hc, hie] at this
      have e1 : bigw.toInt = 1073741824 := rfl
      have e2 : (entry X i).2.toInt = (i : ℤ) := by
        show (BitVec.ofNat 32 i).toInt = _
        rw [BitVec.toInt_eq_toNat_of_lt (by rw [BitVec.toNat_ofNat]; omega), BitVec.toNat_ofNat, Nat.mod_eq_of_lt (by omega)]
      rw [e1, e2] at this
      omega
    · exact hc
  obtain ⟨l₂, e₂, he₂, h20, h2m, h2c⟩ := hcatt
  obtain ⟨i, hiT, hiD, hie⟩ := hfree l₂ e₂ he₂ h20 (h2m ▸ hmge)
  have hci : c = BitVec.ofNat 32 i := by rw [← h2c, hie]; rfl
  have hXi : X i = m := by rw [← h2m, hie]; rfl
  have hilt := hT.lt i hiT
  refine ⟨insert i D, Finset.insert_subset hiT hDT, by rw [Finset.card_insert_of_notMem hiD, hDr], ?_, ?_⟩
  · intro l e he
    have he' : e ∈ (ents s.k t d l).map fun e => (if e.2.1 = m ∧ e.2.2 = c then 1#32 else e.1, e.2) := by
      rw [← ents_takeAll s.k t d (best ids t s.k) (bestIdx ids t d s.k (best ids t s.k)) m c l (hm1 l) (hc1 l)]
      exact he
    obtain ⟨e', hm', rfl⟩ := List.mem_map.mp he'
    dsimp only
    by_cases hit : e'.2.1 = m ∧ e'.2.2 = c
    · rw [if_pos hit]
      exact ⟨fun _ => ⟨i, Finset.mem_insert_self _ _, hit.2.trans hci⟩, fun _ => by decide⟩
    · rw [if_neg hit, hDk l e' hm']
      constructor
      · rintro ⟨j, hj, hje⟩; exact ⟨j, Finset.mem_insert_of_mem hj, hje⟩
      · rintro ⟨j, hj, hje⟩
        rcases Finset.mem_insert.mp hj with rfl | hj
        · exfalso
          apply hit
          refine ⟨?_, hje.trans hci.symm⟩
          rcases hh.real s.k l e' hm' with e'' | ⟨j', hj', e''⟩
          · rw [e''] at hje
            exact absurd hje.symm (ofNat_ne_big hilt)
          · rw [e''] at hje ⊢
            rw [ofNat_inj hj' hilt hje]; exact hXi
        · exact ⟨j, hj, hje⟩
  · have hpay : ∀ j : Fin 16, (round ids t d (BitVec.ofNat 32 r) s).pay (ix j) = if j.val = r then c else s.pay (ix j) := by
      intro j
      show Scalar.select (IntOp.cmpi .eq (BitVec.ofNat 32 j.val) (BitVec.ofNat 32 r)) (bestIdx ids t d s.k (best ids t s.k) (ix j)) (s.pay (ix j)) = _
      rw [cmpi_eq_ofBool, select_ofBool, hc1]
      have hj := j.isLt
      by_cases e : j.val = r
      · rw [if_pos e, if_pos (by rw [e])]
      · rw [if_neg e, if_neg (fun h => e (ofNat_inj (by omega) (by omega) h))]
    intro a
    rw [Finset.mem_insert, hDp a]
    constructor
    · rintro (rfl | ⟨ha, j, hj, hje⟩)
      · exact ⟨hilt, ⟨r, by omega⟩, by show r < r + 1; omega, by rw [hpay, if_pos rfl]; exact hci⟩
      · exact ⟨ha, j, by omega, by rw [hpay, if_neg (by omega)]; exact hje⟩
    · rintro ⟨ha, j, hj, hje⟩
      rw [hpay] at hje
      by_cases e : j.val = r
      · rw [if_pos e, hci] at hje
        exact Or.inl (ofNat_inj hilt ha hje).symm
      · rw [if_neg e] at hje
        exact Or.inr ⟨ha, j, by omega, hje⟩

theorem ents_snd (k : Nine L16) (s : Kept Ideal) (l : Fin 16) : (ents k s.t s.d l).map Prod.snd = slots s l := rfl

/-- What is found for a row, given nine positions holding exactly the entries at least some bound: those nine. -/
theorem found_spec (x : S5456.Idx → EReal) {T : Finset ℕ} {θ : EReal} (hT : NineAbove (at' x) T θ) (i : ℕ) :
    i ∈ T ↔ i < 5456 ∧ ∃ j : Fin 16, j.val < 9 ∧ found (F := Ideal) ids x (ix j) = BitVec.ofNat 32 i := by
  have hinv := fun l => keptAfter_inv x hT l 341 (le_refl _)
  unfold found
  revert hinv
  generalize keptAfter (F := Ideal) ids x 341 = s
  intro hinv
  have hh : Holds s.t s.d (at' x) T := by
    refine ⟨fun k l e he => ?_, fun k i hi => ?_⟩
    · have : e.2 ∈ slots s l := by rw [← ents_snd k s l]; exact List.mem_map_of_mem he
      rcases (hinv l).real _ this with e' | ⟨i, hi, -, e'⟩
      · exact Or.inl e'
      · exact Or.inr ⟨i, by omega, e'⟩
    · have hlt := hT.lt i hi
      have := (hinv ⟨i % 16, Nat.mod_lt _ (by decide)⟩).all i hi (by omega) rfl
      rw [← ents_snd k s] at this
      obtain ⟨e, he, hee⟩ := List.mem_map.mp this
      exact ⟨_, e, he, hee⟩
  have h9 : After s.t s.d T 9 (rounds ids s.t s.d) :=
    After.step s.t s.d hT hh (r := 8) (by decide) (After.step s.t s.d hT hh (r := 7) (by decide) (After.step s.t s.d hT hh (r := 6) (by decide)
      (After.step s.t s.d hT hh (r := 5) (by decide) (After.step s.t s.d hT hh (r := 4) (by decide) (After.step s.t s.d hT hh (r := 3) (by decide)
        (After.step s.t s.d hT hh (r := 2) (by decide) (After.step s.t s.d hT hh (r := 1) (by decide) (After.step s.t s.d hT hh (r := 0) (by decide)
          (After.start s.t s.d T)))))))))
  obtain ⟨D, hDT, hD9, -, hDp⟩ := h9
  have e : D = T := Finset.eq_of_subset_of_card_le hDT (by rw [hD9, hT.card])
  rw [← e]
  exact hDp i

end Cert.Proof.Extraction

end
-- ==== Proof.RefTable.lean ====
/-
  The reference's table of scores: at every point and box it is the one formula of `table`.
-/
module

public import proofs.«01_k».proof.Proof.Level
public import proofs.«01_k».proof.Proof.Gen.ReferenceIdeal.Run
public import Idealize.ShloMosaic.Lib.Routing.Ops
public import Idealize.ShloMosaic.Lib.StableHlo.Predicate

@[expose] public section

noncomputable section

namespace Cert.Proof.RefTable

open Idealize.ShloMosaic Idealize.ShloMosaic.ValueIdx Cert.Proof.Score Cert.Proof.Level
open Cert.ReferenceIdeal Cert.ReferenceIdeal.Gen

/-- The middle of a box along a coordinate. -/
def mid (box : FVec Ideal S200x4 .f32) (g : Fin 200) (a : Fin 2) : EReal :=
  (box (ix2 g ⟨a.val, by omega⟩) + box (ix2 g ⟨a.val + 2, by omega⟩)) * half

/-- The class of a box. -/
def cls (lab : IVec S200 32) (g : Fin 200) : Fin 80 := ⟨(lab (ix1 g)).toNat % 80, Nat.mod_lt _ (by decide)⟩

/-- The score of point `i` for box `g`, from the arguments. -/
def table (p0 : FVec Ideal S4096x2 .f32) (p1 : FVec Ideal S1024x2 .f32) (p2 : FVec Ideal S256x2 .f32) (p3 : FVec Ideal S64x2 .f32)
    (p4 : FVec Ideal S16x2 .f32) (box : FVec Ideal S200x4 .f32) (mean sig : FVec Ideal S80x2 .f32) (lab : IVec S200 32)
    (i : Fin 5456) (g : Fin 200) : EReal :=
  score (dist (row p0 p1 p2 p3 p4 i 0) (mid box g 0) (rcp i : EReal) (mean (ix2 (cls lab g) 0)))
    (dist (row p0 p1 p2 p3 p4 i 1) (mid box g 1) (rcp i : EReal) (mean (ix2 (cls lab g) 1)))
    (sig (ix2 (cls lab g) 0)) (sig (ix2 (cls lab g) 1))

/-- The middles of the boxes as the reference lays them out. -/
def mids (box : FVec Ideal S200x4 .f32) : FVec Ideal S1x200x2 .f32 :=
  broadcastInDim S1x200x2 ![1, 2] bcast_S200x2_S1x200x2_1_2 (concatenate S200x2 1 [⟨S200x1, (broadcastInDim S200x1 ![0] bcast_S200_S200x1_0 (Host.divf (addf (shapeCast S200 (extractStridedSlice S200x1 ![0, 0] box slices_S200x4_S200x1_0_0) shapeCasts_S200x1_S200) (shapeCast S200 (extractStridedSlice S200x1 ![0, 2] box slices_S200x4_S200x1_0_2) shapeCasts_S200x1_S200)) (broadcastInDim S200 ![] bcast_S_S200 (constant S_ .f32 0x40000000#32))))⟩, ⟨S200x1, (broadcastInDim S200x1 ![0] bcast_S200_S200x1_0 (Host.divf (addf (shapeCast S200 (extractStridedSlice S200x1 ![0, 1] box slices_S200x4_S200x1_0_1) shapeCasts_S200x1_S200) (shapeCast S200 (extractStridedSlice S200x1 ![0, 3] box slices_S200x4_S200x1_0_3) shapeCasts_S200x1_S200)) (broadcastInDim S200 ![] bcast_S_S200 (constant S_ .f32 0x40000000#32))))⟩] concatenates_S200x1_S200x1_S200x2_d1)

/-- The rows of a table of the classes that the labels name. -/
def rows (t : FVec Ideal S80x2 .f32) (lab : IVec S200 32) : FVec Ideal S200x2 .f32 :=
  Host.gather gather_S80x2_S200x1_S200x2_1_0_n_n_0_1_12 t (broadcastInDim S200x1 ![0] bcast_S200_S200x1_0 (select (cmpi .slt lab (broadcastInDim S200 ![] bcast_S_S200 (constantI S_ 32 0#32))) (addi lab (broadcastInDim S200 ![] bcast_S_S200 (constantI S_ 32 80#32))) lab))

/-- The same, laid out as the reference uses them. -/
def spread (x : FVec Ideal S200x2 .f32) : FVec Ideal S1x200x2 .f32 := broadcastInDim S1x200x2 ![1, 2] bcast_S200x2_S1x200x2_1_2 x

theorem spread_apply (x : FVec Ideal S200x2 .f32) (g : Fin 200) (a : Fin 2) : spread x (ix3 0 g a) = x (ix2 g a) := by
  refine congrArg x (funext fun b => ?_)
  match b with
  | ⟨0, _⟩ => rfl
  | ⟨1, _⟩ => rfl

/-- One column of the boxes. -/
theorem column (box : FVec Ideal S200x4 .f32) (k : Fin 4) (h : S200x4.Slices ![0, k.val] S200x1) (g : Fin 200) :
    shapeCast S200 (extractStridedSlice S200x1 ![0, k.val] box h) shapeCasts_S200x1_S200 (ix1 g) = box (ix2 g k) := by
  refine (shapeCast_apply _ shapeCasts_S200x1_S200 (ix1 g) (ix2 g 0) ?_).trans ?_
  · rw [Shape.rowMajor_val_two, Shape.rowMajor_val_one]
    show g.val * 1 + 0 = g.val
    omega
  · refine congrArg box (funext fun b => Fin.ext ?_)
    match b with
    | ⟨0, _⟩ => exact Nat.zero_add _
    | ⟨1, _⟩ => exact Nat.add_zero _

theorem mids_apply (box : FVec Ideal S200x4 .f32) (g : Fin 200) (a : Fin 2) : mids box (ix3 0 g a) = mid box g a := by
  have e := spread_apply
  have half2 : ∀ (k l : Fin 4) (hk hl), Host.divf (addf (shapeCast S200 (extractStridedSlice S200x1 ![0, k.val] box hk) shapeCasts_S200x1_S200) (shapeCast S200 (extractStridedSlice S200x1 ![0, l.val] box hl) shapeCasts_S200x1_S200)) (broadcastInDim S200 ![] bcast_S_S200 (constant S_ .f32 0x40000000#32)) (ix1 g)
      = ((box (ix2 g k) + box (ix2 g l)) * half : EReal) := by
    intro k l hk hl
    have ek := column box k hk g
    have el := column box l hl g
    rw [← halve, ← lit_two, ← ek, ← el]
    rfl
  unfold mids
  refine (spread_apply _ g a).trans ?_
  match a with
  | ⟨0, _⟩ =>
    refine (concatenate_pair_apply_left (t := S200x2) (s₁ := S200x1) (s₂ := S200x1) 1 _ _ _ (ix2 g (0 : Fin 2)) rfl (ix2 g (0 : Fin 1)) (fun b => ?_)).trans ?_
    · match b with
      | ⟨0, _⟩ => rfl
      | ⟨1, _⟩ => rfl
    · exact half2 0 2 slices_S200x4_S200x1_0_0 slices_S200x4_S200x1_0_2
  | ⟨1, _⟩ =>
    refine (concatenate_pair_apply_right (t := S200x2) (s₁ := S200x1) (s₂ := S200x1) 1 _ _ _ (ix2 g (1 : Fin 2)) rfl rfl (ix2 g (0 : Fin 1)) (fun b hb => ?_) rfl).trans ?_
    · match b with
      | ⟨0, _⟩ => rfl
      | ⟨1, _⟩ => exact absurd rfl hb
    · exact half2 1 3 slices_S200x4_S200x1_0_1 slices_S200x4_S200x1_0_3

theorem rows_apply (t : FVec Ideal S80x2 .f32) (lab : IVec S200 32) (g : Fin 200) (a : Fin 2) (h : (lab (ix1 g)).toNat < 80) :
    rows t lab (ix2 g a) = t (ix2 (cls lab g) a) := by
  unfold rows
  refine Routing.gather_row gather_S80x2_S200x1_S200x2_1_0_n_n_0_1_12 rfl rfl rfl rfl rfl t _ g a (cls lab g) ?_ (by decide)
  have e : lab (ix1 g) = BitVec.ofNat 32 (cls lab g).val := by
    refine BitVec.eq_of_toNat_eq ?_
    show _ = (BitVec.ofNat 32 ((lab (ix1 g)).toNat % 80)).toNat
    rw [BitVec.toNat_ofNat, Nat.mod_eq_of_lt h, Nat.mod_eq_of_lt (by omega)]
  have n : IntOp.cmpi .slt (lab (ix1 g)) 0#32 = 0#1 := by
    rcases BitVec.eq_zero_or_eq_one (IntOp.cmpi .slt (lab (ix1 g)) 0#32) with h0 | h0
    · exact h0
    · have := (StableHlo.Predicate.slt_iff_toNat (by omega) (by decide)).1 h0
      simp at this
  have hj : ∀ c : IVec S200 32, (broadcastInDim S200x1 ![0] bcast_S200_S200x1_0 c) (ix2 g 0) = c (ix1 g) := by
    intro c
    refine congrArg c (funext fun b => ?_)
    match b with
    | ⟨0, _⟩ => rfl
  rw [← e, hj]
  show Scalar.select (IntOp.cmpi .slt (lab (ix1 g)) 0#32) _ (lab (ix1 g)) = _
  rw [n]
  rfl

/-- The reference's scores from the arguments. -/
def scores (p0 : FVec Ideal S4096x2 .f32) (p1 : FVec Ideal S1024x2 .f32) (p2 : FVec Ideal S256x2 .f32) (p3 : FVec Ideal S64x2 .f32)
    (p4 : FVec Ideal S16x2 .f32) (box : FVec Ideal S200x4 .f32) (mean sig : FVec Ideal S80x2 .f32) (lab : IVec S200 32) :
    FVec Ideal S5456x200 .f32 :=
  let c := mids box
  let m := spread (rows mean lab)
  let s := spread (rows sig lab)
  concatenate S5456x200 0 [
    ⟨S4096x200, both (bell (away p0 c m 0x41000000#32 bcast_S4096x2_S4096x1x2_0_2 bcast_S4096x1x2_S4096x200x2_0_1_2 bcast_S1x200x2_S4096x200x2_0_1_2 bcast_S_S4096x200x2) s bcast_S1x200x2_S4096x200x2_0_1_2 bcast_S_S1x200x2) slices_S4096x200x2_S4096x200x1_0_0_0 slices_S4096x200x2_S4096x200x1_0_0_1 shapeCasts_S4096x200x1_S4096x200⟩,
    ⟨S1024x200, both (bell (away p1 c m 0x41800000#32 bcast_S1024x2_S1024x1x2_0_2 bcast_S1024x1x2_S1024x200x2_0_1_2 bcast_S1x200x2_S1024x200x2_0_1_2 bcast_S_S1024x200x2) s bcast_S1x200x2_S1024x200x2_0_1_2 bcast_S_S1x200x2) slices_S1024x200x2_S1024x200x1_0_0_0 slices_S1024x200x2_S1024x200x1_0_0_1 shapeCasts_S1024x200x1_S1024x200⟩,
    ⟨S256x200, both (bell (away p2 c m 0x42000000#32 bcast_S256x2_S256x1x2_0_2 bcast_S256x1x2_S256x200x2_0_1_2 bcast_S1x200x2_S256x200x2_0_1_2 bcast_S_S256x200x2) s bcast_S1x200x2_S256x200x2_0_1_2 bcast_S_S1x200x2) slices_S256x200x2_S256x200x1_0_0_0 slices_S256x200x2_S256x200x1_0_0_1 shapeCasts_S256x200x1_S256x200⟩,
    ⟨S64x200, both (bell (away p3 c m 0x42800000#32 bcast_S64x2_S64x1x2_0_2 bcast_S64x1x2_S64x200x2_0_1_2 bcast_S1x200x2_S64x200x2_0_1_2 bcast_S_S64x200x2) s bcast_S1x200x2_S64x200x2_0_1_2 bcast_S_S1x200x2) slices_S64x200x2_S64x200x1_0_0_0 slices_S64x200x2_S64x200x1_0_0_1 shapeCasts_S64x200x1_S64x200⟩,
    ⟨S16x200, both (bell (away p4 c m 0x43000000#32 bcast_S16x2_S16x1x2_0_2 bcast_S16x1x2_S16x200x2_0_1_2 bcast_S1x200x2_S16x200x2_0_1_2 bcast_S_S16x200x2) s bcast_S1x200x2_S16x200x2_0_1_2 bcast_S_S1x200x2) slices_S16x200x2_S16x200x1_0_0_0 slices_S16x200x2_S16x200x1_0_0_1 shapeCasts_S16x200x1_S16x200⟩]
    concatenates_S4096x200_S1024x200_S256x200_S64x200_S16x200_S5456x200_d0

/-- The five strides. -/
theorem strides : (Ideal.ofBits .f32 0x41000000#32 : EReal) = ((8 : ℝ) : EReal) ∧ (Ideal.ofBits .f32 0x41800000#32 : EReal) = ((16 : ℝ) : EReal)
    ∧ (Ideal.ofBits .f32 0x42000000#32 : EReal) = ((32 : ℝ) : EReal) ∧ (Ideal.ofBits .f32 0x42800000#32 : EReal) = ((64 : ℝ) : EReal)
    ∧ (Ideal.ofBits .f32 0x43000000#32 : EReal) = ((128 : ℝ) : EReal) := by
  refine ⟨?_, ?_, ?_, ?_, ?_⟩ <;> · simp [Ideal.ofBits, Ideal.ieee, -EReal.coe_mul, -EReal.coe_neg]; norm_num

set_option maxRecDepth 65536 in
/-- The reference's score of a point for a box, when the box's label is a class and its deviations are not zero. -/
theorem scores_apply (p0 : FVec Ideal S4096x2 .f32) (p1 : FVec Ideal S1024x2 .f32) (p2 : FVec Ideal S256x2 .f32) (p3 : FVec Ideal S64x2 .f32)
    (p4 : FVec Ideal S16x2 .f32) (box : FVec Ideal S200x4 .f32) (mean sig : FVec Ideal S80x2 .f32) (lab : IVec S200 32)
    (i : Fin 5456) (g : Fin 200) (hl : (lab (ix1 g)).toNat < 80) (hs : ∀ a, rows sig lab (ix2 g a) ≠ (0 : EReal)) :
    scores p0 p1 p2 p3 p4 box mean sig lab (ix2 i g) = table p0 p1 p2 p3 p4 box mean sig lab i g := by
  obtain ⟨b0, b1, b2, b3, b4⟩ := strides
  have hs' : ∀ a, spread (rows sig lab) (ix3 0 g a) ≠ (0 : EReal) := fun a => by rw [spread_apply]; exact hs a
  unfold scores
  refine (concatenate_row _ _ _ _ _ concatenates_S4096x200_S1024x200_S256x200_S64x200_S16x200_S5456x200_d0 i g).trans ?_
  unfold table row rcp
  split_ifs with h0 h1 h2 h3
  · rw [level_apply _ _ _ _ _ b0 (by norm_num) _ _ _ _ _ _ _ _ _ _ hs']
    simp only [mids_apply, spread_apply, rows_apply _ _ _ _ hl]
  · rw [level_apply _ _ _ _ _ b1 (by norm_num) _ _ _ _ _ _ _ _ _ _ hs']
    simp only [mids_apply, spread_apply, rows_apply _ _ _ _ hl]
  · rw [level_apply _ _ _ _ _ b2 (by norm_num) _ _ _ _ _ _ _ _ _ _ hs']
    simp only [mids_apply, spread_apply, rows_apply _ _ _ _ hl]
  · rw [level_apply _ _ _ _ _ b3 (by norm_num) _ _ _ _ _ _ _ _ _ _ hs']
    simp only [mids_apply, spread_apply, rows_apply _ _ _ _ hl]
  · rw [level_apply _ _ _ _ _ b4 (by norm_num) _ _ _ _ _ _ _ _ _ _ hs']
    simp only [mids_apply, spread_apply, rows_apply _ _ _ _ hl]

/-- The generated term of the reference's scores is `scores` of the arguments. -/
theorem scores_of_run (V0 : Valuation τ sig (Elt Ideal)) :
    Cert.ReferenceIdeal.Value.res_main_v139 V0
      = scores (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) (V0 (Proc.devRef .tc main_arg7))
          (V0 (Proc.devRef .tc main_arg8)) := rfl

end Cert.Proof.RefTable

end
-- ==== Proof.TopNine.lean ====
/-
  The nine largest of a row as the reference takes them: nine different positions, their values, the ninth the least.
-/
module

public import proofs.«01_k».proof.Proof.Gen.ReferenceIdeal
public import Idealize.ShloMosaic.Lib.SortFacts
public import Idealize.ShloMosaic.Lib.ValueIdx
public import Idealize.ShloMosaic.PureOps.Ideal.Laws

@[expose] public section

noncomputable section

namespace Cert.Proof.TopNine

open Idealize.ShloMosaic Idealize.SL.Sem
open Cert.ReferenceIdeal Cert.ReferenceIdeal.Gen Idealize.ShloMosaic.ValueIdx

/-- The order the sort of row `g` uses. -/
def before (W : S200x5456.Idx → EReal) (g : Fin 200) : Fin 5456 → Fin 5456 → Bool := fun a b => decide (W (ix2 g b) < W (ix2 g a))

/-- The position that comes `r`-th in row `g`. -/
def place (W : S200x5456.Idx → EReal) (g : Fin 200) (r : Fin 9) : Fin 5456 := sortedFrom (before W g) ⟨r.val, by omega⟩

theorem place_injective (W : S200x5456.Idx → EReal) (g : Fin 200) : Function.Injective (place W g) := by
  intro r s h
  have := sortedFrom_injective _ h
  exact Fin.ext (Fin.mk.inj_iff.mp this)

/-- The ninth is at most each of the nine. -/
theorem ninth_le (W : S200x5456.Idx → EReal) (g : Fin 200) (r : Fin 9) : W (ix2 g (place W g 8)) ≤ W (ix2 g (place W g r)) := by
  by_cases h : r = 8
  · rw [h]
  · have hlt : (⟨r.val, by omega⟩ : Fin 5456) < ⟨(8 : Fin 9).val, by decide⟩ := by
      have h8 : (8 : Fin 9).val = 8 := rfl
      have : r.val ≠ 8 := fun e => h (Fin.ext e)
      exact Fin.mk_lt_mk.mpr (by have := r.isLt; omega)
    have := sortedFrom_noInversion (before W g) (before W g)
      (fun a b hab => by
        unfold before at hab ⊢
        exact decide_eq_false (not_lt.mpr (le_of_lt (of_decide_eq_true hab))))
      (fun _ _ h => h)
      (fun a b c hab hbc => by
        unfold before at hab hbc ⊢
        exact decide_eq_false (not_lt.mpr (le_trans (not_lt.mp (of_decide_eq_false hab)) (not_lt.mp (of_decide_eq_false hbc)))))
      _ _ hlt
    exact not_lt.mp (of_decide_eq_false this)

theorem along_eq (g : Fin 200) (n : Fin 5456) (k : Fin 5456) :
    Shape.Idx.along (s := S200x5456) (ix2 g n) 1 k = ix2 g k := by
  unfold Shape.Idx.along
  funext a
  match a with
  | ⟨0, _⟩ => rfl
  | ⟨1, _⟩ => rfl

theorem sliced (g : Fin 200) (r : Fin 9) (h : S200x5456.Slices (fun _ => 0) S200x9) :
    ((fun a => ⟨0 + (ix2 g r (a.cast h.1.symm)).val, Nat.lt_of_lt_of_le (Nat.add_lt_add_left (ix2 g r _).isLt _) (h.2 a)⟩ : S200x5456.Idx))
      = ix2 g ⟨r.val, by omega⟩ := by
  funext a
  match a with
  | ⟨0, _⟩ => exact Fin.ext (Nat.zero_add _)
  | ⟨1, _⟩ => exact Fin.ext (Nat.zero_add _)

/-- The comparator of `top_k`, with positions carried. -/
abbrev above : EReal × BitVec 32 → EReal × BitVec 32 → BitVec 1 := fun l r => FloatOps.cmpfTotal (F := Ideal) (φ := .f32) .gt l.1 r.1

theorem sorted_eq (W : S200x5456.Idx → EReal) (y : IVec S200x5456 32) (g : Fin 200) (n : Fin 5456) :
    sortedFrom (fun k k' : Fin 5456 => above (W (Shape.Idx.along (s := S200x5456) (ix2 g n) 1 k), y (Shape.Idx.along (s := S200x5456) (ix2 g n) 1 k))
        (W (Shape.Idx.along (s := S200x5456) (ix2 g n) 1 k'), y (Shape.Idx.along (s := S200x5456) (ix2 g n) 1 k')) == 1#1)
      = sortedFrom (before W g) := by
  congr 1
  funext k k'
  rw [along_eq, along_eq]
  show (BitVec.ofBool (decide (W (ix2 g k') < W (ix2 g k))) == 1#1) = decide (W (ix2 g k') < W (ix2 g k))
  by_cases h : W (ix2 g k') < W (ix2 g k) <;> simp only [h, decide_true, decide_false] <;> rfl

set_option maxRecDepth 65536 in
/-- A row sorted with a second operand carried. -/
theorem sort2_apply (W : S200x5456.Idx → EReal) (y : IVec S200x5456 32) (g : Fin 200) (n : Fin 5456) :
    (Host.sort2 S200x5456 1 above W y).1 (ix2 g n) = W (ix2 g (sortedFrom (before W g) n))
      ∧ (Host.sort2 S200x5456 1 above W y).2 (ix2 g n) = y (ix2 g (sortedFrom (before W g) n)) := by
  have h1 : (1 : ℕ) < S200x5456.rank := by decide
  unfold Host.sort2
  rw [dif_pos h1]
  have hs := congrFun (sorted_eq W y g n) n
  exact ⟨(congrArg W (along_eq g n _)).trans (congrArg (fun p => W (ix2 g p)) hs), (congrArg y (along_eq g n _)).trans (congrArg (fun p => y (ix2 g p)) hs)⟩

set_option maxRecDepth 65536 in
/-- The values and positions `top_k` gives. -/
theorem topK_apply (W : FVec Ideal S200x5456 .f32) (g : Fin 200) (r : Fin 9) :
    (Host.topK S200x9 1 (FloatOps.cmpfTotal (F := Ideal) (φ := .f32) .gt) W sliceFits_S200x5456_S200x9).1 (ix2 g r) = W (ix2 g (place W g r))
      ∧ (Host.topK S200x9 1 (FloatOps.cmpfTotal (F := Ideal) (φ := .f32) .gt) W sliceFits_S200x5456_S200x9).2 (ix2 g r) = BitVec.ofNat 32 (place W g r).val := by
  unfold Host.topK extractStridedSlice
  dsimp only
  rw [sliced g r sliceFits_S200x5456_S200x9]
  exact sort2_apply W _ g ⟨r.val, by omega⟩

end Cert.Proof.TopNine

end
-- ==== Proof.RefMask.lean ====
/-
  The reference's mask, element by element: the nine top-scoring points of a box that holds no point, the inside-mask
  for every other box.
-/
module

public import proofs.«01_k».proof.Proof.TopNine
public import Idealize.ShloMosaic.Lib.Routing.OpsSet
public import Idealize.ShloMosaic.Lib.Routing.OpsPair
public import Idealize.ShloMosaic.Lib.StableHlo.Predicate
public import Idealize.ShloMosaic.Lib.Pipeline.Value

@[expose] public section

noncomputable section

namespace Cert.Proof.RefMask

open Idealize.ShloMosaic Idealize.ShloMosaic.ValueIdx Cert.ReferenceIdeal Cert.ReferenceIdeal.Gen
open Cert.Proof.TopNine

/-- A word below `2 ^ 31` is not negative. -/
theorem not_neg (n : ℕ) (h : n < 2 ^ 31) : IntOp.cmpi .slt (BitVec.ofNat 32 n) 0#32 = 0#1 := by
  have h1 : (BitVec.ofNat 32 n).toNat = n := by rw [BitVec.toNat_ofNat]; omega
  rcases BitVec.eq_zero_or_eq_one (IntOp.cmpi .slt (BitVec.ofNat 32 n) 0#32) with h0 | h0
  · exact h0
  · have := (StableHlo.Predicate.slt_iff_toNat (by rw [h1]; exact h) (by decide)).1 h0
    simp at this

/-- The words a scatter step is sent to: the box, then the place of its score in that box's row. -/
def words (W : FVec Ideal S200x5456 .f32) : IVec S200x9x2 32 :=
  let rows : IVec S200x1 32 := broadcastInDim S200x1 ![0] bcast_S200_S200x1_0 (iotaInDim S200 32 0)
  let cols : IVec S200x9 32 := (Host.topK S200x9 1 (FloatOps.cmpfTotal .gt) W sliceFits_S200x5456_S200x9).2
  concatenate S200x9x2 2 [⟨S200x9x1, (broadcastInDim S200x9x1 ![0, 1] bcast_S200x9_S200x9x1_0_1 (broadcastInDim S200x9 ![0, 1] bcast_S200x1_S200x9_0_1 (select (cmpi .slt rows (broadcastInDim S200x1 ![] bcast_S_S200x1 (constantI S_ 32 0#32))) (addi rows (broadcastInDim S200x1 ![] bcast_S_S200x1 (constantI S_ 32 200#32))) rows)))⟩, ⟨S200x9x1, (broadcastInDim S200x9x1 ![0, 1] bcast_S200x9_S200x9x1_0_1 (select (cmpi .slt cols (broadcastInDim S200x9 ![] bcast_S_S200x9 (constantI S_ 32 0#32))) (addi cols (broadcastInDim S200x9 ![] bcast_S_S200x9 (constantI S_ 32 5456#32))) cols))⟩] concatenates_S200x9x1_S200x9x1_S200x9x2_d2

/-- The first word of a scatter step is its box. -/
theorem words_row (W : FVec Ideal S200x5456 .f32) (g : Fin 200) (r : Fin 9) :
    words W (ix3 g r 0) = BitVec.ofNat 32 g.val := by
  unfold words
  refine (concatenate_pair_apply_left (t := S200x9x2) (s₁ := S200x9x1) (s₂ := S200x9x1) 2 _ _ _ (ix3 g r (0 : Fin 2)) rfl (ix3 g r (0 : Fin 1)) (fun b => ?_)).trans ?_
  · match b with
    | ⟨0, _⟩ => rfl
    | ⟨1, _⟩ => rfl
    | ⟨2, _⟩ => rfl
  show Scalar.select (IntOp.cmpi .slt (BitVec.ofNat 32 g.val) 0#32) _ (BitVec.ofNat 32 g.val) = _
  rw [not_neg _ (by omega)]
  rfl

/-- The second word of a scatter step is the place of the score. -/
theorem words_col (W : FVec Ideal S200x5456 .f32) (g : Fin 200) (r : Fin 9) :
    words W (ix3 g r 1) = BitVec.ofNat 32 (place W g r).val := by
  unfold words
  refine (concatenate_pair_apply_right (t := S200x9x2) (s₁ := S200x9x1) (s₂ := S200x9x1) 2 _ _ _ (ix3 g r (1 : Fin 2)) rfl rfl (ix3 g r (0 : Fin 1)) ?_ rfl).trans ?_
  · intro b hb
    match b with
    | ⟨0, _⟩ => rfl
    | ⟨1, _⟩ => rfl
    | ⟨2, _⟩ => exact absurd rfl hb
  · generalize hc : (Host.topK S200x9 1 (FloatOps.cmpfTotal .gt) W sliceFits_S200x5456_S200x9).2 = cols
    have h : cols (ix2 g r) = BitVec.ofNat 32 (place W g r).val := by rw [← hc]; exact (topK_apply W g r).2
    have hj : ∀ c : IVec S200x9 32, (broadcastInDim S200x9x1 ![0, 1] bcast_S200x9_S200x9x1_0_1 c) (ix3 g r 0) = c (ix2 g r) := by
      intro c
      refine congrArg c (funext fun a => ?_)
      match a with
      | ⟨0, _⟩ => rfl
      | ⟨1, _⟩ => rfl
    rw [hj]
    show Scalar.select (IntOp.cmpi .slt (cols (ix2 g r)) 0#32) _ (cols (ix2 g r)) = _
    rw [h, not_neg _ (by have := (place W g r).isLt; omega)]
    rfl

/-- The reference's table of ones: one at each of the nine top-scoring points of each box. -/
def top (W : FVec Ideal S200x5456 .f32) : IVec S200x5456 1 :=
  Host.scatter scatter_S200x5456_S200x9x2_S200x9_n_01_01_2 (fun _ b => b) (broadcastInDim S200x5456 ![] bcast_S_S200x5456 (constantI S_ 1 0#1)) (words W) (broadcastInDim S200x9 ![] bcast_S_S200x9 (constantI S_ 1 1#1))

theorem lands (W : FVec Ideal S200x5456 .f32) (a : Fin 200) (r : Fin 9) (g : Fin 200) (i : Fin 5456) :
    scatter_S200x5456_S200x9x2_S200x9_n_01_01_2.resultIdx? (ix2 a r) (words W) = some (ix2 g i) ↔ a = g ∧ place W a r = i := by
  rw [Routing.scatter_lands2 scatter_S200x5456_S200x9x2_S200x9_n_01_01_2 rfl rfl rfl (words W) a r g i, words_row, words_col,
    StableHlo.Predicate.toInt_ofNat_small _ (by omega), StableHlo.Predicate.toInt_ofNat_small _ (by have := (place W a r).isLt; omega),
    Fin.ext_iff, Fin.ext_iff]
  omega

/-- The table holds one exactly at the nine top-scoring points. -/
theorem top_spec (W : FVec Ideal S200x5456 .f32) (g : Fin 200) (i : Fin 5456) [Decidable (∃ r, place W g r = i)] :
    top W (ix2 g i) = if ∃ r, place W g r = i then 1#1 else 0#1 := by
  unfold top
  split_ifs with h
  · obtain ⟨r, hr⟩ := h
    exact Routing.scatter_set_hit _ _ _ _ _ 1#1 (fun _ _ => rfl) (ix2 g r) ((lands W g r g i).2 ⟨rfl, hr⟩)
  · refine (Routing.scatter_set_miss _ _ _ _ _ fun k hk => h ?_).trans rfl
    rw [eq_ix2 k] at hk
    obtain ⟨hg, hp⟩ := (lands W _ _ g i).1 hk
    exact ⟨_, by rw [← hg]; exact hp⟩

/-- How many points a box holds, as the reference counts them. -/
def heldBy (mask : IVec S5456x200 1) : IVec S200 32 :=
  Host.reduce IntOp.addi (extui 32 mask natLt_1_32) (constantI S_ 32 0#32) reducesTo_S5456x200_S200_d0 h_S_

/-- The count is zero exactly when no point lies in the box. -/
theorem heldBy_zero (mask : IVec S5456x200 1) (g : Fin 200) :
    heldBy mask (ix1 g) = 0#32 ↔ ∀ i : Fin 5456, mask (ix2 i g) = 0#1 := by
  have h := StableHlo.Predicate.toNat_reduce_count_rows (n := 5456) (m := 200) (by decide) mask natLt_1_32
    reducesTo_S5456x200_S200_d0 h_S_ (ix1 g)
  have e : ∀ i : Fin 5456, (StableHlo.Predicate.ij i ((ix1 g : S200.Idx) 0) : S5456x200.Idx) = ix2 i g := fun i => by
    funext b
    match b with
    | ⟨0, _⟩ => rfl
    | ⟨1, _⟩ => rfl
  constructor
  · intro h0 i
    have h1 : (heldBy mask (ix1 g)).toNat = 0 := by rw [h0]; rfl
    have h2 := Finset.card_eq_zero.1 (h.symm.trans h1)
    rcases BitVec.eq_zero_or_eq_one (mask (ix2 i g)) with h3 | h3
    · exact h3
    · have : i ∈ (∅ : Finset (Fin 5456)) := by
        rw [← h2]; exact Finset.mem_filter.2 ⟨Finset.mem_univ _, by rw [e]; exact h3⟩
      simp at this
  · intro h0
    refine BitVec.eq_of_toNat_eq (h.trans ?_)
    rw [Finset.card_eq_zero.2]
    · rfl
    · refine Finset.filter_eq_empty_iff.2 fun i _ h3 => ?_
      rw [e, h0] at h3
      exact absurd h3 (by decide)

/-- The reference's mask, from the scores (point by box) and the inside-mask. -/
def chosen (W : FVec Ideal S5456x200 .f32) (mask : IVec S5456x200 1) : IVec S5456x200 1 :=
  select (broadcastInDim S5456x200 ![0, 1] bcast_S1x200_S5456x200_0_1 (broadcastInDim S1x200 ![1] bcast_S200_S1x200_1 (cmpi .eq (heldBy mask) (broadcastInDim S200 ![] bcast_S_S200 (constantI S_ 32 0#32))))) (transpose S5456x200 [1, 0] (top (transpose S200x5456 [1, 0] W transposes_S5456x200_S200x5456_1_0)) transposes_S200x5456_S5456x200_1_0) mask

/-- The scores with boxes as rows. -/
def turned (W : FVec Ideal S5456x200 .f32) : FVec Ideal S200x5456 .f32 :=
  transpose S200x5456 [1, 0] W transposes_S5456x200_S200x5456_1_0

theorem turned_apply (W : FVec Ideal S5456x200 .f32) (g : Fin 200) (i : Fin 5456) : turned W (ix2 g i) = W (ix2 i g) := by
  refine congrArg W (funext fun a => ?_)
  match a with
  | ⟨0, _⟩ => rfl
  | ⟨1, _⟩ => rfl

/-- One element of the choice between the table (turned to point by box) and the inside-mask. -/
theorem pick (p : IVec S200 1) (x : IVec S200x5456 1) (m : IVec S5456x200 1) (i : Fin 5456) (g : Fin 200) :
    select (broadcastInDim S5456x200 ![0, 1] bcast_S1x200_S5456x200_0_1 (broadcastInDim S1x200 ![1] bcast_S200_S1x200_1 p))
        (transpose S5456x200 [1, 0] x transposes_S200x5456_S5456x200_1_0) m (ix2 i g)
      = Scalar.select (p (ix1 g)) (x (ix2 g i)) (m (ix2 i g)) := by
  have h2 : (broadcastInDim S5456x200 ![0, 1] bcast_S1x200_S5456x200_0_1 (broadcastInDim S1x200 ![1] bcast_S200_S1x200_1 p)) (ix2 i g) = p (ix1 g) := by
    refine congrArg p (funext fun a => ?_)
    match a with
    | ⟨0, _⟩ => rfl
  have h3 : (transpose S5456x200 [1, 0] x transposes_S200x5456_S5456x200_1_0) (ix2 i g) = x (ix2 g i) := by
    refine congrArg x (funext fun a => ?_)
    match a with
    | ⟨0, _⟩ => rfl
    | ⟨1, _⟩ => rfl
  rw [← h2, ← h3]
  rfl

/-- For a box that holds a point, the mask is the inside-mask. -/
theorem chosen_held (W : FVec Ideal S5456x200 .f32) (mask : IVec S5456x200 1) (i : Fin 5456) (g : Fin 200)
    (h : ¬ ∀ i : Fin 5456, mask (ix2 i g) = 0#1) : chosen W mask (ix2 i g) = mask (ix2 i g) := by
  have h1 : cmpi .eq (heldBy mask) (broadcastInDim S200 ![] bcast_S_S200 (constantI S_ 32 0#32)) (ix1 g) = 0#1 := by
    rcases BitVec.eq_zero_or_eq_one (cmpi .eq (heldBy mask) (broadcastInDim S200 ![] bcast_S_S200 (constantI S_ 32 0#32)) (ix1 g)) with h0 | h0
    · exact h0
    · exact absurd ((heldBy_zero mask g).1 (StableHlo.Predicate.cmpi_eq_iff.1 h0)) h
  unfold chosen
  rw [pick, h1]
  rfl

/-- For a box that holds no point, the mask marks its nine top-scoring points. -/
theorem chosen_empty (W : FVec Ideal S5456x200 .f32) (mask : IVec S5456x200 1) (i : Fin 5456) (g : Fin 200)
    [Decidable (∃ r, place (turned W) g r = i)]
    (h : ∀ i : Fin 5456, mask (ix2 i g) = 0#1) :
    chosen W mask (ix2 i g) = if ∃ r, place (turned W) g r = i then 1#1 else 0#1 := by
  have h1 : cmpi .eq (heldBy mask) (broadcastInDim S200 ![] bcast_S_S200 (constantI S_ 32 0#32)) (ix1 g) = 1#1 :=
    StableHlo.Predicate.cmpi_eq_iff.2 ((heldBy_zero mask g).2 h)
  unfold chosen
  rw [pick, h1, ← top_spec]
  rfl

end Cert.Proof.RefMask

end
-- ==== Proof.PreRead.lean ====
/-
  What the precondition says of one box: its label is a class, its deviations are not zero, and, when no point lies in
  the box, no more than nine points score as much as its ninth.
-/
module

public import proofs.«01_k».proof.Proof.RefTable
public import proofs.«01_k».proof.Proof.RefMask
public import proofs.«01_k».proof.Proof.Insertion
public import proofs.«01_k».proof.Pre_ninth_is_untied

@[expose] public section

noncomputable section

namespace Cert.Proof.PreRead

open Idealize.ShloMosaic Idealize.ShloMosaic.ValueIdx Cert.Proof.RefTable Cert.Proof.RefMask Cert.Proof.TopNine Cert.Proof.Insertion
open Cert.Pre_ninth_is_untied

variable [hP : Cert.Pre_ninth_is_untied.Facts]

/-- Which points score as much as the ninth of each box. -/
def reaching (W : FVec Ideal S5456x200 .f32) : IVec S200x5456 1 :=
  cmpf .oge (turned W) (broadcastInDim S200x5456 ![0, 1] Facts.bcast_S200x1_S200x5456_0_1 (extractStridedSlice S200x1 ![0, 8] (Host.topK S200x9 1 (FloatOps.cmpfTotal (F := Ideal) (φ := .f32) .gt) (turned W) Facts.sliceFits_S200x5456_S200x9).1 Facts.slices_S200x9_S200x1_0_8))

/-- The precondition, from the scores, the deviations of the boxes' classes, the labels and the inside-mask. -/
def holds (W : FVec Ideal S5456x200 .f32) (s : FVec Ideal S200x2 .f32) (lab : IVec S200 32) (mask : IVec S5456x200 1) : IVec S200 1 :=
  andi (andi (andi (andi (ori (cmpi .sle (Host.reduce IntOp.addi (extui 32 (reaching W) Facts.natLt_1_32) (constantI S_ 32 0#32) Facts.reducesTo_S200x5456_S200_d1 Facts.h_S_) (broadcastInDim S200 ![] Facts.bcast_S_S200 (constantI S_ 32 9#32)))
      (cmpi .ne (heldBy mask) (broadcastInDim S200 ![] Facts.bcast_S_S200 (constantI S_ 32 0#32))))
    (cmpf .une (shapeCast S200 (extractStridedSlice S200x1 ![0, 0] s Facts.slices_S200x2_S200x1_0_0) Facts.shapeCasts_S200x1_S200) (broadcastInDim S200 ![] Facts.bcast_S_S200 (constant S_ .f32 0x00000000#32))))
    (cmpf .une (shapeCast S200 (extractStridedSlice S200x1 ![0, 1] s Facts.slices_S200x2_S200x1_0_1) Facts.shapeCasts_S200x1_S200) (broadcastInDim S200 ![] Facts.bcast_S_S200 (constant S_ .f32 0x00000000#32))))
    (cmpi .sge lab (broadcastInDim S200 ![] Facts.bcast_S_S200 (constantI S_ 32 0#32))))
    (cmpi .slt lab (broadcastInDim S200 ![] Facts.bcast_S_S200 (constantI S_ 32 80#32)))

/-- The printed precondition is `holds` of the reference's scores. -/
theorem fn_eq (p0 : FVec Ideal S4096x2 .f32) (p1 : FVec Ideal S1024x2 .f32) (p2 : FVec Ideal S256x2 .f32) (p3 : FVec Ideal S64x2 .f32)
    (p4 : FVec Ideal S16x2 .f32) (box : FVec Ideal S200x4 .f32) (mean sig : FVec Ideal S80x2 .f32) (lab : IVec S200 32)
    (mask : IVec S5456x200 1) :
    Cert.Pre_ninth_is_untied.fn (F := Ideal) p0 p1 p2 p3 p4 box mean sig lab mask
      = holds (scores p0 p1 p2 p3 p4 box mean sig lab) (rows sig lab) lab mask := rfl

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

/-- One column of a two-column table. -/
theorem column (s : FVec Ideal S200x2 .f32) (k : Fin 2) (h : S200x2.Slices ![0, k.val] S200x1) (h' : S200x1.ShapeCasts S200) (g : Fin 200) :
    shapeCast S200 (extractStridedSlice S200x1 ![0, k.val] s h) h' (ix1 g) = s (ix2 g k) := by
  refine (shapeCast_apply _ h' (ix1 g) (ix2 g 0) ?_).trans ?_
  · rw [Shape.rowMajor_val_two, Shape.rowMajor_val_one]
    show g.val * 1 + 0 = g.val
    omega
  · refine congrArg s (funext fun b => Fin.ext ?_)
    match b with
    | ⟨0, _⟩ => exact Nat.zero_add _
    | ⟨1, _⟩ => exact Nat.add_zero _

theorem label_lt {w : BitVec 32} (h0 : IntOp.cmpi .sge w 0#32 = 1#1) (h1 : IntOp.cmpi .slt w 80#32 = 1#1) : w.toNat < 80 := by
  have a0 : (0#32 : BitVec 32).sle w = true := by
    unfold IntOp.cmpi at h0; exact (StableHlo.Predicate.ofBool_eq_one_iff _).1 h0
  have a1 : w.slt 80#32 = true := by
    unfold IntOp.cmpi at h1; exact (StableHlo.Predicate.ofBool_eq_one_iff _).1 h1
  rw [BitVec.sle_iff_toInt_le] at a0
  rw [BitVec.slt_iff_toInt_lt] at a1
  have e := BitVec.toInt_eq_toNat_cond w
  have z : (0#32 : BitVec 32).toInt = 0 := by decide
  have z' : (80#32 : BitVec 32).toInt = 80 := by decide
  have := w.isLt
  rw [z] at a0; rw [z'] at a1
  split_ifs at e <;> omega

/-- A point reaches when it scores as much as the box's ninth. -/
theorem reaching_apply (W : FVec Ideal S5456x200 .f32) (g : Fin 200) (i : Fin 5456) :
    reaching W (ix2 g i) = BitVec.ofBool (decide ((turned W (ix2 g (place (turned W) g 8)) : EReal) ≤ turned W (ix2 g i))) := by
  unfold reaching
  generalize turned W = V
  generalize ht : (Host.topK S200x9 1 (FloatOps.cmpfTotal (F := Ideal) (φ := .f32) .gt) V Facts.sliceFits_S200x5456_S200x9).1 = t
  have e : t (ix2 g 8) = V (ix2 g (place V g 8)) := by rw [← ht]; exact (topK_apply V g 8).1
  rw [← e]
  have hj : (broadcastInDim S200x5456 ![0, 1] Facts.bcast_S200x1_S200x5456_0_1 (extractStridedSlice S200x1 ![0, 8] t Facts.slices_S200x9_S200x1_0_8)) (ix2 g i) = t (ix2 g 8) := by
    refine congrArg t (funext fun b => Fin.ext ?_)
    match b with
    | ⟨0, _⟩ => exact Nat.zero_add _
    | ⟨1, _⟩ => rfl
  rw [← hj]
  rfl

/-- What the precondition says of one box. -/
theorem holds_spec (W : FVec Ideal S5456x200 .f32) (s : FVec Ideal S200x2 .f32) (lab : IVec S200 32) (mask : IVec S5456x200 1)
    (g : Fin 200) (h : holds W s lab mask (ix1 g) = 1#1) :
    (lab (ix1 g)).toNat < 80 ∧ (∀ a, s (ix2 g a) ≠ (0 : EReal))
      ∧ ((∀ i : Fin 5456, mask (ix2 i g) = 0#1) →
        (Finset.univ.filter fun i : Fin 5456 => (turned W (ix2 g (place (turned W) g 8)) : EReal) ≤ turned W (ix2 g i)).card ≤ 9) := by
  unfold holds at h
  obtain ⟨h, h80⟩ := and_one h
  obtain ⟨h, h00⟩ := and_one h
  obtain ⟨h, hs1⟩ := and_one h
  obtain ⟨hr, hs0⟩ := and_one h
  have une : ∀ (x : EReal), BitVec.ofBool (decide (x ≠ Ideal.ofBits .f32 0x00000000#32)) = 1#1 → x ≠ 0 := by
    intro x hx
    have := of_decide_eq_true ((StableHlo.Predicate.ofBool_eq_one_iff _).1 hx)
    rwa [Ideal.ofBits_zero_f32] at this
  refine ⟨label_lt h00 h80, fun a => ?_, fun hm => ?_⟩
  · match a with
    | ⟨0, _⟩ =>
      have c := column s 0 Facts.slices_S200x2_S200x1_0_0 Facts.shapeCasts_S200x1_S200 g
      exact c ▸ une _ hs0
    | ⟨1, _⟩ =>
      have c := column s 1 Facts.slices_S200x2_S200x1_0_1 Facts.shapeCasts_S200x1_S200 g
      exact c ▸ une _ hs1
  · have hz : heldBy mask (ix1 g) = 0#32 := (heldBy_zero mask g).2 hm
    rcases or_one hr with h9 | hne
    · have hc := StableHlo.Predicate.toNat_reduce_count_cols (n := 200) (m := 5456) (by decide) (reaching W) Facts.natLt_1_32
        Facts.reducesTo_S200x5456_S200_d1 Facts.h_S_ (ix1 g)
      have e : (Finset.univ.filter fun i : Fin 5456 => (turned W (ix2 g (place (turned W) g 8)) : EReal) ≤ turned W (ix2 g i))
          = Finset.univ.filter fun q : Fin 5456 => reaching W (StableHlo.Predicate.ij ((ix1 g : S200.Idx) 0) q) = 1#1 := by
        refine Finset.filter_congr fun i _ => ?_
        have ei : (StableHlo.Predicate.ij ((ix1 g : S200.Idx) 0) i : S200x5456.Idx) = ix2 g i := by
          funext b
          match b with
          | ⟨0, _⟩ => rfl
          | ⟨1, _⟩ => rfl
        rw [ei, reaching_apply, StableHlo.Predicate.ofBool_eq_one_iff, decide_eq_true_eq]
      rw [e, ← hc]
      have hlt : (Host.reduce IntOp.addi (extui 32 (reaching W) Facts.natLt_1_32) (constantI S_ 32 0#32) Facts.reducesTo_S200x5456_S200_d1 Facts.h_S_ (ix1 g)).toNat < 2 ^ 31 := by
        rw [hc]
        refine lt_of_le_of_lt (Finset.card_le_univ _) ?_
        rw [Fintype.card_fin]; decide
      exact (StableHlo.Predicate.sle_iff_toNat hlt (show (9#32 : BitVec 32).toNat < 2 ^ 31 by decide)).1 h9
    · exfalso
      have : IntOp.cmpi .ne (heldBy mask (ix1 g)) 0#32 = 1#1 := hne
      rw [hz] at this
      exact absurd this (by decide)

/-- The nine top-scoring points of a box. -/
def nine (W : FVec Ideal S200x5456 .f32) (g : Fin 200) : Finset ℕ := Finset.univ.image fun r : Fin 9 => (place W g r).val

omit hP in
theorem mem_nine (W : FVec Ideal S200x5456 .f32) (g : Fin 200) (i : Fin 5456) : i.val ∈ nine W g ↔ ∃ r, place W g r = i := by
  unfold nine
  rw [Finset.mem_image]
  constructor
  · rintro ⟨r, _, h⟩; exact ⟨r, Fin.ext h⟩
  · rintro ⟨r, h⟩; exact ⟨r, Finset.mem_univ _, congrArg Fin.val h⟩

omit hP in
/-- When no more than nine points score as much as the ninth, the nine are exactly the points that do. -/
theorem nine_above (W : FVec Ideal S200x5456 .f32) (g : Fin 200) (hpos : ∀ i, (0 : EReal) ≤ W (ix2 g i))
    (hc : (Finset.univ.filter fun i : Fin 5456 => (W (ix2 g (place W g 8)) : EReal) ≤ W (ix2 g i)).card ≤ 9)
    (x : (⟨1, ![5456]⟩ : Shape).Idx → EReal) (hx : ∀ i, x (ix1 i) = W (ix2 g i)) :
    NineAbove (at' x) (nine W g) (W (ix2 g (place W g 8))) := by
  have hat : ∀ i : Fin 5456, at' x i.val = W (ix2 g i) := by
    intro i
    rw [← hx]
    refine congrArg x (funext fun b => Fin.ext ?_)
    match b with
    | ⟨0, _⟩ => exact Nat.mod_eq_of_lt i.isLt
  have hcard : (Finset.univ.image fun r : Fin 9 => place W g r).card = 9 := by
    rw [Finset.card_image_of_injective _ (place_injective W g), Finset.card_univ, Fintype.card_fin]
  have heq : (Finset.univ.image fun r : Fin 9 => place W g r) = Finset.univ.filter fun i : Fin 5456 => (W (ix2 g (place W g 8)) : EReal) ≤ W (ix2 g i) := by
    refine Finset.eq_of_subset_of_card_le (fun i hi => ?_) (by rw [hcard]; exact hc)
    obtain ⟨r, _, rfl⟩ := Finset.mem_image.1 hi
    exact Finset.mem_filter.2 ⟨Finset.mem_univ _, ninth_le W g r⟩
  refine ⟨fun i hi => ?_, ?_, fun i hi => ?_, hpos _⟩
  · obtain ⟨r, _, rfl⟩ := Finset.mem_image.1 hi
    exact (place W g r).isLt
  · unfold nine
    rw [Finset.card_image_of_injective _ (fun a b h => place_injective W g (Fin.ext h)), Finset.card_univ, Fintype.card_fin]
  · rw [hat ⟨i, hi⟩]
    refine (mem_nine W g ⟨i, hi⟩).trans ?_
    constructor
    · rintro ⟨r, hr⟩; rw [← hr]; exact ninth_le W g r
    · intro h
      have : (⟨i, hi⟩ : Fin 5456) ∈ Finset.univ.image fun r : Fin 9 => place W g r := by
        rw [heq]; exact Finset.mem_filter.2 ⟨Finset.mem_univ _, h⟩
      obtain ⟨r, _, hr⟩ := Finset.mem_image.1 this
      exact ⟨r, hr⟩

end Cert.Proof.PreRead

end
-- ==== Proof.Equal.lean ====
/-
  The two results of the kernel against those of the reference, element by element.
-/
module

public import proofs.«01_k».proof.Proof.Operands
public import proofs.«01_k».proof.Proof.Marks
public import proofs.«01_k».proof.Proof.WeightA
public import proofs.«01_k».proof.Proof.WeightC
public import proofs.«01_k».proof.Proof.Extraction
public import proofs.«01_k».proof.Proof.RefTable
public import proofs.«01_k».proof.Proof.PreRead

@[expose] public section

noncomputable section

namespace Cert.Proof.Equal

open Idealize.ShloMosaic hiding ix1 ix2 ix3
open Idealize.ShloMosaic.ValueIdx
open Cert.KernelIdeal Cert.KernelIdeal.Gen Cert.Proof
open Cert.Proof.Score (score half)
open Cert.Proof.Level Cert.Proof.Marks Cert.Proof.Operands Cert.Proof.RefTable Cert.Proof.RefMask Cert.Proof.TopNine
open Cert.Proof.Lanes Cert.Proof.Insertion Cert.Proof.Extraction Cert.Proof.Row

variable (m : (ℓ : Loc nD τ sig) → Buf (Elt Ideal) ℓ) (d : Dev nD)

/-- The reference's scores, from the kernel's arguments. -/
def W : FVec Ideal S5456x200 .f32 :=
  scores (U₀ m d (Proc.devRef .tc main_arg0)) (U₀ m d (Proc.devRef .tc main_arg1)) (U₀ m d (Proc.devRef .tc main_arg2))
    (U₀ m d (Proc.devRef .tc main_arg3)) (U₀ m d (Proc.devRef .tc main_arg4)) (U₀ m d (Proc.devRef .tc main_arg5))
    (U₀ m d (Proc.devRef .tc main_arg6)) (U₀ m d (Proc.devRef .tc main_arg7)) (U₀ m d (Proc.devRef .tc main_arg8))

/-- One score, by the formula. -/
def tab (i : Fin 5456) (g : Fin 200) : EReal :=
  table (U₀ m d (Proc.devRef .tc main_arg0)) (U₀ m d (Proc.devRef .tc main_arg1)) (U₀ m d (Proc.devRef .tc main_arg2))
    (U₀ m d (Proc.devRef .tc main_arg3)) (U₀ m d (Proc.devRef .tc main_arg4)) (U₀ m d (Proc.devRef .tc main_arg5))
    (U₀ m d (Proc.devRef .tc main_arg6)) (U₀ m d (Proc.devRef .tc main_arg7)) (U₀ m d (Proc.devRef .tc main_arg8)) i g

/-- The labels, and the mask of the points inside. -/
def lab : IVec S200 32 := U₀ m d (Proc.devRef .tc main_arg8)
def inside : IVec S5456x200 1 := U₀ m d (Proc.devRef .tc main_arg9)

/-! ## The weights that the two calls compute are the scores -/

theorem weight_first (i : Fin 5456) (g : Fin 200) (hl : (lab m d (ix1 g)).toNat < 80) : (wv m d (ix2 g i) : EReal) = tab m d i g := by
  unfold wv
  rw [U₃_keep m d main_v5_0 (by decide), Arrays.U₂_weights]
  refine (WeightA.wtA_apply _ _ _ _ _ g i (cls (lab m d) g).val (cls (lab m d) g).isLt ?_).trans ?_
  · rw [labels_down]
    exact (Nat.mod_eq_of_lt hl).symm
  · rw [U₁_keep m d main_arg5 (by decide), U₁_keep m d main_arg6 (by decide), U₁_keep m d main_arg7 (by decide), turned_step,
      show U₁ m d (Proc.devRef .tc main_v2) (ix2 (0 : Fin 3) i) = pt m d i 0 from turned_point m d i 0,
      show U₁ m d (Proc.devRef .tc main_v2) (ix2 (1 : Fin 3) i) = pt m d i 1 from turned_point m d i 1]
    rfl

theorem weight_last (t : Fin cfg2.N) (p : Fin 2728) (i : Fin 5456) (g : Fin 200) (h : i.val = 2728 * t.val + p.val)
    (hl : (lab m d (ix1 g)).toNat < 80) :
    (wC (F := Ideal) (blkC (U₅ m d) 0 t) (blkC (U₅ m d) 1 t) (blkC (U₅ m d) 2 t) (blkC (U₅ m d) 3 t) (blkC (U₅ m d) 4 t) (blkC (U₅ m d) 5 t) (ix2 p g) : EReal)
      = tab m d i g := by
  refine (WeightC.wC_apply _ _ _ _ _ _ p g (cls (lab m d) g).val (cls (lab m d) g).isLt ?_).trans ?_
  · rw [Arrays.blkC_5, labels_across]
    exact (Nat.mod_eq_of_lt hl).symm
  · rw [Arrays.blkC_0 _ t p 0 i h, Arrays.blkC_0 _ t p 1 i h, Arrays.blkC_1 _ t p 0 i h, Arrays.blkC_2, Arrays.blkC_3, Arrays.blkC_4,
      given₅ m d main_v0 (by decide), given₅ m d main_cst_0 (by decide), given₅ m d main_arg6 (by decide), given₅ m d main_arg7 (by decide),
      U₁_keep m d main_arg6 (by decide), U₁_keep m d main_arg7 (by decide), points, points, steps,
      boxes_across, boxes_across, boxes_across, boxes_across]
    rfl

/-! ## The places that the SparseCore finds for an empty box -/

/-- No point lies in the box. -/
def Empty (g : Fin 200) : Prop := ∀ i : Fin 5456, inside m d (ix2 i g) = 0#1

theorem count (g : Fin 200) : (k0_pay15 (F := Ideal) (U₁ m d (Proc.devRef .tc main_v3)) (ix2 0 g) : EReal) = 0 ↔ Empty m d g := by
  rw [Inputs.U₁_mask]
  exact count_zero _ natLt_1_8 g

theorem lanes_ids : lanes = ids := by
  funext j
  rw [eq_ix j]
  generalize (⟨(j 0).val, (j 0).isLt⟩ : Fin 16) = l
  revert l
  decide

/-- The places that the SparseCore leaves for an empty box are those found in its row of weights. -/
theorem places (g : Fin 200) (he : Empty m d g) (k : Fin 16) :
    U₅ m d (Proc.devRef .tc main_v9) (ix2 k g) = found (F := Ideal) ids (rowOfW (F := Ideal) (wv m d) g.val) (ix k) := by
  have hm : (200 * k.val + g.val) % 200 = g.val := by omega
  have hd : (200 * k.val + g.val) / 200 = k.val := by omega
  have hf : flagOf (fv m d) g.val = 1#32 := by
    have e : flagOf (fv m d) g.val = fv m d (ix1 (⟨g.val, by omega⟩ : Fin 256)) := by
      unfold flagOf
      refine congrArg (fv m d) (funext fun a => Fin.ext ?_)
      match a with
      | ⟨0, _⟩ => exact Nat.mod_eq_of_lt (show g.val < 256 by omega)
    rw [e, flag_word, Arrays.U₂_words]
    exact (word_apply _ 0 g).trans (if_pos ((count m d g).2 he))
  rw [chosen_place]
  unfold outVal
  show (if flagOf (fv m d) ((200 * k.val + g.val) % 200) ≠ 0#32 then _ else _) = _
  rw [hm, if_pos (by rw [hf]; decide), lanes_ids]
  refine congrArg (found (F := Ideal) ids (rowOfW (F := Ideal) (wv m d) g.val)) (funext fun a => Fin.ext ?_)
  match a with
  | ⟨0, _⟩ => exact (congrArg (· % 16) hd).trans (Nat.mod_eq_of_lt k.isLt)

/-- What the precondition gives for a box. -/
structure Fine (g : Fin 200) : Prop where
  label : (lab m d (ix1 g)).toNat < 80
  sigma : ∀ a, (rows (U₀ m d (Proc.devRef .tc main_arg7)) (lab m d) (ix2 g a) : EReal) ≠ 0
  untied : Empty m d g → (Finset.univ.filter fun i : Fin 5456 => (turned (W m d) (ix2 g (place (turned (W m d)) g 8)) : EReal) ≤ turned (W m d) (ix2 g i)).card ≤ 9

theorem W_apply (i : Fin 5456) (g : Fin 200) (hg : Fine m d g) : (W m d (ix2 i g) : EReal) = tab m d i g :=
  scores_apply _ _ _ _ _ _ _ _ _ i g hg.label hg.sigma

/-- For an empty box, a point is among the nine places exactly when the reference's search picks it. -/
theorem hit (i : Fin 5456) (g : Fin 200) (hg : Fine m d g) (he : Empty m d g) :
    (∃ k : Fin 16, k.val < 9 ∧ U₅ m d (Proc.devRef .tc main_v9) (ix2 k g) = BitVec.ofNat 32 i.val) ↔ ∃ r, place (turned (W m d)) g r = i := by
  have hn := PreRead.nine_above (turned (W m d)) g
    (fun i => by rw [turned_apply, W_apply m d i g hg]; exact Score.score_nonneg _ _ _ _)
    (hg.untied he) (rowOfW (F := Ideal) (wv m d) g.val)
    (fun i => by
      rw [turned_apply, W_apply m d i g hg, ← weight_first m d i g hg.label]
      refine congrArg (wv m d) (funext fun a => Fin.ext ?_)
      match a with
      | ⟨0, _⟩ => exact Nat.mod_eq_of_lt g.isLt
      | ⟨1, _⟩ => rfl)
  rw [← PreRead.mem_nine, found_spec _ hn i.val]
  refine ⟨fun ⟨k, hk, e⟩ => ⟨i.isLt, k, hk, ?_⟩, fun ⟨_, k, hk, e⟩ => ⟨k, hk, ?_⟩⟩
  · rw [← places m d g he k]; exact e
  · rw [places m d g he k]; exact e

/-! ## What is kept -/

/-- The number by which the last call multiplies a weight: one where the reference keeps the point, zero elsewhere. -/
theorem keep_chosen (t : Fin cfg2.N) (p : Fin 2728) (i : Fin 5456) (g : Fin 200) (h : i.val = 2728 * t.val + p.val) (hg : Fine m d g) :
    (keep (BitVec.ofNat 32 t.val) (blkC (U₅ m d) 6 t) (blkC (U₅ m d) 7 t) (blkC (U₅ m d) 8 t) (ix2 p g) : EReal)
      = one (chosen (W m d) (inside m d) (ix2 i g)) := by
  refine (keep_apply t _ _ _ p g).trans ?_
  rw [Arrays.blkC_7 _ t p g i h, Arrays.blkC_6, Arrays.blkC_8, given₅ m d main_v3 (by decide), ← h,
    U₅_keep m d main_v5_2 (by decide), U₄_keep m d main_v5_2 (by decide), U₃_keep m d main_v5_2 (by decide), Arrays.U₂_flags,
    flag_apply, Inputs.U₁_mask, show extui 8 (U₀ m d (Proc.devRef .tc main_arg9)) natLt_1_8 (ix2 i g) = (inside m d (ix2 i g)).setWidth 8 from rfl, byte,
    ← Inputs.U₁_mask]
  by_cases he : Empty m d g
  · rw [if_pos ((count m d g).2 he), he i, one_mul]
    have e := chosen_empty (W m d) (inside m d) i g he
    rw [e, show one 0#1 = 0 from if_neg (by decide), zero_add]
    by_cases hh : ∃ r, place (turned (W m d)) g r = i
    · rw [if_pos hh, if_pos ((hit m d i g hg he).2 hh)]
      exact (if_pos rfl).symm
    · rw [if_neg hh, if_neg fun k => hh ((hit m d i g hg he).1 k)]
      exact (if_neg (by decide)).symm
  · rw [if_neg fun k => he ((count m d g).1 k), zero_mul, add_zero, chosen_held (W m d) (inside m d) i g he]

/-- The block and the row in it of a point. -/
theorem block (i : Fin 5456) : ∃ (t : Fin cfg2.N) (p : Fin 2728), i.val = 2728 * t.val + p.val :=
  ⟨(⟨i.val / 2728, by omega⟩ : Fin 2), ⟨i.val % 2728, by omega⟩, by show i.val = 2728 * (i.val / 2728) + i.val % 2728; omega⟩

/-- The kernel's first result is the score where the reference keeps the point, zero elsewhere. -/
theorem weights_eq (i : Fin 5456) (g : Fin 200) (hg : Fine m d g) :
    (U₇ m d (Proc.devRef .tc main_v12_0) (ix2 i g) : EReal) = if chosen (W m d) (inside m d) (ix2 i g) = 1#1 then W m d (ix2 i g) else 0 := by
  obtain ⟨t, p, h⟩ := block i
  rw [U₇_keep m d main_v12_0 (by decide), Arrays.U₆_out m d t p g i h]
  refine (outC_apply _ _ _ _ _ _ _ _ _ _ _).trans ?_
  rw [weight_last m d t p i g h hg.label, keep_chosen m d t p i g h hg, W_apply m d i g hg]
  unfold one
  split_ifs
  · exact mul_one _
  · exact mul_zero _

theorem half_one (b : BitVec 1) : BitVec.ofBool (decide (half < one b)) = b := by
  have h0 : ¬ half < (0 : EReal) := by
    unfold half
    rw [show (0 : EReal) = ((0 : ℝ) : EReal) from rfl, EReal.coe_lt_coe_iff]
    norm_num
  have h1 : half < (1 : EReal) := by
    unfold half
    rw [show (1 : EReal) = ((1 : ℝ) : EReal) from rfl, EReal.coe_lt_coe_iff]
    norm_num
  unfold one
  rcases BitVec.eq_zero_or_eq_one b with rfl | rfl
  · rw [if_neg (by decide), decide_eq_false h0]; rfl
  · rw [if_pos rfl, decide_eq_true h1]; rfl

theorem word_ne (b : BitVec 1) : IntOp.cmpi .ne (b.setWidth 32) 0#32 = b := by
  rcases BitVec.eq_zero_or_eq_one b with rfl | rfl <;> decide

/-- The kernel's second result is the reference's mask. -/
theorem masks_eq (i : Fin 5456) (g : Fin 200) (hg : Fine m d g) :
    U₇ m d (Proc.devRef .tc main_v15) (ix2 i g) = chosen (W m d) (inside m d) (ix2 i g) := by
  obtain ⟨t, p, h⟩ := block i
  rw [Inputs.U₇_mask]
  show IntOp.cmpi .ne (U₆ m d (Proc.devRef .tc main_v12_1) (ix2 i g)) 0#32 = _
  rw [Arrays.U₆_mask m d t p g i h, maskC_apply, keep_chosen m d t p i g h hg, half_one, word_ne]

end Cert.Proof.Equal

end
-- ==== Proof.Values.lean ====
/-
  The value claim: from equal arguments the kernel and the reference end with equal results.
-/
module

public import proofs.«01_k».proof.Defs
public import proofs.«01_k».proof.Proof.Equal

@[expose] public section

noncomputable section

namespace Cert.Proof.Values

open Idealize.ShloMosaic hiding ix1 ix2 ix3
open Idealize.ShloMosaic.ValueIdx
open Idealize.SL.Sem
open Cert.Proof Cert.Proof.Equal Cert.Proof.RefTable Cert.Proof.RefMask

/-- The reference's scores and inside-mask, from the memory it starts with. -/
def refW (m : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S5456x200 .f32 :=
  scores (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))

def refInside (m : (ℓ : Loc Cert.ReferenceIdeal.nD Cert.ReferenceIdeal.τ Cert.ReferenceIdeal.sig) → Buf (Elt Ideal) ℓ) (c : Dev Cert.ReferenceIdeal.nD) :
    IVec Cert.ReferenceIdeal.S5456x200 1 :=
  m ((c.tc : Thread Cert.ReferenceIdeal.nD Cert.ReferenceIdeal.τ).loc Cert.ReferenceIdeal.main_arg9)

/-- Scores where the mask stands, zero elsewhere. -/
def masked (k : IVec Cert.ReferenceIdeal.S5456x200 1) (w : FVec Ideal Cert.ReferenceIdeal.S5456x200 .f32) : FVec Ideal Cert.ReferenceIdeal.S5456x200 .f32 :=
  select k w (broadcastInDim Cert.ReferenceIdeal.S5456x200 ![] Cert.ReferenceIdeal.Gen.bcast_S_S5456x200 (id (constant Cert.ReferenceIdeal.S_ .f32 0x00000000#32)))

theorem masked_apply (k : IVec Cert.ReferenceIdeal.S5456x200 1) (w : FVec Ideal Cert.ReferenceIdeal.S5456x200 .f32) (i : Fin 5456) (g : Fin 200) :
    (masked k w (ix2 i g) : EReal) = if k (ix2 i g) = 1#1 then w (ix2 i g) else 0 := by
  have z : (Ideal.ofBits .f32 0x00000000#32 : EReal) = 0 := by simp [Ideal.ofBits, Ideal.ieee]
  show Scalar.select (k (ix2 i g)) (w (ix2 i g)) (Ideal.ofBits .f32 0x00000000#32) = _
  rw [z]
  rcases BitVec.eq_zero_or_eq_one (k (ix2 i g)) with h | h
  · rw [h, if_neg (by decide)]; rfl
  · rw [h, if_pos rfl]; rfl

open Cert.KernelIdeal

variable [hP : Cert.Pre_ninth_is_untied.Facts]

/-- The precondition, box by box. -/
theorem fine (m : (ℓ : Loc nD τ sig) → Buf (Elt Ideal) ℓ) (h : Cert.Pre_KernelIdeal_ninth_is_untied m) (c : Dev nD) (g : Fin 200) : Fine m c g := by
  have e := congrFun (h c) (ix1 g)
  rw [PreRead.fn_eq] at e
  obtain ⟨h1, h2, h3⟩ := PreRead.holds_spec _ _ _ _ g e
  exact ⟨h1, h2, h3⟩

/-- Equal arguments give the reference the scores and the mask that the kernel's side speaks of. -/
theorem same_inputs (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9)) :
    refW m' c = W m c ∧ refInside m' c = inside m c := by
  refine ⟨?_, h9⟩
  unfold refW
  rw [h0, h1, h2, h3, h4, h5, h6, h7, h8]
  rfl

/-- Both programs run to their ends from equal arguments, the arguments are kept and the results are equal. -/
theorem values : Cert.algebraic_KernelIdeal_ReferenceIdeal_pre_ninth_is_untied := by
  intro m g m' g' hpre hargs
  refine ⟨fun c => U₇ m c (Proc.devRef .tc main_v12_0), fun c => U₇ m c (Proc.devRef .tc main_v15), ?_, ?_⟩
  · exact (θ_run (Cert.KernelIdeal.defs (F := Ideal)) _ _).mono
      (fun r h c => ⟨h.1 c (Proc.devRef .tc main_v12_0) (by decide), h.1 c (Proc.devRef .tc main_v15) (by decide), args_of m r h c⟩) (run_main (F := Ideal) m g)
  · refine (θ_run Cert.ReferenceIdeal.defs _ _).mono (fun r h c => ?_)
      (Cert.ReferenceIdeal.Value.run (F := Ideal) m' g')
    obtain ⟨h0, h1, h2, h3, h4, h5, h6, h7, h8, h9⟩ := hargs c
    obtain ⟨eW, eI⟩ := same_inputs m m' c h0 h1 h2 h3 h4 h5 h6 h7 h8 h9
    have r0 : r.2.mem ((c.tc : Thread Cert.ReferenceIdeal.nD Cert.ReferenceIdeal.τ).loc Cert.ReferenceIdeal.main_v167)
        = masked (chosen (refW m' c) (refInside m' c)) (refW m' c) := (h c).1
    have r1 : r.2.mem ((c.tc : Thread Cert.ReferenceIdeal.nD Cert.ReferenceIdeal.τ).loc Cert.ReferenceIdeal.main_v166)
        = chosen (refW m' c) (refInside m' c) := (h c).2.1
    refine ⟨r0.trans ?_, r1.trans ?_, (h c).2.2⟩
    · rw [eW, eI]
      funext j
      rw [ValueIdx.eq_ix2 j]
      exact (masked_apply _ _ _ _).trans (weights_eq m c _ _ (fine m hpre c _)).symm
    · rw [eW, eI]
      funext j
      rw [ValueIdx.eq_ix2 j]
      exact (masks_eq m c _ _ (fine m hpre c _)).symm

end Cert.Proof.Values

end
-- ==== Proof.lean ====
/-
  The certificate of the center-prior kernel: the claims of Defs.lean, each proved in a module of proof/Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ninth_is_untied
public import proofs.«01_k».proof.Proof.Frames
public import proofs.«01_k».proof.Proof.Values

@[expose] public section

noncomputable section

namespace Cert.Proof

/-- All claims: the frames (those under the precondition do not need it), that the ideal program is the printed one,
    and that both results of the kernel are the reference's. -/
theorem claim : Cert.Claim := ⟨Cert.Kernel.Gen.facts, Cert.KernelIdeal.Gen.facts, Cert.ReferenceIdeal.Gen.facts, Cert.Pre_ninth_is_untied.Gen.facts,
  frame_kernel, frame_ideal, fun m ρ _ => frame_ideal m ρ trivial, frame_reference, fun m ρ _ => frame_reference m ρ trivial, trivial,
  Values.values (hP := Cert.Pre_ninth_is_untied.Gen.facts)⟩

end Cert.Proof

end
